-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  IdealRules.named_const.Statement Cert.Kernel4Ideal.κ "scale_log2e" .f32 0x3E0293EE#32 (((11863283 / 134217728) * (Real.log 2)⁻¹ : ℝ) : EReal)

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v20)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S8x8192x1024 : Shape := ⟨3, ![8, 8192, 1024]⟩
abbrev S8x256x1024 : Shape := ⟨3, ![8, 256, 1024]⟩
abbrev S64 : Shape := ⟨1, ![64]⟩
abbrev S128 : Shape := ⟨1, ![128]⟩
abbrev S_ : Shape := ⟨0, ![]⟩

class Facts : Prop where
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bcast_S_S8x256x1024 : S_.BroadcastsInDim S8x256x1024 (![] : Fin 0 → Fin S8x256x1024.rank)
  reducesTo_S8x256x1024_S_d0_1_2 : S8x256x1024.ReducesTo [0, 1, 2] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg7 : FVec F S64 .f32) (main_arg8 : FVec F S64 .f32) (main_arg9 : FVec F S64 .f32) (main_arg10 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg4 : FVec F S8x256x1024 .f32) (main_arg5 : FVec F S64 .f32) (main_arg6 : FVec F S64 .f32) (main_arg7 : FVec F S64 .f32) (main_arg8 : FVec F S64 .f32) (main_arg9 : FVec F S64 .f32) (main_arg10 : FVec F S64 .f32) (main_v13 : IVec S_ 1) (main_v16 : IVec S8x256x1024 1) : IVec S_ 1 :=
  let main_c_5 : IVec S_ 1 := constantI S_ 1 1#1
  let main_v17 : IVec S_ 1 := (fun x v => Host.reduce IntOp.andi x v reducesTo_S8x256x1024_S_d0_1_2 h_S_) main_v16 main_c_5
  let main_v18 : IVec S_ 1 := andi main_v13 main_v17
  let main_v19 : FVec F S8x256x1024 .f32 := Host.absf main_arg4
  let main_cst_6 : FVec F S_ .f32 := constant S_ .f32 0x7F800000#32
  let main_v20 : FVec F S8x256x1024 .f32 := broadcastInDim S8x256x1024 ![] bcast_S_S8x256x1024 main_cst_6
  let main_v21 : IVec S8x256x1024 1 := cmpf .olt main_v19 main_v20
  let main_c_7 : IVec S_ 1 := constantI S_ 1 1#1
  let main_v22 : IVec S_ 1 := (fun x v => Host.reduce IntOp.andi x v reducesTo_S8x256x1024_S_d0_1_2 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8x8192x1024 .f32) (main_arg1 : FVec F S8x8192x1024 .f32) (main_arg2 : FVec F S8x8192x1024 .f32) (main_arg3 : FVec F S8x256x1024 .f32) (main_arg4 : FVec F S8x256x1024 .f32) (main_arg5 : FVec F S64 .f32) (main_arg6 : FVec F S64 .f32) (main_arg7 : FVec F S64 .f32) (main_arg8 : FVec F S64 .f32) (main_arg9 : FVec F S64 .f32) (main_arg10 : FVec F S64 .f32) (main_arg11 : FVec F S128 .f32) : IVec S_ 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_c : IVec S_ 1 := constantI S_ 1 1#1
  let main_v3 : IVec S_ 1 := (fun x v => Host.reduce IntOp.andi x v reducesTo_S8x8192x1024_S_d0_1_2 h_S_) main_v2 main_c
  let main_v4 : FVec F S8x8192x1024 .f32 := Host.absf main_arg1
  let main_cst_0 : FVec F S_ .f32 := constant S_ .f32 0x7F800000#32
  let main_v5 : FVec F S8x8192x1024 .f32 := broadcastInDim S8x8192x1024 ![] bcast_S_S8x8192x1024 main_cst_0
  let main_v6 : IVec S8x8192x1024 1 := cmpf .olt main_v4 main_v5
  let main_c_1 : IVec S_ 1 := constantI S_ 1 1#1
  let main_v7 : IVec S_ 1 := (fun x v => Host.reduce IntOp.andi x v reducesTo_S8x8192x1024_S_d0_1_2 h_S_) main_v6 main_c_1
  let main_v8 : IVec S_ 1 := andi main_v3 main_v7
  let main_v9 : FVec F S8x8192x1024 .f32 := Host.absf main_arg2
  let main_cst_2 : FVec F S_ .f32 := constant S_ .f32 0x7F800000#32
  let main_v10 : FVec F S8x8192x1024 .f32 := broadcastInDim S8x8192x1024 ![] bcast_S_S8x8192x1024 main_cst_2
  let main_v11 : IVec S8x8192x1024 1 := cmpf .olt main_v9 main_v10
  let main_c_3 : IVec S_ 1 := constantI S_ 1 1#1
  let main_v12 : IVec S_ 1 := (fun x v => Host.reduce IntOp.andi x v reducesTo_S8x8192x1024_S_d0_1_2 h_S_) main_v11 main_c_3
  let main_v13 : IVec S_ 1 := andi main_v8 main_v12
  let main_v14 : FVec F S8x256x1024 .f32 := Host.absf main_arg3
  let main_cst_4 : FVec F S_ .f32 := constant S_ .f32 0x7F800000#32
  let main_v15 : FVec F S8x256x1024 .f32 := broadcastInDim S8x256x1024 ![] bcast_S_S8x256x1024 main_cst_4
  let main_v16 : IVec S8x256x1024 1 := cmpf .olt main_v14 main_v15
  fn_part1 (F := F) main_arg4 main_arg5 main_arg6 main_arg7 main_arg8 main_arg9 main_arg10 main_v13 main_v16
-- ==== Pre_finite4.lean ====
abbrev S8x8192x1024 : Shape := ⟨3, ![8, 8192, 1024]⟩
abbrev S8x8192x256 : Shape := ⟨3, ![8, 8192, 256]⟩
abbrev S8x256x256 : Shape := ⟨3, ![8, 256, 256]⟩
abbrev S128 : Shape := ⟨1, ![128]⟩
abbrev S_ : Shape := ⟨0, ![]⟩

class Facts : Prop where
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bcast_S_S8x8192x256 : S_.BroadcastsInDim S8x8192x256 (![] : Fin 0 → Fin S8x8192x256.rank)
  reducesTo_S8x8192x256_S_d0_1_2 : S8x8192x256.ReducesTo [0, 1, 2] S_
  bcast_S_S8x256x256 : S_.BroadcastsInDim S8x256x256 (![] : Fin 0 → Fin S8x256x256.rank)
  reducesTo_S8x256x256_S_d0_1_2 : S8x256x256.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S8x256x256 .f32) (main_arg5 : FVec F S128 .f32) (main_arg6 : FVec F S128 .f32) (main_v13 : IVec S_ 1) (main_v16 : IVec S8x256x256 1) : IVec S_ 1 :=
  let main_c_5 : IVec S_ 1 := constantI S_ 1 1#1
  let main_v17 : IVec S_ 1 := (fun x v => Host.reduce IntOp.andi x v reducesTo_S8x256x256_S_d0_1_2 h_S_) main_v16 main_c_5
  let main_v18 : IVec S_ 1 := andi main_v13 main_v17
  let main_v19 : FVec F S8x256x256 .f32 := Host.absf main_arg4
  let main_cst_6 : FVec F S_ .f32 := constant S_ .f32 0x7F800000#32
  let main_v20 : FVec F S8x256x256 .f32 := broadcastInDim S8x256x256 ![] bcast_S_S8x256x256 main_cst_6
  let main_v21 : IVec S8x256x256 1 := cmpf .olt main_v19 main_v20
  let main_c_7 : IVec S_ 1 := constantI S_ 1 1#1
  let main_v22 : IVec S_ 1 := (fun x v => Host.reduce IntOp.andi x v reducesTo_S8x256x256_S_d0_1_2 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S8x8192x1024 .f32) (main_arg1 : FVec F S8x8192x256 .f32) (main_arg2 : FVec F S8x8192x256 .f32) (main_arg3 : FVec F S8x256x256 .f32) (main_arg4 : FVec F S8x256x256 .f32) (main_arg5 : FVec F S128 .f32) (main_arg6 : FVec F S128 .f32) : IVec S_ 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_c : IVec S_ 1 := constantI S_ 1 1#1
  let main_v3 : IVec S_ 1 := (fun x v => Host.reduce IntOp.andi x v reducesTo_S8x8192x1024_S_d0_1_2 h_S_) main_v2 main_c
  let main_v4 : FVec F S8x8192x256 .f32 := Host.absf main_arg1
  let main_cst_0 : FVec F S_ .f32 := constant S_ .f32 0x7F800000#32
  let main_v5 : FVec F S8x8192x256 .f32 := broadcastInDim S8x8192x256 ![] bcast_S_S8x8192x256 main_cst_0
  let main_v6 : IVec S8x8192x256 1 := cmpf .olt main_v4 main_v5
  let main_c_1 : IVec S_ 1 := constantI S_ 1 1#1
  let main_v7 : IVec S_ 1 := (fun x v => Host.reduce IntOp.andi x v reducesTo_S8x8192x256_S_d0_1_2 h_S_) main_v6 main_c_1
  let main_v8 : IVec S_ 1 := andi main_v3 main_v7
  let main_v9 : FVec F S8x8192x256 .f32 := Host.absf main_arg2
  let main_cst_2 : FVec F S_ .f32 := constant S_ .f32 0x7F800000#32
  let main_v10 : FVec F S8x8192x256 .f32 := broadcastInDim S8x8192x256 ![] bcast_S_S8x8192x256 main_cst_2
  let main_v11 : IVec S8x8192x256 1 := cmpf .olt main_v9 main_v10
  let main_c_3 : IVec S_ 1 := constantI S_ 1 1#1
  let main_v12 : IVec S_ 1 := (fun x v => Host.reduce IntOp.andi x v reducesTo_S8x8192x256_S_d0_1_2 h_S_) main_v11 main_c_3
  let main_v13 : IVec S_ 1 := andi main_v8 main_v12
  let main_v14 : FVec F S8x256x256 .f32 := Host.absf main_arg3
  let main_cst_4 : FVec F S_ .f32 := constant S_ .f32 0x7F800000#32
  let main_v15 : FVec F S8x256x256 .f32 := broadcastInDim S8x256x256 ![] bcast_S_S8x256x256 main_cst_4
  let main_v16 : IVec S8x256x256 1 := cmpf .olt main_v14 main_v15
  fn_part1 (F := F) main_arg4 main_arg5 main_arg6 main_v13 main_v16
-- ==== Kernel.lean ====
abbrev S8x8192x1024 : Shape := ⟨3, ![8, 8192, 1024]⟩
abbrev S8x256x1024 : Shape := ⟨3, ![8, 256, 1024]⟩
abbrev S64 : Shape := ⟨1, ![64]⟩
abbrev S128 : Shape := ⟨1, ![128]⟩
abbrev S1x64 : Shape := ⟨2, ![1, 64]⟩
abbrev S2x64 : Shape := ⟨2, ![2, 64]⟩
abbrev S1x128 : Shape := ⟨2, ![1, 128]⟩
abbrev S_ : Shape := ⟨0, ![]⟩
abbrev S4x64 : Shape := ⟨2, ![4, 64]⟩
abbrev S8x8448x1024 : Shape := ⟨3, ![8, 8448, 1024]⟩
abbrev S1x1024x128 : Shape := ⟨3, ![1, 1024, 128]⟩
abbrev S1x8448x128 : Shape := ⟨3, ![1, 8448, 128]⟩
abbrev S2048x1 : Shape := ⟨2, ![2048, 1]⟩
abbrev S2048x128 : Shape := ⟨2, ![2048, 128]⟩
abbrev S2048x8448 : Shape := ⟨2, ![2048, 8448]⟩
abbrev S1 : Shape := ⟨1, ![1]⟩
abbrev S1x1 : Shape := ⟨2, ![1, 1]⟩
abbrev S1024x128 : Shape := ⟨2, ![1024, 128]⟩
abbrev S1x768x128 : Shape := ⟨3, ![1, 768, 128]⟩
abbrev S768x128 : Shape := ⟨2, ![768, 128]⟩
abbrev S2048x768 : Shape := ⟨2, ![2048, 768]⟩
abbrev S2048 : Shape := ⟨1, ![2048]⟩
abbrev S1x2048x1 : Shape := ⟨3, ![1, 2048, 1]⟩
abbrev S1x1x1 : Shape := ⟨3, ![1, 1, 1]⟩
abbrev S1024x1 : Shape := ⟨2, ![1024, 1]⟩
abbrev S1024x768 : Shape := ⟨2, ![1024, 768]⟩
abbrev S1024 : Shape := ⟨1, ![1024]⟩

abbrev nBuf : Space → Nat
  | .hbm => 47
  | .vmem => 16
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S8x8192x1024, .f32⟩
  | .hbm, ⟨3, _⟩ => ⟨S8x256x1024, .f32⟩
  | .hbm, ⟨4, _⟩ => ⟨S8x256x1024, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S128, .f32⟩
  | .hbm, ⟨12, _⟩ => ⟨S1x64, .f32⟩
  | .hbm, ⟨13, _⟩ => ⟨S2x64, .f32⟩
  | .hbm, ⟨14, _⟩ => ⟨S128, .f32⟩
  | .hbm, ⟨15, _⟩ => ⟨S1x128, .f32⟩
  | .hbm, ⟨16, _⟩ => ⟨S_, .f32⟩
  | .hbm, ⟨17, _⟩ => ⟨S1x128, .f32⟩
  | .hbm, ⟨18, _⟩ => ⟨S1x128, .f32⟩
  | .hbm, ⟨19, _⟩ => ⟨S1x64, .f32⟩
  | .hbm, ⟨20, _⟩ => ⟨S2x64, .f32⟩
  | .hbm, ⟨21, _⟩ => ⟨S128, .f32⟩
  | .hbm, ⟨22, _⟩ => ⟨S1x128, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S4x64, .f32⟩
  | .hbm, ⟨28, _⟩ => ⟨S1x128, .f32⟩
  | .hbm, ⟨29, _⟩ => ⟨S_, .f32⟩
  | .hbm, ⟨30, _⟩ => ⟨S1x128, .f32⟩
  | .hbm, ⟨31, _⟩ => ⟨S1x128, .f32⟩
  | .hbm, ⟨32, _⟩ => ⟨S_, .f32⟩
  | .hbm, ⟨33, _⟩ => ⟨S_, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S_, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S8x8192x1024, .bf16⟩
  | .hbm, ⟨42, _⟩ => ⟨S8x8448x1024, .f32⟩
  | .hbm, ⟨43, _⟩ => ⟨S8x8448x1024, .bf16⟩
  | .hbm, ⟨44, _⟩ => ⟨S8x8448x1024, .f32⟩
  | .hbm, ⟨45, _⟩ => ⟨S8x8448x1024, .bf16⟩
  | .hbm, ⟨46, _⟩ => ⟨S8x8192x1024, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x128, .f32⟩
  | .local _ .vmem, ⟨7, _⟩ => ⟨S4x64, .f32⟩
  | .local _ .vmem, ⟨8, _⟩ => ⟨S1x128, .f32⟩
  | .local _ .vmem, ⟨9, _⟩ => ⟨S1x1024x128, .bf16⟩
  | .local _ .vmem, ⟨10, _⟩ => ⟨S1x1024x128, .bf16⟩
  | .local _ .vmem, ⟨11, _⟩ => ⟨S2048x1, .f32⟩
  | .local _ .vmem, ⟨12, _⟩ => ⟨S2048x1, .f32⟩
  | .local _ .vmem, ⟨13, _⟩ => ⟨S2048x128, .f32⟩
  | .local _ .vmem, ⟨14, _⟩ => ⟨S2048x128, .f32⟩
  | .local _ .vmem, ⟨15, _⟩ => ⟨S2048x8448, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 8, 8], ![false, false, false]⟩

def k0_mult1 : BitVec 32 :=
  let c0_i32 : BitVec 32 := 0#32
  let c1024_i32 : BitVec 32 := 1024#32
  let v26 : BitVec 32 := Scalar.muli c0_i32 c1024_i32
  v26
def k0_off1 : Fin 3 → Nat :=
  let c0_7 : Index := 0#32
  let c0_i32 : BitVec 32 := 0#32
  let c1024_i32 : BitVec 32 := 1024#32
  let v26 : BitVec 32 := Scalar.muli c0_i32 c1024_i32
  let v27 : BitVec 32 := v26
  let v28 : Index := Scalar.indexCast v27
  let c0_8 : Index := 0#32
  ![0, v28.toNat, 0]
def k0_off2 : Fin 3 → Nat :=
  let c0_375 : Index := 0#32
  let c0_i32 : BitVec 32 := 0#32
  let c1024_i32 : BitVec 32 := 1024#32
  let v26 : BitVec 32 := Scalar.muli c0_i32 c1024_i32
  let v27 : BitVec 32 := v26
  let v915 : Index := Scalar.indexCast v27
  let c0_376 : Index := 0#32
  ![0, v915.toNat, 0]
@[reducible] def k0_t1_loop : Scf.Loop 32 :=
  let c0_i32_125 : BitVec 32 := 0#32
  let c11_i32 : BitVec 32 := 11#32
  let v582 : BitVec 32 := Scalar.addi c0_i32_125 c11_i32
  let c1_i32_126 : BitVec 32 := 1#32
  ⟨c0_i32_125, v582, c1_i32_126⟩
def k0_mult2 (k0_t1 : Fin k0_t1_loop.trips) : BitVec 32 :=
  let c0_i32_125 : BitVec 32 := 0#32
  let c1_i32_126 : BitVec 32 := 1#32
  let arg15 : BitVec 32 := Scf.iv c0_i32_125 c1_i32_126 k0_t1
  let c768_i32 : BitVec 32 := 768#32
  let v613 : BitVec 32 := Scalar.muli arg15 c768_i32
  v613
def k0_off3 (k0_t1 : Fin k0_t1_loop.trips) : Fin 3 → Nat :=
  let c0_140 : Index := 0#32
  let c0_i32_125 : BitVec 32 := 0#32
  let c1_i32_126 : BitVec 32 := 1#32
  let arg15 : BitVec 32 := Scf.iv c0_i32_125 c1_i32_126 k0_t1
  let c768_i32 : BitVec 32 := 768#32
  let v613 : BitVec 32 := Scalar.muli arg15 c768_i32
  let v614 : BitVec 32 := v613
  let v615 : Index := Scalar.indexCast v614
  let c0_141 : Index := 0#32
  ![0, v615.toNat, 0]
def k0_off4 : Fin 3 → Nat :=
  let c0_138 : Index := 0#32
  let c0_i32 : BitVec 32 := 0#32
  let c1024_i32 : BitVec 32 := 1024#32
  let v26 : BitVec 32 := Scalar.muli c0_i32 c1024_i32
  let v27 : BitVec 32 := v26
  let v609 : Index := Scalar.indexCast v27
  let c0_139 : Index := 0#32
  ![0, v609.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "scale_log2e" => some (((1 / 8) * (Real.log 2)⁻¹ : ℝ) : EReal)
  | _ => none
-- ==== ReferenceIdeal.lean ====
abbrev S8x8192x1024 : Shape := ⟨3, ![8, 8192, 1024]⟩
abbrev S8x256x1024 : Shape := ⟨3, ![8, 256, 1024]⟩
abbrev S64 : Shape := ⟨1, ![64]⟩
abbrev S128 : Shape := ⟨1, ![128]⟩
abbrev S8x8192x16x64 : Shape := ⟨4, ![8, 8192, 16, 64]⟩
abbrev S8x16x8192x64 : Shape := ⟨4, ![8, 16, 8192, 64]⟩
abbrev S8x256x16x64 : Shape := ⟨4, ![8, 256, 16, 64]⟩
abbrev S8x16x256x64 : Shape := ⟨4, ![8, 16, 256, 64]⟩
abbrev S8x8192x8x128 : Shape := ⟨4, ![8, 8192, 8, 128]⟩
abbrev S8x8x8192x128 : Shape := ⟨4, ![8, 8, 8192, 128]⟩
abbrev S8x256x8x128 : Shape := ⟨4, ![8, 256, 8, 128]⟩
abbrev S8x8x256x128 : Shape := ⟨4, ![8, 8, 256, 128]⟩
abbrev S_ : Shape := ⟨0, ![]⟩
abbrev S8x16x8448x64 : Shape := ⟨4, ![8, 16, 8448, 64]⟩
abbrev S8x8x2x8448x64 : Shape := ⟨5, ![8, 8, 2, 8448, 64]⟩
abbrev S8x8x8448x128 : Shape := ⟨4, ![8, 8, 8448, 128]⟩
abbrev S8x8x2x8192x64 : Shape := ⟨5, ![8, 8, 2, 8192, 64]⟩
abbrev S8x8x2x8192x8448 : Shape := ⟨5, ![8, 8, 2, 8192, 8448]⟩
abbrev S8x8x2x8192 : Shape := ⟨4, ![8, 8, 2, 8192]⟩
abbrev S8x8x2x8192x1 : Shape := ⟨5, ![8, 8, 2, 8192, 1]⟩
abbrev S8x8x1x8192x8448 : Shape := ⟨5, ![8, 8, 1, 8192, 8448]⟩
abbrev S8x8x8192x8448 : Shape := ⟨4, ![8, 8, 8192, 8448]⟩
abbrev S8x8x8192 : Shape := ⟨3, ![8, 8, 8192]⟩
abbrev S8x8x8192x1 : Shape := ⟨4, ![8, 8, 8192, 1]⟩
abbrev S1x1x1x128 : Shape := ⟨4, ![1, 1, 1, 128]⟩

abbrev nBuf : Space → Nat
  | .hbm => 85
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S8x8192x1024, .f32⟩
  | .hbm, ⟨3, _⟩ => ⟨S8x256x1024, .f32⟩
  | .hbm, ⟨4, _⟩ => ⟨S8x256x1024, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S128, .f32⟩
  | .hbm, ⟨12, _⟩ => ⟨S8x8192x16x64, .f32⟩
  | .hbm, ⟨13, _⟩ => ⟨S8x16x8192x64, .f32⟩
  | .hbm, ⟨14, _⟩ => ⟨S8x8192x16x64, .f32⟩
  | .hbm, ⟨15, _⟩ => ⟨S8x16x8192x64, .f32⟩
  | .hbm, ⟨16, _⟩ => ⟨S8x256x16x64, .f32⟩
  | .hbm, ⟨17, _⟩ => ⟨S8x16x256x64, .f32⟩
  | .hbm, ⟨18, _⟩ => ⟨S8x8192x8x128, .f32⟩
  | .hbm, ⟨19, _⟩ => ⟨S8x8x8192x128, .f32⟩
  | .hbm, ⟨20, _⟩ => ⟨S8x256x8x128, .f32⟩
  | .hbm, ⟨21, _⟩ => ⟨S8x8x256x128, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8x16x8448x64, .f32⟩
  | .hbm, ⟨34, _⟩ => ⟨S8x8x2x8448x64, .f32⟩
  | .hbm, ⟨35, _⟩ => ⟨S8x8x8448x128, .f32⟩
  | .hbm, ⟨36, _⟩ => ⟨S8x8x2x8192x64, .f32⟩
  | .hbm, ⟨37, _⟩ => ⟨S8x8x2x8192x8448, .f32⟩
  | .hbm, ⟨38, _⟩ => ⟨S_, .f32⟩
  | .hbm, ⟨39, _⟩ => ⟨S8x8x2x8192x8448, .f32⟩
  | .hbm, ⟨40, _⟩ => ⟨S8x8x2x8192x8448, .f32⟩
  | .hbm, ⟨41, _⟩ => ⟨S_, .f32⟩
  | .hbm, ⟨42, _⟩ => ⟨S8x8x2x8192, .f32⟩
  | .hbm, ⟨43, _⟩ => ⟨S_, .f32⟩
  | .hbm, ⟨44, _⟩ => ⟨S8x8x2x8192, .f32⟩
  | .hbm, ⟨45, _⟩ => ⟨S8x8x2x8192, .f32⟩
  | .hbm, ⟨46, _⟩ => ⟨S8x8x2x8192x1, .f32⟩
  | .hbm, ⟨47, _⟩ => ⟨S8x8x2x8192x8448, .f32⟩
  | .hbm, ⟨48, _⟩ => ⟨S8x8x2x8192x8448, .f32⟩
  | .hbm, ⟨49, _⟩ => ⟨S8x8x2x8192x8448, .f32⟩
  | .hbm, ⟨50, _⟩ => ⟨S_, .f32⟩
  | .hbm, ⟨51, _⟩ => ⟨S8x8x2x8192, .f32⟩
  | .hbm, ⟨52, _⟩ => ⟨S8x8x2x8192x1, .f32⟩
  | .hbm, ⟨53, _⟩ => ⟨S8x8x2x8192x8448, .f32⟩
  | .hbm, ⟨54, _⟩ => ⟨S8x8x2x8192x8448, .f32⟩
  | .hbm, ⟨55, _⟩ => ⟨S8x8x1x8192x8448, .f32⟩
  | .hbm, ⟨56, _⟩ => ⟨S8x8x8192x8448, .f32⟩
  | .hbm, ⟨57, _⟩ => ⟨S8x8x1x8192x8448, .f32⟩
  | .hbm, ⟨58, _⟩ => ⟨S8x8x8192x8448, .f32⟩
  | .hbm, ⟨59, _⟩ => ⟨S8x8x8192x8448, .f32⟩
  | .hbm, ⟨60, _⟩ => ⟨S8x8x8192x8448, .f32⟩
  | .hbm, ⟨61, _⟩ => ⟨S8x8x8192x8448, .f32⟩
  | .hbm, ⟨62, _⟩ => ⟨S8x8x8192x128, .f32⟩
  | .hbm, ⟨63, _⟩ => ⟨S8x8x8192x128, .f32⟩
  | .hbm, ⟨64, _⟩ => ⟨S_, .f32⟩
  | .hbm, ⟨65, _⟩ => ⟨S8x8x8192, .f32⟩
  | .hbm, ⟨66, _⟩ => ⟨S8x8x8192x1, .f32⟩
  | .hbm, ⟨67, _⟩ => ⟨S_, .f32⟩
  | .hbm, ⟨68, _⟩ => ⟨S8x8x8192x1, .f32⟩
  | .hbm, ⟨69, _⟩ => ⟨S8x8x8192x1, .f32⟩
  | .hbm, ⟨70, _⟩ => ⟨S_, .f32⟩
  | .hbm, ⟨71, _⟩ => ⟨S8x8x8192x1, .f32⟩
  | .hbm, ⟨72, _⟩ => ⟨S8x8x8192x1, .f32⟩
  | .hbm, ⟨73, _⟩ => ⟨S8x8x8192x1, .f32⟩
  | .hbm, ⟨74, _⟩ => ⟨S8x8x8192x128, .f32⟩
  | .hbm, ⟨75, _⟩ => ⟨S8x8x8192x128, .f32⟩
  | .hbm, ⟨76, _⟩ => ⟨S1x1x1x128, .f32⟩
  | .hbm, ⟨77, _⟩ => ⟨S8x8x8192x128, .f32⟩
  | .hbm, ⟨78, _⟩ => ⟨S8x8x8192x128, .f32⟩
  | .hbm, ⟨79, _⟩ => ⟨S_, .f32⟩
  | .hbm, ⟨80, _⟩ => ⟨S8x8x8192x128, .f32⟩
  | .hbm, ⟨81, _⟩ => ⟨S8x8x8192x128, .f32⟩
  | .hbm, ⟨82, _⟩ => ⟨S8x8192x8x128, .f32⟩
  | .hbm, ⟨83, _⟩ => ⟨S8x8192x1024, .f32⟩
  | .hbm, ⟨84, _⟩ => ⟨S8x8192x1024, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_v48 : Ref sig .tc := ⟨.hbm, 69, rfl⟩
abbrev main_cst_8 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== Kernel2.lean ====
abbrev S8x8192x1024 : Shape := ⟨3, ![8, 8192, 1024]⟩
abbrev S8x6144 : Shape := ⟨2, ![8, 6144]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S8x1x6144 : Shape := ⟨3, ![8, 1, 6144]⟩
abbrev S65536x1024 : Shape := ⟨2, ![65536, 1024]⟩
abbrev S1x1024 : Shape := ⟨2, ![1, 1024]⟩
abbrev S1x1x6144 : Shape := ⟨3, ![1, 1, 6144]⟩
abbrev S1x6144 : Shape := ⟨2, ![1, 6144]⟩
abbrev S1024x1 : Shape := ⟨2, ![1024, 1]⟩
abbrev S1024x256 : Shape := ⟨2, ![1024, 256]⟩
abbrev S1024x2816 : Shape := ⟨2, ![1024, 2816]⟩

abbrev nBuf : Space → Nat
  | .hbm => 16
  | .vmem => 12
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S8x6144, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S8x1x6144, .f32⟩
  | .hbm, ⟨8, _⟩ => ⟨S65536x1024, .f32⟩
  | .hbm, ⟨9, _⟩ => ⟨S8x8192x1024, .bf16⟩
  | .hbm, ⟨10, _⟩ => ⟨S65536x1024, .bf16⟩
  | .hbm, ⟨11, _⟩ => ⟨S1024x1024, .bf16⟩
  | .hbm, ⟨12, _⟩ => ⟨S1x1024, .f32⟩
  | .hbm, ⟨13, _⟩ => ⟨S1024x5632, .bf16⟩
  | .hbm, ⟨14, _⟩ => ⟨S2816x1024, .bf16⟩
  | .hbm, ⟨15, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1x6144, .f32⟩
  | .local _ .vmem, ⟨5, _⟩ => ⟨S1x1x6144, .f32⟩
  | .local _ .vmem, ⟨6, _⟩ => ⟨S1024x1024, .bf16⟩
  | .local _ .vmem, ⟨7, _⟩ => ⟨S1x1024, .f32⟩
  | .local _ .vmem, ⟨8, _⟩ => ⟨S1024x5632, .bf16⟩
  | .local _ .vmem, ⟨9, _⟩ => ⟨S2816x1024, .bf16⟩
  | .local _ .vmem, ⟨10, _⟩ => ⟨S1024x1024, .f32⟩
  | .local _ .vmem, ⟨11, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8x8192x1024 : Shape := ⟨3, ![8, 8192, 1024]⟩
abbrev S8x6144 : Shape := ⟨2, ![8, 6144]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S8x1x6144 : Shape := ⟨3, ![8, 1, 6144]⟩
abbrev S8x1x1024 : Shape := ⟨3, ![8, 1, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5632 : Shape := ⟨3, ![8, 8192, 5632]⟩
abbrev S8x8192x2816 : Shape := ⟨3, ![8, 8192, 2816]⟩
abbrev S65536x1024 : Shape := ⟨2, ![65536, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S8x6144, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S8x1x6144, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x8192x1024, .f32⟩
  | .hbm, ⟨15, _⟩ => ⟨S8x8192x1024, .f32⟩
  | .hbm, ⟨16, _⟩ => ⟨S8x8192x1024, .f32⟩
  | .hbm, ⟨17, _⟩ => ⟨S8x8192x1024, .f32⟩
  | .hbm, ⟨18, _⟩ => ⟨S8x8192x1024, .f32⟩
  | .hbm, ⟨19, _⟩ => ⟨S_, .f32⟩
  | .hbm, ⟨20, _⟩ => ⟨S8x8192, .f32⟩
  | .hbm, ⟨21, _⟩ => ⟨S8x8192x1, .f32⟩
  | .hbm, ⟨22, _⟩ => ⟨S_, .f32⟩
  | .hbm, ⟨23, _⟩ => ⟨S8x8192x1, .f32⟩
  | .hbm, ⟨24, _⟩ => ⟨S8x8192x1, .f32⟩
  | .hbm, ⟨25, _⟩ => ⟨S_, .f32⟩
  | .hbm, ⟨26, _⟩ => ⟨S8x8192x1, .f32⟩
  | .hbm, ⟨27, _⟩ => ⟨S8x8192x1, .f32⟩
  | .hbm, ⟨28, _⟩ => ⟨S8x8192x1, .f32⟩
  | .hbm, ⟨29, _⟩ => ⟨S8x8192x1024, .f32⟩
  | .hbm, ⟨30, _⟩ => ⟨S8x8192x1024, .f32⟩
  | .hbm, ⟨31, _⟩ => ⟨S1x1x1024, .f32⟩
  | .hbm, ⟨32, _⟩ => ⟨S8x8192x1024, .f32⟩
  | .hbm, ⟨33, _⟩ => ⟨S8x8192x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x8192x1024, .f32⟩
  | .hbm, ⟨38, _⟩ => ⟨S8x8192x1024, .f32⟩
  | .hbm, ⟨39, _⟩ => ⟨S8x8192x1024, .f32⟩
  | .hbm, ⟨40, _⟩ => ⟨S8x8192x1024, .f32⟩
  | .hbm, ⟨41, _⟩ => ⟨S8x8192x5632, .f32⟩
  | .hbm, ⟨42, _⟩ => ⟨S8x8192x2816, .f32⟩
  | .hbm, ⟨43, _⟩ => ⟨S8x8192x2816, .f32⟩
  | .hbm, ⟨44, _⟩ => ⟨S8x8192x2816, .f32⟩
  | .hbm, ⟨45, _⟩ => ⟨S8x8192x2816, .f32⟩
  | .hbm, ⟨46, _⟩ => ⟨S_, .f32⟩
  | .hbm, ⟨47, _⟩ => ⟨S8x8192x2816, .f32⟩
  | .hbm, ⟨48, _⟩ => ⟨S8x8192x2816, .f32⟩
  | .hbm, ⟨49, _⟩ => ⟨S_, .f32⟩
  | .hbm, ⟨50, _⟩ => ⟨S8x8192x2816, .f32⟩
  | .hbm, ⟨51, _⟩ => ⟨S8x8192x2816, .f32⟩
  | .hbm, ⟨52, _⟩ => ⟨S8x8192x2816, .f32⟩
  | .hbm, ⟨53, _⟩ => ⟨S8x8192x2816, .f32⟩
  | .hbm, ⟨54, _⟩ => ⟨S8x8192x1024, .f32⟩
  | .hbm, ⟨55, _⟩ => ⟨S8x8192x1024, .f32⟩
  | .hbm, ⟨56, _⟩ => ⟨S8x8192x1024, .f32⟩
  | .hbm, ⟨57, _⟩ => ⟨S8x8192x1024, .f32⟩
  | .hbm, ⟨58, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]
-- ==== Kernel3.lean ====
abbrev S8x8192x1024 : Shape := ⟨3, ![8, 8192, 1024]⟩
abbrev S8x6144 : Shape := ⟨2, ![8, 6144]⟩
abbrev S256 : Shape := ⟨1, ![256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S8x1x6144 : Shape := ⟨3, ![8, 1, 6144]⟩
abbrev S1x256 : Shape := ⟨2, ![1, 256]⟩
abbrev S65536x1024 : Shape := ⟨2, ![65536, 1024]⟩
abbrev S1x1024 : Shape := ⟨2, ![1, 1024]⟩
abbrev S1x1x6144 : Shape := ⟨3, ![1, 1, 6144]⟩
abbrev S1024x256 : Shape := ⟨2, ![1024, 256]⟩
abbrev S1024x1 : Shape := ⟨2, ![1024, 1]⟩
abbrev S1x6144 : Shape := ⟨2, ![1, 6144]⟩
abbrev S1024x2816 : Shape := ⟨2, ![1024, 2816]⟩

abbrev nBuf : Space → Nat
  | .hbm => 24
  | .vmem => 17
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S8x8192x1024, .f32⟩
  | .hbm, ⟨3, _⟩ => ⟨S8x8192x1024, .f32⟩
  | .hbm, ⟨4, _⟩ => ⟨S8x6144, .f32⟩
  | .hbm, ⟨5, _⟩ => ⟨S256, .f32⟩
  | .hbm, ⟨6, _⟩ => ⟨S1024x1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S8x1x6144, .f32⟩
  | .hbm, ⟨11, _⟩ => ⟨S1x256, .f32⟩
  | .hbm, ⟨12, _⟩ => ⟨S8x8192x1024, .bf16⟩
  | .hbm, ⟨13, _⟩ => ⟨S65536x1024, .bf16⟩
  | .hbm, ⟨14, _⟩ => ⟨S8x8192x1024, .bf16⟩
  | .hbm, ⟨15, _⟩ => ⟨S65536x1024, .bf16⟩
  | .hbm, ⟨16, _⟩ => ⟨S8x8192x1024, .bf16⟩
  | .hbm, ⟨17, _⟩ => ⟨S65536x1024, .bf16⟩
  | .hbm, ⟨18, _⟩ => ⟨S65536x1024, .f32⟩
  | .hbm, ⟨19, _⟩ => ⟨S1024x1024, .bf16⟩
  | .hbm, ⟨20, _⟩ => ⟨S1x1024, .f32⟩
  | .hbm, ⟨21, _⟩ => ⟨S1024x5632, .bf16⟩
  | .hbm, ⟨22, _⟩ => ⟨S2816x1024, .bf16⟩
  | .hbm, ⟨23, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x256, .f32⟩
  | .local _ .vmem, ⟨9, _⟩ => ⟨S1x1x6144, .f32⟩
  | .local _ .vmem, ⟨10, _⟩ => ⟨S1x1x6144, .f32⟩
  | .local _ .vmem, ⟨11, _⟩ => ⟨S1024x1024, .bf16⟩
  | .local _ .vmem, ⟨12, _⟩ => ⟨S1x1024, .f32⟩
  | .local _ .vmem, ⟨13, _⟩ => ⟨S1024x5632, .bf16⟩
  | .local _ .vmem, ⟨14, _⟩ => ⟨S2816x1024, .bf16⟩
  | .local _ .vmem, ⟨15, _⟩ => ⟨S1024x1024, .f32⟩
  | .local _ .vmem, ⟨16, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S8x8192x1024 : Shape := ⟨3, ![8, 8192, 1024]⟩
abbrev S8x6144 : Shape := ⟨2, ![8, 6144]⟩
abbrev S256 : Shape := ⟨1, ![256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S8x1x6144 : Shape := ⟨3, ![8, 1, 6144]⟩
abbrev S8x1x1024 : Shape := ⟨3, ![8, 1, 1024]⟩
abbrev S8x8192x4x256 : Shape := ⟨4, ![8, 8192, 4, 256]⟩
abbrev S_ : Shape := ⟨0, ![]⟩
abbrev S8x8192x4 : Shape := ⟨3, ![8, 8192, 4]⟩
abbrev S8x8192x4x1 : Shape := ⟨4, ![8, 8192, 4, 1]⟩
abbrev S1x1x1x256 : Shape := ⟨4, ![1, 1, 1, 256]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5632 : Shape := ⟨3, ![8, 8192, 5632]⟩
abbrev S8x8192x2816 : Shape := ⟨3, ![8, 8192, 2816]⟩
abbrev S65536x1024 : Shape := ⟨2, ![65536, 1024]⟩

abbrev nBuf : Space → Nat
  | .hbm => 91
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S8x8192x1024, .f32⟩
  | .hbm, ⟨3, _⟩ => ⟨S8x8192x1024, .f32⟩
  | .hbm, ⟨4, _⟩ => ⟨S8x6144, .f32⟩
  | .hbm, ⟨5, _⟩ => ⟨S256, .f32⟩
  | .hbm, ⟨6, _⟩ => ⟨S1024x1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S8x1x6144, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x8192x1024, .f32⟩
  | .hbm, ⟨18, _⟩ => ⟨S8x8192x4x256, .f32⟩
  | .hbm, ⟨19, _⟩ => ⟨S8x8192x4x256, .f32⟩
  | .hbm, ⟨20, _⟩ => ⟨S_, .f32⟩
  | .hbm, ⟨21, _⟩ => ⟨S8x8192x4, .f32⟩
  | .hbm, ⟨22, _⟩ => ⟨S8x8192x4x1, .f32⟩
  | .hbm, ⟨23, _⟩ => ⟨S_, .f32⟩
  | .hbm, ⟨24, _⟩ => ⟨S8x8192x4x1, .f32⟩
  | .hbm, ⟨25, _⟩ => ⟨S8x8192x4x1, .f32⟩
  | .hbm, ⟨26, _⟩ => ⟨S_, .f32⟩
  | .hbm, ⟨27, _⟩ => ⟨S8x8192x4x1, .f32⟩
  | .hbm, ⟨28, _⟩ => ⟨S8x8192x4x1, .f32⟩
  | .hbm, ⟨29, _⟩ => ⟨S8x8192x4x1, .f32⟩
  | .hbm, ⟨30, _⟩ => ⟨S8x8192x4x256, .f32⟩
  | .hbm, ⟨31, _⟩ => ⟨S8x8192x4x256, .f32⟩
  | .hbm, ⟨32, _⟩ => ⟨S1x1x1x256, .f32⟩
  | .hbm, ⟨33, _⟩ => ⟨S8x8192x4x256, .f32⟩
  | .hbm, ⟨34, _⟩ => ⟨S8x8192x4x256, .f32⟩
  | .hbm, ⟨35, _⟩ => ⟨S8x8192x1024, .f32⟩
  | .hbm, ⟨36, _⟩ => ⟨S8x8192x1024, .f32⟩
  | .hbm, ⟨37, _⟩ => ⟨S8x8192x1024, .f32⟩
  | .hbm, ⟨38, _⟩ => ⟨S_, .f32⟩
  | .hbm, ⟨39, _⟩ => ⟨S8x8192x1024, .f32⟩
  | .hbm, ⟨40, _⟩ => ⟨S8x8192x1024, .f32⟩
  | .hbm, ⟨41, _⟩ => ⟨S_, .f32⟩
  | .hbm, ⟨42, _⟩ => ⟨S8x8192x1024, .f32⟩
  | .hbm, ⟨43, _⟩ => ⟨S8x8192x1024, .f32⟩
  | .hbm, ⟨44, _⟩ => ⟨S8x8192x1024, .f32⟩
  | .hbm, ⟨45, _⟩ => ⟨S8x8192x1024, .f32⟩
  | .hbm, ⟨46, _⟩ => ⟨S8x8192x1024, .f32⟩
  | .hbm, ⟨47, _⟩ => ⟨S8x8192x1024, .f32⟩
  | .hbm, ⟨48, _⟩ => ⟨S8x8192x1024, .f32⟩
  | .hbm, ⟨49, _⟩ => ⟨S8x8192x1024, .f32⟩
  | .hbm, ⟨50, _⟩ => ⟨S8x8192x1024, .f32⟩
  | .hbm, ⟨51, _⟩ => ⟨S_, .f32⟩
  | .hbm, ⟨52, _⟩ => ⟨S8x8192, .f32⟩
  | .hbm, ⟨53, _⟩ => ⟨S8x8192x1, .f32⟩
  | .hbm, ⟨54, _⟩ => ⟨S_, .f32⟩
  | .hbm, ⟨55, _⟩ => ⟨S8x8192x1, .f32⟩
  | .hbm, ⟨56, _⟩ => ⟨S8x8192x1, .f32⟩
  | .hbm, ⟨57, _⟩ => ⟨S_, .f32⟩
  | .hbm, ⟨58, _⟩ => ⟨S8x8192x1, .f32⟩
  | .hbm, ⟨59, _⟩ => ⟨S8x8192x1, .f32⟩
  | .hbm, ⟨60, _⟩ => ⟨S8x8192x1, .f32⟩
  | .hbm, ⟨61, _⟩ => ⟨S8x8192x1024, .f32⟩
  | .hbm, ⟨62, _⟩ => ⟨S8x8192x1024, .f32⟩
  | .hbm, ⟨63, _⟩ => ⟨S1x1x1024, .f32⟩
  | .hbm, ⟨64, _⟩ => ⟨S8x8192x1024, .f32⟩
  | .hbm, ⟨65, _⟩ => ⟨S8x8192x1024, .f32⟩
  | .hbm, ⟨66, _⟩ => ⟨S_, .f32⟩
  | .hbm, ⟨67, _⟩ => ⟨S8x1x1024, .f32⟩
  | .hbm, ⟨68, _⟩ => ⟨S8x1x1024, .f32⟩
  | .hbm, ⟨69, _⟩ => ⟨S8x8192x1024, .f32⟩
  | .hbm, ⟨70, _⟩ => ⟨S8x8192x1024, .f32⟩
  | .hbm, ⟨71, _⟩ => ⟨S8x8192x1024, .f32⟩
  | .hbm, ⟨72, _⟩ => ⟨S8x8192x1024, .f32⟩
  | .hbm, ⟨73, _⟩ => ⟨S8x8192x5632, .f32⟩
  | .hbm, ⟨74, _⟩ => ⟨S8x8192x2816, .f32⟩
  | .hbm, ⟨75, _⟩ => ⟨S8x8192x2816, .f32⟩
  | .hbm, ⟨76, _⟩ => ⟨S8x8192x2816, .f32⟩
  | .hbm, ⟨77, _⟩ => ⟨S8x8192x2816, .f32⟩
  | .hbm, ⟨78, _⟩ => ⟨S_, .f32⟩
  | .hbm, ⟨79, _⟩ => ⟨S8x8192x2816, .f32⟩
  | .hbm, ⟨80, _⟩ => ⟨S8x8192x2816, .f32⟩
  | .hbm, ⟨81, _⟩ => ⟨S_, .f32⟩
  | .hbm, ⟨82, _⟩ => ⟨S8x8192x2816, .f32⟩
  | .hbm, ⟨83, _⟩ => ⟨S8x8192x2816, .f32⟩
  | .hbm, ⟨84, _⟩ => ⟨S8x8192x2816, .f32⟩
  | .hbm, ⟨85, _⟩ => ⟨S8x8192x2816, .f32⟩
  | .hbm, ⟨86, _⟩ => ⟨S8x8192x1024, .f32⟩
  | .hbm, ⟨87, _⟩ => ⟨S8x8192x1024, .f32⟩
  | .hbm, ⟨88, _⟩ => ⟨S8x8192x1024, .f32⟩
  | .hbm, ⟨89, _⟩ => ⟨S8x8192x1024, .f32⟩
  | .hbm, ⟨90, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_2 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_cst_4 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_5 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩

abbrev nD : Nat := 1
abbrev τ : Topo := Topo.v7x

variable {F : FTy → Type} [FloatOps F]
-- ==== Kernel4.lean ====
abbrev S8x8192x1024 : Shape := ⟨3, ![8, 8192, 1024]⟩
abbrev S8x8192x256 : Shape := ⟨3, ![8, 8192, 256]⟩
abbrev S8x256x256 : Shape := ⟨3, ![8, 256, 256]⟩
abbrev S128 : Shape := ⟨1, ![128]⟩
abbrev S1x128 : Shape := ⟨2, ![1, 128]⟩
abbrev S_ : Shape := ⟨0, ![]⟩
abbrev S8x8448x256 : Shape := ⟨3, ![8, 8448, 256]⟩
abbrev S4x64 : Shape := ⟨2, ![4, 64]⟩
abbrev S1x8192x512 : Shape := ⟨3, ![1, 8192, 512]⟩
abbrev S1x8448x128 : Shape := ⟨3, ![1, 8448, 128]⟩
abbrev S2048x1 : Shape := ⟨2, ![2048, 1]⟩
abbrev S2048x128 : Shape := ⟨2, ![2048, 128]⟩
abbrev S1x512x512 : Shape := ⟨3, ![1, 512, 512]⟩
abbrev S512x512 : Shape := ⟨2, ![512, 512]⟩
abbrev S512x128 : Shape := ⟨2, ![512, 128]⟩
abbrev S1x2816x128 : Shape := ⟨3, ![1, 2816, 128]⟩
abbrev S2816x128 : Shape := ⟨2, ![2816, 128]⟩
abbrev S2048x2816 : Shape := ⟨2, ![2048, 2816]⟩
abbrev S2048 : Shape := ⟨1, ![2048]⟩
abbrev S1x512x128 : Shape := ⟨3, ![1, 512, 128]⟩
abbrev S1x2048x1 : Shape := ⟨3, ![1, 2048, 1]⟩
abbrev S1 : Shape := ⟨1, ![1]⟩
abbrev S1x1x1 : Shape := ⟨3, ![1, 1, 1]⟩
abbrev S1x768x128 : Shape := ⟨3, ![1, 768, 128]⟩
abbrev S768x128 : Shape := ⟨2, ![768, 128]⟩
abbrev S2048x768 : Shape := ⟨2, ![2048, 768]⟩

abbrev nBuf : Space → Nat
  | .hbm => 34
  | .vmem => 15
  | .smem => 0
  | _ => 0

abbrev bufTy : (tb : Table) → Fin (tcTables nBuf tb) → BufTy
  | .hbm, ⟨0, _⟩ => ⟨S8x8192x1024, .f32⟩
  | .hbm, ⟨1, _⟩ => ⟨S8x8192x256, .f32⟩
  | .hbm, ⟨2, _⟩ => ⟨S8x8192x256, .f32⟩
  | .hbm, ⟨3, _⟩ => ⟨S8x256x256, .f32⟩
  | .hbm, ⟨4, _⟩ => ⟨S8x256x256, .f32⟩
  | .hbm, ⟨5, _⟩ => ⟨S128, .f32⟩
  | .hbm, ⟨6, _⟩ => ⟨S128, .f32⟩
  | .hbm, ⟨7, _⟩ => ⟨S1x128, .f32⟩
  | .hbm, ⟨8, _⟩ => ⟨S_, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S_, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S_, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S_, .f32⟩
  | .hbm, ⟨21, _⟩ => ⟨S_, .f32⟩
  | .hbm, ⟨22, _⟩ => ⟨S1x128, .f32⟩
  | .hbm, ⟨23, _⟩ => ⟨S1x128, .f32⟩
  | .hbm, ⟨24, _⟩ => ⟨S8x8192x1024, .bf16⟩
  | .hbm, ⟨25, _⟩ => ⟨S8x8448x256, .f32⟩
  | .hbm, ⟨26, _⟩ => ⟨S8x8448x256, .bf16⟩
  | .hbm, ⟨27, _⟩ => ⟨S8x8448x256, .f32⟩
  | .hbm, ⟨28, _⟩ => ⟨S8x8448x256, .bf16⟩
  | .hbm, ⟨29, _⟩ => ⟨S_, .f32⟩
  | .hbm, ⟨30, _⟩ => ⟨S4x64, .f32⟩
  | .hbm, ⟨31, _⟩ => ⟨S_, .f32⟩
  | .hbm, ⟨32, _⟩ => ⟨S1x128, .f32⟩
  | .hbm, ⟨33, _⟩ => ⟨S8x8192x1024, .bf16⟩
  | .local _ .vmem, ⟨0, _⟩ => ⟨S1x8192x512, .bf16⟩
  | .local _ .vmem, ⟨1, _⟩ => ⟨S1x8192x512, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x128, .f32⟩
  | .local _ .vmem, ⟨7, _⟩ => ⟨S4x64, .f32⟩
  | .local _ .vmem, ⟨8, _⟩ => ⟨S1x128, .f32⟩
  | .local _ .vmem, ⟨9, _⟩ => ⟨S1x8192x512, .bf16⟩
  | .local _ .vmem, ⟨10, _⟩ => ⟨S1x8192x512, .bf16⟩
  | .local _ .vmem, ⟨11, _⟩ => ⟨S2048x1, .f32⟩
  | .local _ .vmem, ⟨12, _⟩ => ⟨S2048x1, .f32⟩
  | .local _ .vmem, ⟨13, _⟩ => ⟨S2048x128, .f32⟩
  | .local _ .vmem, ⟨14, _⟩ => ⟨S2048x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v3 : BitVec 32 := Scalar.muli arg13 c512_i32
  v3
def k0_off1 (k0_t1 : Fin k0_t1_loop.trips) : Fin 3 → Nat :=
  let c0_2 : Index := 0#32
  let c0_i32 : BitVec 32 := 0#32
  let c1_i32 : BitVec 32 := 1#32
  let arg13 : BitVec 32 := Scf.iv c0_i32 c1_i32 k0_t1
  let c512_i32 : BitVec 32 := 512#32
  let v3 : BitVec 32 := Scalar.muli arg13 c512_i32
  let v4 : BitVec 32 := v3
  let v5 : Index := Scalar.indexCast v4
  let c0_3 : Index := 0#32
  ![0, v5.toNat, 0]
def k0_off2 (k0_t1 : Fin k0_t1_loop.trips) : Fin 3 → Nat :=
  let c0_51 : Index := 0#32
  let c0_i32 : BitVec 32 := 0#32
  let c1_i32 : BitVec 32 := 1#32
  let arg13 : BitVec 32 := Scf.iv c0_i32 c1_i32 k0_t1
  let c512_i32 : BitVec 32 := 512#32
  let v3 : BitVec 32 := Scalar.muli arg13 c512_i32
  let v4 : BitVec 32 := v3
  let v465 : Index := Scalar.indexCast v4
  let c0_52 : Index := 0#32
  ![0, v465.toNat, 0]
def k0_off3 (k0_t1 : Fin k0_t1_loop.trips) : Fin 3 → Nat :=
  let c0_53 : Index := 0#32
  let c0_i32 : BitVec 32 := 0#32
  let c1_i32 : BitVec 32 := 1#32
  let arg13 : BitVec 32 := Scf.iv c0_i32 c1_i32 k0_t1
  let c512_i32 : BitVec 32 := 512#32
  let v3 : BitVec 32 := Scalar.muli arg13 c512_i32
  let v4 : BitVec 32 := v3
  let v471 : Index := Scalar.indexCast v4
  let c128 : Index := 128#32
  ![0, v471.toNat, 128]
def k0_off4 (k0_t1 : Fin k0_t1_loop.trips) : Fin 3 → Nat :=
  let c0_54 : Index := 0#32
  let c0_i32 : BitVec 32 := 0#32
  let c1_i32 : BitVec 32 := 1#32
  let arg13 : BitVec 32 := Scf.iv c0_i32 c1_i32 k0_t1
  let c512_i32 : BitVec 32 := 512#32
  let v3 : BitVec 32 := Scalar.muli arg13 c512_i32
  let v4 : BitVec 32 := v3
  let v477 : Index := Scalar.indexCast v4
  let c256 : Index := 256#32
  ![0, v477.toNat, 256]
def k0_off5 (k0_t1 : Fin k0_t1_loop.trips) : Fin 3 → Nat :=
  let c0_55 : Index := 0#32
  let c0_i32 : BitVec 32 := 0#32
  let c1_i32 : BitVec 32 := 1#32
  let arg13 : BitVec 32 := Scf.iv c0_i32 c1_i32 k0_t1
  let c512_i32 : BitVec 32 := 512#32
  let v3 : BitVec 32 := Scalar.muli arg13 c512_i32
  let v4 : BitVec 32 := v3
  let v483 : Index := Scalar.indexCast v4
  let c384 : Index := 384#32
  ![0, v483.toNat, 384]
@[reducible] def k0_t2_loop : Scf.Loop 32 :=
  let c0_i32_68 : BitVec 32 := 0#32
  let c11_i32 : BitVec 32 := 11#32
  let v507 : BitVec 32 := Scalar.addi c0_i32_68 c11_i32
  let c1_i32_69 : BitVec 32 := 1#32
  ⟨c0_i32_68, v507, c1_i32_69⟩
def k0_mult2 (k0_t2 : Fin k0_t2_loop.trips) : BitVec 32 :=
  let c0_i32_68 : BitVec 32 := 0#32
  let c1_i32_69 : BitVec 32 := 1#32
  let arg14 : BitVec 32 := Scf.iv c0_i32_68 c1_i32_69 k0_t2
  let c768_i32 : BitVec 32 := 768#32
  let v536 : BitVec 32 := Scalar.muli arg14 c768_i32
  v536
def k0_off6 (k0_t2 : Fin k0_t2_loop.trips) : Fin 3 → Nat :=
  let c0_83 : Index := 0#32
  let c0_i32_68 : BitVec 32 := 0#32
  let c1_i32_69 : BitVec 32 := 1#32
  let arg14 : BitVec 32 := Scf.iv c0_i32_68 c1_i32_69 k0_t2
  let c768_i32 : BitVec 32 := 768#32
  let v536 : BitVec 32 := Scalar.muli arg14 c768_i32
  let v537 : BitVec 32 := v536
  let v538 : Index := Scalar.indexCast v537
  let c0_84 : Index := 0#32
  ![0, v538.toNat, 0]
def k0_off7 (k0_t1 : Fin k0_t1_loop.trips) : Fin 3 → Nat :=
  let c0_75 : Index := 0#32
  let c0_i32 : BitVec 32 := 0#32
  let c1_i32 : BitVec 32 := 1#32
  let arg13 : BitVec 32 := Scf.iv c0_i32 c1_i32 k0_t1
  let c512_i32 : BitVec 32 := 512#32
  let v3 : BitVec 32 := Scalar.muli arg13 c512_i32
  let v4 : BitVec 32 := v3
  let v514 : Index := Scalar.indexCast v4
  let c0_76 : Index := 0#32
  ![0, v514.toNat, 0]
def k0_off8 (k0_t1 : Fin k0_t1_loop.trips) : Fin 3 → Nat :=
  let c0_77 : Index := 0#32
  let c0_i32 : BitVec 32 := 0#32
  let c1_i32 : BitVec 32 := 1#32
  let arg13 : BitVec 32 := Scf.iv c0_i32 c1_i32 k0_t1
  let c512_i32 : BitVec 32 := 512#32
  let v3 : BitVec 32 := Scalar.muli arg13 c512_i32
  let v4 : BitVec 32 := v3
  let v520 : Index := Scalar.indexCast v4
  let c128_78 : Index := 128#32
  ![0, v520.toNat, 128]
def k0_off9 (k0_t1 : Fin k0_t1_loop.trips) : Fin 3 → Nat :=
  let c0_79 : Index := 0#32
  let c0_i32 : BitVec 32 := 0#32
  let c1_i32 : BitVec 32 := 1#32
  let arg13 : BitVec 32 := Scf.iv c0_i32 c1_i32 k0_t1
  let c512_i32 : BitVec 32 := 512#32
  let v3 : BitVec 32 := Scalar.muli arg13 c512_i32
  let v4 : BitVec 32 := v3
  let v526 : Index := Scalar.indexCast v4
  let c256_80 : Index := 256#32
  ![0, v526.toNat, 256]
def k0_off10 (k0_t1 : Fin k0_t1_loop.trips) : Fin 3 → Nat :=
  let c0_81 : Index := 0#32
  let c0_i32 : BitVec 32 := 0#32
  let c1_i32 : BitVec 32 := 1#32
  let arg13 : BitVec 32 := Scf.iv c0_i32 c1_i32 k0_t1
  let c512_i32 : BitVec 32 := 512#32
  let v3 : BitVec 32 := Scalar.muli arg13 c512_i32
  let v4 : BitVec 32 := v3
  let v532 : Index := Scalar.indexCast v4
  let c384_82 : Index := 384#32
  ![0, v532.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8192x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel4Ideal.lean ====
variable {F : FTy → Type} [FloatOps F] [Named F]
def κ : String → Option EReal := fun
  | "scale_log2e" => some (((11863283 / 134217728) * (Real.log 2)⁻¹ : ℝ) : EReal)
  | _ => none
-- ==== Reference4Ideal.lean ====
abbrev S8x8192x1024 : Shape := ⟨3, ![8, 8192, 1024]⟩
abbrev S8x8192x256 : Shape := ⟨3, ![8, 8192, 256]⟩
abbrev S8x256x256 : Shape := ⟨3, ![8, 256, 256]⟩
abbrev S128 : Shape := ⟨1, ![128]⟩
abbrev S8x256x2x128 : Shape := ⟨4, ![8, 256, 2, 128]⟩
abbrev S8x2x256x128 : Shape := ⟨4, ![8, 2, 256, 128]⟩
abbrev S8x8192x2x128 : Shape := ⟨4, ![8, 8192, 2, 128]⟩
abbrev S8x2x8192x128 : Shape := ⟨4, ![8, 2, 8192, 128]⟩
abbrev S8x2x8448x128 : Shape := ⟨4, ![8, 2, 8448, 128]⟩
abbrev S8x8192x8x128 : Shape := ⟨4, ![8, 8192, 8, 128]⟩
abbrev S8x8x8192x128 : Shape := ⟨4, ![8, 8, 8192, 128]⟩
abbrev S8x2x4x8192x128 : Shape := ⟨5, ![8, 2, 4, 8192, 128]⟩
abbrev S8x2x4x8192x8448 : Shape := ⟨5, ![8, 2, 4, 8192, 8448]⟩
abbrev S_ : Shape := ⟨0, ![]⟩
abbrev S8x2x4x8192 : Shape := ⟨4, ![8, 2, 4, 8192]⟩
abbrev S8x2x4x8192x1 : Shape := ⟨5, ![8, 2, 4, 8192, 1]⟩

abbrev nBuf : Space → Nat
  | .hbm => 43
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x256, .f32⟩
  | .hbm, ⟨2, _⟩ => ⟨S8x8192x256, .f32⟩
  | .hbm, ⟨3, _⟩ => ⟨S8x256x256, .f32⟩
  | .hbm, ⟨4, _⟩ => ⟨S8x256x256, .f32⟩
  | .hbm, ⟨5, _⟩ => ⟨S128, .f32⟩
  | .hbm, ⟨6, _⟩ => ⟨S128, .f32⟩
  | .hbm, ⟨7, _⟩ => ⟨S8x256x2x128, .f32⟩
  | .hbm, ⟨8, _⟩ => ⟨S8x2x256x128, .f32⟩
  | .hbm, ⟨9, _⟩ => ⟨S8x8192x2x128, .f32⟩
  | .hbm, ⟨10, _⟩ => ⟨S8x2x8192x128, .f32⟩
  | .hbm, ⟨11, _⟩ => ⟨S8x2x8448x128, .f32⟩
  | .hbm, ⟨12, _⟩ => ⟨S8x256x2x128, .f32⟩
  | .hbm, ⟨13, _⟩ => ⟨S8x2x256x128, .f32⟩
  | .hbm, ⟨14, _⟩ => ⟨S8x8192x2x128, .f32⟩
  | .hbm, ⟨15, _⟩ => ⟨S8x2x8192x128, .f32⟩
  | .hbm, ⟨16, _⟩ => ⟨S8x2x8448x128, .f32⟩
  | .hbm, ⟨17, _⟩ => ⟨S8x8192x8x128, .f32⟩
  | .hbm, ⟨18, _⟩ => ⟨S8x8x8192x128, .f32⟩
  | .hbm, ⟨19, _⟩ => ⟨S8x2x4x8192x128, .f32⟩
  | .hbm, ⟨20, _⟩ => ⟨S8x2x4x8192x8448, .f32⟩
  | .hbm, ⟨21, _⟩ => ⟨S_, .f32⟩
  | .hbm, ⟨22, _⟩ => ⟨S8x2x4x8192x8448, .f32⟩
  | .hbm, ⟨23, _⟩ => ⟨S8x2x4x8192x8448, .f32⟩
  | .hbm, ⟨24, _⟩ => ⟨S_, .f32⟩
  | .hbm, ⟨25, _⟩ => ⟨S8x2x4x8192, .f32⟩
  | .hbm, ⟨26, _⟩ => ⟨S_, .f32⟩
  | .hbm, ⟨27, _⟩ => ⟨S8x2x4x8192, .f32⟩
  | .hbm, ⟨28, _⟩ => ⟨S8x2x4x8192, .f32⟩
  | .hbm, ⟨29, _⟩ => ⟨S8x2x4x8192x1, .f32⟩
  | .hbm, ⟨30, _⟩ => ⟨S8x2x4x8192x8448, .f32⟩
  | .hbm, ⟨31, _⟩ => ⟨S8x2x4x8192x8448, .f32⟩
  | .hbm, ⟨32, _⟩ => ⟨S8x2x4x8192x8448, .f32⟩
  | .hbm, ⟨33, _⟩ => ⟨S_, .f32⟩
  | .hbm, ⟨34, _⟩ => ⟨S8x2x4x8192, .f32⟩
  | .hbm, ⟨35, _⟩ => ⟨S8x2x4x8192x1, .f32⟩
  | .hbm, ⟨36, _⟩ => ⟨S8x2x4x8192x8448, .f32⟩
  | .hbm, ⟨37, _⟩ => ⟨S8x2x4x8192x8448, .f32⟩
  | .hbm, ⟨38, _⟩ => ⟨S8x2x4x8192x128, .f32⟩
  | .hbm, ⟨39, _⟩ => ⟨S8x8x8192x128, .f32⟩
  | .hbm, ⟨40, _⟩ => ⟨S8x8192x8x128, .f32⟩
  | .hbm, ⟨41, _⟩ => ⟨S8x8192x1024, .f32⟩
  | .hbm, ⟨42, _⟩ => ⟨S8x8192x1024, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Proof.Trip.lean ====
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The exact path's loop: what one trip over 768 keys makes of the running maximum, the running sum and the
running weighted values -/

/-- The keys (or the values) of trip `k`: 768 rows of the block. -/
abbrev kvBlock (X : S1x8448x128.Idx → Elt F .bf16) (k : Fin k0_t1_loop.trips) : Vec F S1x768x128 .bf16 :=
  View.ld X (Rect.unit (s := S1x8448x128) (k0_off3 k) S1x768x128.size (k0_off3_inb k))

/-- The loop's state: the running maximum of a row's scores, the running sum of its weights, the running weighted
values. -/
structure St (F : FTy → Type) [FloatOps F] where
  m : Vec F S2048x1 .f32
  l : Vec F S2048x1 .f32
  acc : Vec F S2048x128 .f32

/-- One trip on the keys `Kb` and values `Vb`. -/
def St.step (q : FVec F S2048x128 .bf16) (Kb Vb : Vec F S1x768x128 .bf16) (s : St F) : St F :=
  ⟨k0_pay36 (k0_pay28 q Kb s.m), k0_pay31 q Kb s.m s.l, k0_pay32 q Kb s.m s.acc Vb⟩

/-- The state the loop starts from. -/
def St.init : St F := ⟨k0_pay33, k0_pay34, k0_pay35⟩

/-- The state after `n` trips. -/
def St.at (q : FVec F S2048x128 .bf16) (XK XV : S1x8448x128.Idx → Elt F .bf16) : ℕ → St F
  | 0 => St.init
  | n + 1 => if h : n < k0_t1_loop.trips then (St.at q XK XV n).step q (kvBlock XK ⟨n, h⟩) (kvBlock XV ⟨n, h⟩)
      else St.at q XK XV n

theorem St.at_succ (q : FVec F S2048x128 .bf16) (XK XV : S1x8448x128.Idx → Elt F .bf16) (k : Fin k0_t1_loop.trips) :
    St.at q XK XV (k.val + 1) = (St.at q XK XV k.val).step q (kvBlock XK k) (kvBlock XV k) := by
  rw [St.at]; exact dif_pos k.isLt

theorem off2_zero : (![0, 0] : Fin 2 → Nat) = fun _ => 0 := by funext a; fin_cases a <;> rfl
theorem off3_zero : (![0, 0, 0] : Fin 3 → Nat) = fun _ => 0 := by funext a; fin_cases a <;> rfl

/-- A store of a whole buffer leaves what it stored. -/
theorem read_store {sp : Space} {S : Shape} {e : EltTy} (v : View sig .tc sp S e) {off : Fin S.rank → Nat} (h : off = fun _ => 0)
    (inb : ∀ a, off a + S.size a ≤ S.size a) (w : S.Idx → Elt F e) (L : List (View.Piece (Elt F) S e)) (f : v.ty.Contents (Elt F)) :
    v.read (Elt F) (v.writes (Elt F) f ((⟨Rect.unit off S.size inb, w⟩ : View.Piece (Elt F) S e) :: L)) = w := by
  rw [View.read_writes_eq_canon _ _ _ (fun y => ⟨_, List.mem_cons_self .., by
    subst h; show y ∈ (Rect.whole S).set; rw [Rect.set_whole]; exact Finset.mem_univ y⟩)]
  exact View.canon_cons_unit_zero h inb w L

/-- A load of a whole buffer reads what it holds. -/
theorem readAt_whole {sp : Space} {S : Shape} {e : EltTy} (v : View sig .tc sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f := by
  exact View.ld_unit_zero h inb (v.read (Elt F) f)

/-- A load, over junk, of a whole buffer last stored as a whole reads what was stored. -/
theorem readCov_whole {sp : Space} {S : Shape} {e : EltTy} (v : View sig .tc sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self .., by
    subst h; show y ∈ (Rect.whole S).set; rw [Rect.set_whole]; exact Finset.mem_univ y⟩),
    View.canon_cons_unit_zero h, View.ld_unit_zero h]

/-- One trip's triple: from a state `s` to the next. -/
theorem trip (c : Dev nD) (i : grid0.Coords) (arg3 : Memref sig .tc .vmem S1x1024x128 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S1x128 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x8448 .bf16) (harg14 : arg14.IsWhole) (v25 : FVec F S1x1 .f32) (q : FVec F S2048x128 .bf16)
    (f4 : BufTy.Contents (Elt F) arg4.view.ty) (f5 : BufTy.Contents (Elt F) arg5.view.ty) (k : Fin k0_t1_loop.trips) (s : St F)
    (f10 : BufTy.Contents (Elt F) arg10.view.ty) (f11 : BufTy.Contents (Elt F) arg11.view.ty) (f13 : BufTy.Contents (Elt F) arg13.view.ty)
    (h10 : arg10.view.read (Elt F) f10 = s.m) (h11 : arg11.view.read (Elt F) f11 = s.l) (h13 : arg13.view.read (Elt F) f13 = s.acc) :
    iprop((arg4.view.loc (c : Thread nD τ) ↦[arg4.view.set]{fullShare} f4) ∗ (arg5.view.loc (c : Thread nD τ) ↦[arg5.view.set]{fullShare} f5) ∗ (arg10.view.loc (c : Thread nD τ) ↦[arg10.view.set]{fullShare} f10) ∗ (arg11.view.loc (c : Thread nD τ) ↦[arg11.view.set]{fullShare} f11) ∗ (arg13.view.loc (c : Thread nD τ) ↦[arg13.view.set]{fullShare} f13))
      ⊢ (wp frame (wpE (defs₀ (F := F)) Variants.none c none) Set.univ (k0_t1_body (F := F) i arg3 harg3 arg4 harg4 arg5 harg5 arg6 harg6 arg7 harg7 arg8 harg8 arg9 harg9 arg10 harg10 arg11 harg11 arg12 harg12 arg13 harg13 arg14 harg14 v25 q k PUnit.unit)
        (fun _ => iprop((arg4.view.loc (c : Thread nD τ) ↦[arg4.view.set]{fullShare} f4) ∗ (arg5.view.loc (c : Thread nD τ) ↦[arg5.view.set]{fullShare} f5)
          ∗ (∃ g, (arg10.view.loc (c : Thread nD τ) ↦[arg10.view.set]{fullShare} g) ∗ ⌜arg10.view.read (Elt F) g = (s.step q (kvBlock (arg4.view.read (Elt F) f4) k) (kvBlock (arg5.view.read (Elt F) f5) k)).m⌝)
          ∗ (∃ g, (arg11.view.loc (c : Thread nD τ) ↦[arg11.view.set]{fullShare} g) ∗ ⌜arg11.view.read (Elt F) g = (s.step q (kvBlock (arg4.view.read (Elt F) f4) k) (kvBlock (arg5.view.read (Elt F) f5) k)).l⌝)
          ∗ (∃ g, (arg13.view.loc (c : Thread nD τ) ↦[arg13.view.set]{fullShare} g) ∗ ⌜arg13.view.read (Elt F) g = (s.step q (kvBlock (arg4.view.read (Elt F) f4) k) (kvBlock (arg5.view.read (Elt F) f5) k)).acc⌝))) : sProp 𝕄) := by
  have hk : k.val < 11 := Nat.lt_of_lt_of_le k.isLt k0_t1_abs.2.1
  unfold k0_t1_body
  iintro ⟨H4, H5, H10, H11, H13⟩
  sl_exec
  sl_step
  isplitl [H4]; · iexact H4
  isplitl [H5]; · iexact H5
  isplitl [H10]
  · iexists _; isplitl [H10]; · iexact H10
    ipureintro
    refine (read_store _ off2_zero _ _ _ _).trans ?_
    simp only [St.step]
    rw [← h10, ← readAt_whole arg10.view off2_zero inb_S2048x1_S2048x1_0_0]; rfl
  isplitl [H11]
  · iexists _; isplitl [H11]; · iexact H11
    ipureintro
    refine (read_store _ off2_zero _ _ _ _).trans ?_
    simp only [St.step]
    rw [← h10, ← h11, ← readAt_whole arg10.view off2_zero inb_S2048x1_S2048x1_0_0,
      ← readAt_whole arg11.view off2_zero inb_S2048x1_S2048x1_0_0]; rfl
  iexists _; isplitl [H13]; · iexact H13
  ipureintro
  refine (read_store _ off2_zero _ _ _ _).trans ?_
  simp only [St.step]
  rw [← h10, ← h13, ← readAt_whole arg10.view off2_zero inb_S2048x1_S2048x1_0_0,
    ← readAt_whole arg13.view off2_zero inb_S2048x128_S2048x128_0_0]; rfl

end Cert.KernelIdeal.Hand

end
-- ==== Proof.Body.lean ====
module

public import proofs.«01_k».proof.Proof.Gen.KernelIdeal.Frame
public import proofs.«01_k».proof.Proof.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The kernel's body on any staging and scratch buffers -/

/-- What the body leaves in the output block, as a choice between two values — the test, the block by the online softmax
    over eleven key blocks, the block by the shared shift — WITH the proof that from the six input blocks held at
    `f3 … f8`, and the output block and the scratch buffers at anything, the body runs and hands on the inputs as they
    were, the output block at that choice, and the scratch buffers at something. -/
def bodyRun (c : Dev nD) (i : grid0.Coords) (arg3 : Memref sig .tc .vmem S1x1024x128 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S1x128 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x8448 .bf16) (harg14 : arg14.IsWhole) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) :
    { R : BitVec 1 × Vec F S1x1024x128 .bf16 × Vec F S1x1024x128 .bf16 //
      ∀ (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (K : PUnit → sProp 𝕄),
      (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
        ∗ (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ g, (arg9.view.loc (c : Thread nD τ) ↦[arg9.view.set]{fullShare} g) ∗ ⌜arg9.view.read (Elt F) g = if R.1 = 1#1 then R.2.1 else R.2.2⌝) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g))) -∗ K ⟨⟩)) : sProp 𝕄)
      ⊢ (wp frame (wpE (defs₀ (F := F)) Variants.none c none) Set.univ (cc0_attn_diff (F := F) i arg3 harg3 arg4 harg4 arg5 harg5 arg6 harg6 arg7 harg7 arg8 harg8 arg9 harg9 arg10 harg10 arg11 harg11 arg12 harg12 arg13 harg13 arg14 harg14) K) } := by
  refine ⟨⟨?c, ?x, ?y⟩, fun f9 f10 f11 f12 f13 f14 K => ?run⟩
  rotate_left 3
  rw [cc0_attn_diff_eq_skeleton]; unfold cc0_attn_diff_skel
  iintro ⟨H3, H4, H5, H6, H7, H8, H9, H10, H11, H12, H13, H14, Hk⟩
  sl_exec
  case c => exact bodyRun.sl.v569 arg3 arg4 arg6 arg12 f3 f4 f6
  case x =>
    exact k0_pay2 (k0_pay37 (bodyRun.sl.r_1 arg7 f7)
      (St.at (bodyRun.sl.v41 arg3 f3) (arg4.view.read (Elt F) f4) (arg5.view.read (Elt F) f5) k0_t1_loop.trips).acc
      (St.at (bodyRun.sl.v41 arg3 f3) (arg4.view.read (Elt F) f4) (arg5.view.read (Elt F) f5) k0_t1_loop.trips).l)
      (k0_pay38 (arg8.view.read (Elt F) f8))
  case y => exact k0_pay1 (bodyRun.sl.v914 arg3 arg4 arg5 arg6 arg7 arg8 arg12 arg14 f3 f4 f5 f6 f7 f8)
  by_cases hc : bodyRun.sl.v569 arg3 arg4 arg6 arg12 f3 f4 f6 = 1#1
  · sl_exec
    sl_for (fun n (_ : PUnit) => (iprop((arg4.view.loc (c : Thread nD τ) ↦[arg4.view.set]{fullShare} f4) ∗ (arg5.view.loc (c : Thread nD τ) ↦[arg5.view.set]{fullShare} f5)
        ∗ (∃ g, (arg10.view.loc (c : Thread nD τ) ↦[arg10.view.set]{fullShare} g) ∗ ⌜arg10.view.read (Elt F) g = (St.at (bodyRun.sl.v41 arg3 f3) (arg4.view.read (Elt F) f4) (arg5.view.read (Elt F) f5) n).m⌝)
        ∗ (∃ g, (arg11.view.loc (c : Thread nD τ) ↦[arg11.view.set]{fullShare} g) ∗ ⌜arg11.view.read (Elt F) g = (St.at (bodyRun.sl.v41 arg3 f3) (arg4.view.read (Elt F) f4) (arg5.view.read (Elt F) f5) n).l⌝)
        ∗ (∃ g, (arg13.view.loc (c : Thread nD τ) ↦[arg13.view.set]{fullShare} g) ∗ ⌜arg13.view.read (Elt F) g = (St.at (bodyRun.sl.v41 arg3 f3) (arg4.view.read (Elt F) f4) (arg5.view.read (Elt F) f5) n).acc⌝)) : sProp 𝕄)) $$ [H4 H5 H10 H11 H13]
    case region =>
      intro k _
      iintro ⟨H4, H5, ⟨%g10, H10, %h10⟩, ⟨%g11, H11, %h11⟩, ⟨%g13, H13, %h13⟩⟩
      rw [St.at_succ]
      iapply (trip c i arg3 harg3 arg4 harg4 arg5 harg5 arg6 harg6 arg7 harg7 arg8 harg8 arg9 harg9 arg10 harg10 arg11 harg11 arg12 harg12 arg13 harg13 arg14 harg14 (bodyRun.sl.r_1 arg7 f7) (bodyRun.sl.v41 arg3 f3) f4 f5 k _ g10 g11 g13 h10 h11 h13)
      isplitl [H4]; · iexact H4
      isplitl [H5]; · iexact H5
      isplitl [H10]; · iexact H10
      isplitl [H11]; · iexact H11
      iexact H13
    · isplitl [H4]; · iexact H4
      isplitl [H5]; · iexact H5
      isplitl [H10]
      · iexists _; isplitl [H10]; · iexact H10
        ipureintro; exact read_store _ off2_zero _ _ _ _
      isplitl [H11]
      · iexists _; isplitl [H11]; · iexact H11
        ipureintro; exact read_store _ off2_zero _ _ _ _
      iexists _; isplitl [H13]; · iexact H13
      ipureintro; exact read_store _ off2_zero _ _ _ _
    iintro %_ ⟨H4, H5, ⟨%g10, H10, %h10⟩, ⟨%g11, H11, %h11⟩, ⟨%g13, H13, %h13⟩⟩
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]
    · iexists _; isplitl [H9]; · iexact H9
      ipureintro
      refine (read_store _ off3_zero _ _ _ _).trans ?_
      simp only [if_pos hc]
      rw [← h11, ← h13, ← readAt_whole arg11.view off2_zero inb_S2048x1_S2048x1_0_0,
        ← readAt_whole arg13.view off2_zero inb_S2048x128_S2048x128_0_0]
      rw [← readAt_whole arg8.view off2_zero inb_S1x128_S1x128_0_0]; rfl
    isplitl [H10]; · iexists _; iexact H10
    isplitl [H11]; · iexists _; iexact H11
    isplitl [H12]; · iexists _; iexact H12
    isplitl [H13]; · iexists _; iexact H13
    iexists _; iexact H14
  · sl_exec
    have h566 : bodyRun.sl.v566 arg3 arg4 arg6 arg12 f3 f4 f6 = 1#1 := by
      revert hc
      delta bodyRun.sl.v566 bodyRun.sl.v569 bodyRun.sl.v565 bodyRun.sl.v568 bodyRun.sl.v567
      generalize bodyRun.sl.v564 arg3 arg4 arg6 arg12 f3 f4 f6 = x
      revert x; decide
    rw [dif_pos h566]
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]
    · iexists _; isplitl [H9]; · iexact H9
      ipureintro; exact (read_store _ off3_zero _ _ _ _).trans (if_neg hc).symm
    isplitl [H10]; · iexists _; iexact H10
    isplitl [H11]; · iexists _; iexact H11
    isplitl [H12]; · iexists _; iexact H12
    isplitl [H13]; · iexists _; iexact H13
    iexists _; iexact H14

end Cert.KernelIdeal.Hand
end
-- ==== Proof.Run.lean ====
module

public import proofs.«01_k».proof.Proof.Gen.KernelIdeal.Frame
public import proofs.«01_k».proof.Proof.Body
public import Idealize.ShloMosaic.PureOps.BitExact

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The run of the whole program: the body at every grid point, and what the output array is written with -/

/-- The body's run at a grid point: the point's staging buffers, the inputs at their blocks. -/
def runAt (c : Dev nD) (t : Fin cfg0.N) := bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.IsWhole.unread (hstage0_0 ((cfg0.slots t 0).cast nbuf0_0)) (iblk m c 0 t)) (Memref.IsWhole.unread (hstage0_1 ((cfg0.slots t 1).cast nbuf0_1)) (iblk m c 1 t)) (Memref.IsWhole.unread (hstage0_2 ((cfg0.slots t 2).cast nbuf0_2)) (iblk m c 2 t)) (Memref.IsWhole.unread (hstage0_3 ((cfg0.slots t 3).cast nbuf0_3)) (iblk m c 3 t)) (Memref.IsWhole.unread (hstage0_4 ((cfg0.slots t 4).cast nbuf0_4)) (iblk m c 4 t)) (Memref.IsWhole.unread (hstage0_5 ((cfg0.slots t 5).cast nbuf0_5)) (iblk m c 5 t))

/-- The block a grid point writes. -/
def outAt (c : Dev nD) (t : Fin cfg0.N) : Vec F S1x1024x128 .bf16 :=
  if (runAt m c t).1.1 = 1#1 then (runAt m c t).1.2.1 else (runAt m c t).1.2.2

/-- The pipeline's proof data: the arrays as the region finds them; after the body each input's buffer at its block
    and the output's at `outAt`; the scratch buffers at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- A whole buffer held through its view is the buffer held outright. -/
theorem whole_pt (c : Dev nD) (b : Ref sig .tc) (f) :
    (((Memref.whole b).view.loc (c : Thread nD τ) ↦[(Memref.whole b).view.set]{fullShare} f) : sProp 𝕄)
      = (((c : Thread nD τ).loc b) ↦{fullShare} f) := by
  have h : (Memref.whole b).view.set = Finset.univ := View.set_whole b
  rw [h]

/-- What the pipeline holds before the body at a grid point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))
/-- What it holds after. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t))

set_option maxHeartbeats 1600000 in
/-- The body at a grid point, from the pipeline's holdings before it to its holdings after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  simp only [before_0, before_1, before_2, before_3, before_4, before_5, after_0, after_1, after_2, after_3, after_4, after_5, after_6]
  unfold Pipeline.ΦA owns; rw [scopedRest0_eq]
  simp only [← whole_pt]
  iintro ⟨⟨⟨⟨%g10, H10⟩, ⟨%g11, H11⟩, ⟨%g12, H12⟩, ⟨%g13, H13⟩, ⟨%g14, H14⟩⟩, Hg⟩, Ho,
    ⟨%d0, %f0, %hf0, H3⟩, ⟨%d1, %f1, %hf1, H4⟩, ⟨%d2, %f2, %hf2, H5⟩, ⟨%d3, %f3, %hf3, H6⟩, ⟨%d4, %f4, %hf4, H7⟩, ⟨%d5, %f5, %hf5, H8⟩, ⟨%d6, %f6, %hf6, H9⟩⟩
  obtain rfl := (Memref.IsWhole.eq_unread (hstage0_0 ((cfg0.slots t 0).cast nbuf0_0)) hf0)
  obtain rfl := (Memref.IsWhole.eq_unread (hstage0_1 ((cfg0.slots t 1).cast nbuf0_1)) hf1)
  obtain rfl := (Memref.IsWhole.eq_unread (hstage0_2 ((cfg0.slots t 2).cast nbuf0_2)) hf2)
  obtain rfl := (Memref.IsWhole.eq_unread (hstage0_3 ((cfg0.slots t 3).cast nbuf0_3)) hf3)
  obtain rfl := (Memref.IsWhole.eq_unread (hstage0_4 ((cfg0.slots t 4).cast nbuf0_4)) hf4)
  obtain rfl := (Memref.IsWhole.eq_unread (hstage0_5 ((cfg0.slots t 5).cast nbuf0_5)) hf5)
  iapply ((runAt m c t).2 f6 g10 g11 g12 g13 g14 _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H3, H4, H5, H6, H7, H8, ⟨%g9, H9, %h9⟩, H10, H11, H12, H13, H14⟩
  isplitl [H10 H11 H12 H13 H14 Hg]
  · isplitl [H10 H11 H12 H13 H14]
    · isplitl [H10]; · iexact H10
      isplitl [H11]; · iexact H11
      isplitl [H12]; · iexact H12
      isplitl [H13]; · iexact H13
      iexact H14
    iexact Hg
  isplitl [Ho]; · iexact Ho
  isplitl [H3]
  · iexists _; isplitr; swap; · iexact H3
    ipureintro; exact hf0
  isplitl [H4]
  · iexists _; isplitr; swap; · iexact H4
    ipureintro; exact hf1
  isplitl [H5]
  · iexists _; isplitr; swap; · iexact H5
    ipureintro; exact hf2
  isplitl [H6]
  · iexists _; isplitr; swap; · iexact H6
    ipureintro; exact hf3
  isplitl [H7]
  · iexists _; isplitr; swap; · iexact H7
    ipureintro; exact hf4
  isplitl [H8]
  · iexists _; isplitr; swap; · iexact H8
    ipureintro; exact hf5
  iexists _; isplitr; swap; · iexact H9
  ipureintro; exact h9

/-- The table's entry at a grid point is the kernel on the point's buffers. -/
theorem defs₀_row (t : Fin cfg0.N) :
    defs₀ (F := F) .tc cfg0.body (cfg0.bodyArgs t (cfg0.slots t)) = bodyAt0 t := by
  unfold defs₀; rw [Defs.onTc_tc]

/-- The body obligation the launch asks for. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- From any memory with zero counters every weakly fair execution terminates, with each array at what the proof data
    says and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: every execution terminates, the argument arrays end as they began, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_with_sems (frame_of m ρ (dats m) (A_eq m)) (run_main m ρ)

end Cert.KernelIdeal.Hand

end
-- ==== Proof.Raw.Body.lean ====
module

public import proofs.«01_k».proof.Proof.Gen.Kernel.Frame
public import proofs.«01_k».proof.Proof.Raw.Trip

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel's body on any staging and scratch buffers -/

/-- What the body leaves in the output block, as a choice between two values — the test, the block by the online softmax
    over eleven key blocks, the block by the shared shift — WITH the proof that from the six input blocks held at
    `f3 … f8`, and the output block and the scratch buffers at anything, the body runs and hands on the inputs as they
    were, the output block at that choice, and the scratch buffers at something. -/
def bodyRun (c : Dev nD) (i : grid0.Coords) (arg3 : Memref sig .tc .vmem S1x1024x128 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S1x128 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x8448 .bf16) (harg14 : arg14.IsWhole) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) :
    { R : BitVec 1 × Vec F S1x1024x128 .bf16 × Vec F S1x1024x128 .bf16 //
      ∀ (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (K : PUnit → sProp 𝕄),
      (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
        ∗ (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ g, (arg9.view.loc (c : Thread nD τ) ↦[arg9.view.set]{fullShare} g) ∗ ⌜arg9.view.read (Elt F) g = if R.1 = 1#1 then R.2.1 else R.2.2⌝) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g))) -∗ K ⟨⟩)) : sProp 𝕄)
      ⊢ (wp frame (wpE (defs₀ (F := F)) Variants.none c none) Set.univ (cc0_attn_diff (F := F) i arg3 harg3 arg4 harg4 arg5 harg5 arg6 harg6 arg7 harg7 arg8 harg8 arg9 harg9 arg10 harg10 arg11 harg11 arg12 harg12 arg13 harg13 arg14 harg14) K) } := by
  refine ⟨⟨?c, ?x, ?y⟩, fun f9 f10 f11 f12 f13 f14 K => ?run⟩
  rotate_left 3
  rw [cc0_attn_diff_eq_skeleton]; unfold cc0_attn_diff_skel
  iintro ⟨H3, H4, H5, H6, H7, H8, H9, H10, H11, H12, H13, H14, Hk⟩
  sl_exec
  case c => exact bodyRun.sl.v569 arg3 arg4 arg6 arg12 f3 f4 f6
  case x =>
    exact k0_pay2 (k0_pay37 (bodyRun.sl.r_1 arg7 f7)
      (St.at (bodyRun.sl.r_4 arg3 f3) (arg4.view.read (Elt F) f4) (arg5.view.read (Elt F) f5) k0_t1_loop.trips).acc
      (St.at (bodyRun.sl.r_4 arg3 f3) (arg4.view.read (Elt F) f4) (arg5.view.read (Elt F) f5) k0_t1_loop.trips).l)
      (k0_pay38 (arg8.view.read (Elt F) f8))
  case y => exact k0_pay1 (bodyRun.sl.r_49 arg3 arg4 arg5 arg6 arg7 arg8 arg12 arg14 f3 f4 f5 f6 f7 f8)
  by_cases hc : bodyRun.sl.v569 arg3 arg4 arg6 arg12 f3 f4 f6 = 1#1
  · sl_exec
    sl_for (fun n (_ : PUnit) => (iprop((arg4.view.loc (c : Thread nD τ) ↦[arg4.view.set]{fullShare} f4) ∗ (arg5.view.loc (c : Thread nD τ) ↦[arg5.view.set]{fullShare} f5)
        ∗ (∃ g, (arg10.view.loc (c : Thread nD τ) ↦[arg10.view.set]{fullShare} g) ∗ ⌜arg10.view.read (Elt F) g = (St.at (bodyRun.sl.r_4 arg3 f3) (arg4.view.read (Elt F) f4) (arg5.view.read (Elt F) f5) n).m⌝)
        ∗ (∃ g, (arg11.view.loc (c : Thread nD τ) ↦[arg11.view.set]{fullShare} g) ∗ ⌜arg11.view.read (Elt F) g = (St.at (bodyRun.sl.r_4 arg3 f3) (arg4.view.read (Elt F) f4) (arg5.view.read (Elt F) f5) n).l⌝)
        ∗ (∃ g, (arg13.view.loc (c : Thread nD τ) ↦[arg13.view.set]{fullShare} g) ∗ ⌜arg13.view.read (Elt F) g = (St.at (bodyRun.sl.r_4 arg3 f3) (arg4.view.read (Elt F) f4) (arg5.view.read (Elt F) f5) n).acc⌝)) : sProp 𝕄)) $$ [H4 H5 H10 H11 H13]
    case region =>
      intro k _
      iintro ⟨H4, H5, ⟨%g10, H10, %h10⟩, ⟨%g11, H11, %h11⟩, ⟨%g13, H13, %h13⟩⟩
      rw [St.at_succ]
      iapply (trip c i arg3 harg3 arg4 harg4 arg5 harg5 arg6 harg6 arg7 harg7 arg8 harg8 arg9 harg9 arg10 harg10 arg11 harg11 arg12 harg12 arg13 harg13 arg14 harg14 (bodyRun.sl.r_1 arg7 f7) (bodyRun.sl.r_4 arg3 f3) f4 f5 k _ g10 g11 g13 h10 h11 h13)
      isplitl [H4]; · iexact H4
      isplitl [H5]; · iexact H5
      isplitl [H10]; · iexact H10
      isplitl [H11]; · iexact H11
      iexact H13
    · isplitl [H4]; · iexact H4
      isplitl [H5]; · iexact H5
      isplitl [H10]
      · iexists _; isplitl [H10]; · iexact H10
        ipureintro; exact read_store _ off2_zero _ _ _ _
      isplitl [H11]
      · iexists _; isplitl [H11]; · iexact H11
        ipureintro; exact read_store _ off2_zero _ _ _ _
      iexists _; isplitl [H13]; · iexact H13
      ipureintro; exact read_store _ off2_zero _ _ _ _
    iintro %_ ⟨H4, H5, ⟨%g10, H10, %h10⟩, ⟨%g11, H11, %h11⟩, ⟨%g13, H13, %h13⟩⟩
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]
    · iexists _; isplitl [H9]; · iexact H9
      ipureintro
      refine (read_store _ off3_zero _ _ _ _).trans ?_
      simp only [if_pos hc]
      rw [← h11, ← h13, ← readAt_whole arg11.view off2_zero inb_S2048x1_S2048x1_0_0,
        ← readAt_whole arg13.view off2_zero inb_S2048x128_S2048x128_0_0]
      rw [← readAt_whole arg8.view off2_zero inb_S1x128_S1x128_0_0]; rfl
    isplitl [H10]; · iexists _; iexact H10
    isplitl [H11]; · iexists _; iexact H11
    isplitl [H12]; · iexists _; iexact H12
    isplitl [H13]; · iexists _; iexact H13
    iexists _; iexact H14
  · sl_exec
    have h566 : bodyRun.sl.v566 arg3 arg4 arg6 arg12 f3 f4 f6 = 1#1 := by
      revert hc
      delta bodyRun.sl.v566 bodyRun.sl.v569 bodyRun.sl.v565 bodyRun.sl.v568 bodyRun.sl.v567
      generalize bodyRun.sl.v564 arg3 arg4 arg6 arg12 f3 f4 f6 = x
      revert x; decide
    rw [dif_pos h566]
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]
    · iexists _; isplitl [H9]; · iexact H9
      ipureintro; exact (read_store _ off3_zero _ _ _ _).trans (if_neg hc).symm
    isplitl [H10]; · iexists _; iexact H10
    isplitl [H11]; · iexists _; iexact H11
    isplitl [H12]; · iexists _; iexact H12
    isplitl [H13]; · iexists _; iexact H13
    iexists _; iexact H14

end Cert.Kernel.Hand
end
-- ==== Proof.Fast.lean ====
module

public import proofs.«01_k».proof.Proof.Gen.KernelIdeal.Frame
public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! # What the shared-shift path computes, as a function of the blocks -/

/-- Block `i` of 768 keys (or values). -/
def kb (X : S1x8448x128.Idx → Elt F .bf16) (i : ℕ) (h : i < 11) : Vec F S1x768x128 .bf16 :=
  View.ld X (Rect.unit (s := S1x8448x128) ![0, 768 * i, 0] S1x768x128.size (by
    intro a; fin_cases a
    · exact Nat.le_refl 1
    · show 768 * i + 768 ≤ 8448; omega
    · exact Nat.le_refl 128))

/-- The scores of the stacked queries against a block of keys. -/
def score (q : FVec F S2048x128 .bf16) (K : Vec F S1x768x128 .bf16) : FVec F S2048x768 .f32 :=
  matmul dot_S2048x128_S768x128_S2048x768_1_1_0_0_n_n none q (shapeCast S768x128 K shapeCasts_S1x768x128_S768x128)
    (constant S2048x768 .f32 0#32)

/-- The weights of 128 of a block's keys. -/
def chunk (sh : FVec F S1x128 .f32) (s : FVec F S2048x768 .f32) (o : ℕ) (h : S2048x768.Slices ![0, o] S2048x128) :
    FVec F S2048x128 .f32 :=
  exp2 (subf (extractStridedSlice S2048x128 ![0, o] s h) (broadcastTo S2048x128 sh broadcasts_S1x128_S2048x128))

/-- The weights of a block's keys. -/
def probs (sh : FVec F S1x128 .f32) (s : FVec F S2048x768 .f32) : FVec F S2048x768 .bf16 :=
  shapeCast S2048x768 (concatenate S2048x768 1
    [⟨S2048x128, truncf .bf16 (chunk sh s 0 slices_S2048x768_o0_0_S2048x128) bitsLt_bf16_f32⟩,
     ⟨S2048x128, truncf .bf16 (chunk sh s 128 slices_S2048x768_o0_128_S2048x128) bitsLt_bf16_f32⟩,
     ⟨S2048x128, truncf .bf16 (chunk sh s 256 slices_S2048x768_o0_256_S2048x128) bitsLt_bf16_f32⟩,
     ⟨S2048x128, truncf .bf16 (chunk sh s 384 slices_S2048x768_o0_384_S2048x128) bitsLt_bf16_f32⟩,
     ⟨S2048x128, truncf .bf16 (chunk sh s 512 slices_S2048x768_o0_512_S2048x128) bitsLt_bf16_f32⟩,
     ⟨S2048x128, truncf .bf16 (chunk sh s 640 slices_S2048x768_o0_640_S2048x128) bitsLt_bf16_f32⟩]
    concatenates_S2048x128_S2048x128_S2048x128_S2048x128_S2048x128_S2048x128_S2048x768_d1) shapeCasts_S2048x768_S2048x768

/-- The sum of a block's weights, lane by lane. -/
def psum (sh : FVec F S1x128 .f32) (s : FVec F S2048x768 .f32) : FVec F S2048x128 .f32 :=
  addf (addf (addf (addf (addf (chunk sh s 0 slices_S2048x768_o0_0_S2048x128)
    (chunk sh s 128 slices_S2048x768_o0_128_S2048x128))
    (chunk sh s 256 slices_S2048x768_o0_256_S2048x128))
    (chunk sh s 384 slices_S2048x768_o0_384_S2048x128))
    (chunk sh s 512 slices_S2048x768_o0_512_S2048x128))
    (chunk sh s 640 slices_S2048x768_o0_640_S2048x128)

/-- The lane sums of the first `n + 1` blocks. -/
def lsum (sh : FVec F S1x128 .f32) (q : FVec F S2048x128 .bf16) (X : S1x8448x128.Idx → Elt F .bf16) : (n : ℕ) → n < 11 → FVec F S2048x128 .f32
  | 0, h => shapeCast S2048x128 (psum sh (score q (kb X 0 h))) shapeCasts_S2048x128_S2048x128
  | n + 1, h => shapeCast S2048x128 (addf (lsum sh q X n (by omega)) (psum sh (score q (kb X (n + 1) h)))) shapeCasts_S2048x128_S2048x128

/-- The rows' sums of weights. -/
def denom (sh : FVec F S1x128 .f32) (q : FVec F S2048x128 .bf16) (X : S1x8448x128.Idx → Elt F .bf16) : FVec F S2048x1 .f32 :=
  shapeCast S2048x1 (multiReduction .add [1] S2048 (lsum sh q X 10 (by omega)) 0x00000000#32 reduces_S2048x128_S2048 (.inl rfl) rfl)
    shapeCasts_S2048_S2048x1

/-- All the weights: row `r`, key `n`. -/
def allProbs (sh : FVec F S1x128 .f32) (q : FVec F S2048x128 .bf16) (X : S1x8448x128.Idx → Elt F .bf16) : S2048x8448.Idx → Elt F .bf16 :=
  fun y => probs sh (score q (kb X ((y 1).val / 768) (by have h : (y 1).val < 8448 := (y 1).isLt; omega)))
    (fun a => match a with
      | ⟨0, _⟩ => y 0
      | ⟨1, _⟩ => ⟨(y 1).val % 768, Nat.mod_lt _ (by decide)⟩)

section Blocks
variable (arg3 : Memref sig .tc .vmem S1x1024x128 .bf16) (arg4 : Memref sig .tc .vmem S1x8448x128 .bf16) (arg6 : Memref sig .tc .vmem S1x128 .f32) (f3 : BufTy.Contents (Elt F) arg3.view.ty) (f4 : BufTy.Contents (Elt F) arg4.view.ty) (f6 : BufTy.Contents (Elt F) arg6.view.ty) (arg12 : Memref sig .tc .vmem S2048x128 .f32) (arg14 : Memref sig .tc .vmem S2048x8448 .bf16)

/-- The weights stored for block 0. -/
theorem probs_0 : bodyRun.sl.v83 arg3 arg4 arg6 f3 f4 f6 = probs (bodyRun.sl.r arg6 f6) (score (bodyRun.sl.v41 arg3 f3) (kb (arg4.view.read (Elt F) f4) 0 (by decide))) := rfl
/-- The weights stored for block 1. -/
theorem probs_1 : bodyRun.sl.v128 arg3 arg4 arg6 f3 f4 f6 = probs (bodyRun.sl.r arg6 f6) (score (bodyRun.sl.v41 arg3 f3) (kb (arg4.view.read (Elt F) f4) 1 (by decide))) := rfl
/-- The weights stored for block 2. -/
theorem probs_2 : bodyRun.sl.v175 arg3 arg4 arg6 f3 f4 f6 = probs (bodyRun.sl.r arg6 f6) (score (bodyRun.sl.v41 arg3 f3) (kb (arg4.view.read (Elt F) f4) 2 (by decide))) := rfl
/-- The weights stored for block 3. -/
theorem probs_3 : bodyRun.sl.v222 arg3 arg4 arg6 f3 f4 f6 = probs (bodyRun.sl.r arg6 f6) (score (bodyRun.sl.v41 arg3 f3) (kb (arg4.view.read (Elt F) f4) 3 (by decide))) := rfl
/-- The weights stored for block 4. -/
theorem probs_4 : bodyRun.sl.v269 arg3 arg4 arg6 f3 f4 f6 = probs (bodyRun.sl.r arg6 f6) (score (bodyRun.sl.v41 arg3 f3) (kb (arg4.view.read (Elt F) f4) 4 (by decide))) := rfl
/-- The weights stored for block 5. -/
theorem probs_5 : bodyRun.sl.v316 arg3 arg4 arg6 f3 f4 f6 = probs (bodyRun.sl.r arg6 f6) (score (bodyRun.sl.v41 arg3 f3) (kb (arg4.view.read (Elt F) f4) 5 (by decide))) := rfl
/-- The weights stored for block 6. -/
theorem probs_6 : bodyRun.sl.v363 arg3 arg4 arg6 f3 f4 f6 = probs (bodyRun.sl.r arg6 f6) (score (bodyRun.sl.v41 arg3 f3) (kb (arg4.view.read (Elt F) f4) 6 (by decide))) := rfl
/-- The weights stored for block 7. -/
theorem probs_7 : bodyRun.sl.v410 arg3 arg4 arg6 f3 f4 f6 = probs (bodyRun.sl.r arg6 f6) (score (bodyRun.sl.v41 arg3 f3) (kb (arg4.view.read (Elt F) f4) 7 (by decide))) := rfl
/-- The weights stored for block 8. -/
theorem probs_8 : bodyRun.sl.v457 arg3 arg4 arg6 f3 f4 f6 = probs (bodyRun.sl.r arg6 f6) (score (bodyRun.sl.v41 arg3 f3) (kb (arg4.view.read (Elt F) f4) 8 (by decide))) := rfl
/-- The weights stored for block 9. -/
theorem probs_9 : bodyRun.sl.v504 arg3 arg4 arg6 f3 f4 f6 = probs (bodyRun.sl.r arg6 f6) (score (bodyRun.sl.v41 arg3 f3) (kb (arg4.view.read (Elt F) f4) 9 (by decide))) := rfl
/-- The weights stored for block 10. -/
theorem probs_10 : bodyRun.sl.v551 arg3 arg4 arg6 f3 f4 f6 = probs (bodyRun.sl.r arg6 f6) (score (bodyRun.sl.v41 arg3 f3) (kb (arg4.view.read (Elt F) f4) 10 (by decide))) := rfl

end Blocks

/-- A block lies within the buffer. -/
theorem block_inb (i : ℕ) (h : i < 11) (a : Fin 2) : (![0, 768 * i] : Fin 2 → ℕ) a + S2048x768.size a ≤ S2048x8448.size a := by
  match a with
  | ⟨0, _⟩ => exact Nat.le_refl 2048
  | ⟨1, _⟩ => show 768 * i + 768 ≤ 8448; omega

/-- A store of block `i`'s weights is a piece of all the weights. -/
theorem probs_piece (sh : FVec F S1x128 .f32) (q : FVec F S2048x128 .bf16) (X : S1x8448x128.Idx → Elt F .bf16) (i : ℕ) (h : i < 11)
    (inb : ∀ a, (![0, 768 * i] : Fin 2 → ℕ) a + S2048x768.size a ≤ S2048x8448.size a)
    (x : (Rect.unit (s := S2048x8448) ![0, 768 * i] S2048x768.size inb).shape.Idx) :
    probs sh (score q (kb X i h)) x = allProbs sh q X ((Rect.unit (s := S2048x8448) ![0, 768 * i] S2048x768.size inb).emb x) := by
  have hx : (x 1).val < 768 := (x 1).isLt
  have key : ∀ (y : S2048x8448.Idx), (y 0).val = (x 0).val → (y 1).val = 768 * i + (x 1).val →
      allProbs sh q X y = probs sh (score q (kb X i h)) x := by
    intro y h0 h1
    have hd : (y 1).val / 768 = i := by omega
    subst hd
    unfold allProbs
    refine congrArg _ (funext fun a => ?_)
    match a with
    | ⟨0, _⟩ => exact Fin.ext h0
    | ⟨1, _⟩ => exact Fin.ext (show (y 1).val % 768 = (x 1).val by omega)
  refine (key _ ?_ ?_).symm
  · show 0 + 1 * (x 0).val = _; omega
  · show 768 * i + 1 * (x 1).val = _; omega

/-- Every place of the weight buffer lies in one block. -/
theorem mem_block (y : S2048x8448.Idx) (i : ℕ) (inb : ∀ a, (![0, 768 * i] : Fin 2 → ℕ) a + S2048x768.size a ≤ S2048x8448.size a)
    (hi : (y 1).val / 768 = i) : y ∈ (Rect.unit (s := S2048x8448) ![0, 768 * i] S2048x768.size inb).set := by
  rw [Rect.mem_set_unit]
  intro a
  match a with
  | ⟨0, _⟩ => exact ⟨Nat.zero_le _, (Nat.zero_add 2048).symm ▸ (y 0).isLt⟩
  | ⟨1, _⟩ =>
    show 768 * i ≤ (y 1).val ∧ (y 1).val < 768 * i + 768
    omega

section Blocks
variable (arg3 : Memref sig .tc .vmem S1x1024x128 .bf16) (arg4 : Memref sig .tc .vmem S1x8448x128 .bf16) (arg6 : Memref sig .tc .vmem S1x128 .f32) (f3 : BufTy.Contents (Elt F) arg3.view.ty) (f4 : BufTy.Contents (Elt F) arg4.view.ty) (f6 : BufTy.Contents (Elt F) arg6.view.ty) (arg12 : Memref sig .tc .vmem S2048x128 .f32) (arg14 : Memref sig .tc .vmem S2048x8448 .bf16)

/-- The eleven stores fill the weight buffer. -/
theorem cover_probs (y : S2048x8448.Idx) : ∃ p ∈ bodyRun.sl.H14_11 arg3 arg4 arg6 f3 f4 f6, y ∈ p.1.set := by
  have h : (y 1).val < 8448 := (y 1).isLt
  have hd : (y 1).val / 768 < 11 := by omega
  delta bodyRun.sl.H14_11
  generalize hi : (y 1).val / 768 = i at hd
  interval_cases i
  · exact ⟨_, List.getElem_mem (n := 10) (by simp only [List.length_cons, List.length_nil]; decide), mem_block y 0 (block_inb 0 (by decide)) hi⟩
  · exact ⟨_, List.getElem_mem (n := 9) (by simp only [List.length_cons, List.length_nil]; decide), mem_block y 1 (block_inb 1 (by decide)) hi⟩
  · exact ⟨_, List.getElem_mem (n := 8) (by simp only [List.length_cons, List.length_nil]; decide), mem_block y 2 (block_inb 2 (by decide)) hi⟩
  · exact ⟨_, List.getElem_mem (n := 7) (by simp only [List.length_cons, List.length_nil]; decide), mem_block y 3 (block_inb 3 (by decide)) hi⟩
  · exact ⟨_, List.getElem_mem (n := 6) (by simp only [List.length_cons, List.length_nil]; decide), mem_block y 4 (block_inb 4 (by decide)) hi⟩
  · exact ⟨_, List.getElem_mem (n := 5) (by simp only [List.length_cons, List.length_nil]; decide), mem_block y 5 (block_inb 5 (by decide)) hi⟩
  · exact ⟨_, List.getElem_mem (n := 4) (by simp only [List.length_cons, List.length_nil]; decide), mem_block y 6 (block_inb 6 (by decide)) hi⟩
  · exact ⟨_, List.getElem_mem (n := 3) (by simp only [List.length_cons, List.length_nil]; decide), mem_block y 7 (block_inb 7 (by decide)) hi⟩
  · exact ⟨_, List.getElem_mem (n := 2) (by simp only [List.length_cons, List.length_nil]; decide), mem_block y 8 (block_inb 8 (by decide)) hi⟩
  · exact ⟨_, List.getElem_mem (n := 1) (by simp only [List.length_cons, List.length_nil]; decide), mem_block y 9 (block_inb 9 (by decide)) hi⟩
  · exact ⟨_, List.getElem_mem (n := 0) (by simp only [List.length_cons, List.length_nil]; decide), mem_block y 10 (block_inb 10 (by decide)) hi⟩

/-- The weight buffer after the eleven stores. -/
theorem canon_probs : View.canon (bodyRun.sl.H14_11 arg3 arg4 arg6 f3 f4 f6) = allProbs (bodyRun.sl.r arg6 f6) (bodyRun.sl.v41 arg3 f3) (arg4.view.read (Elt F) f4) := by
  funext y
  refine View.canon_apply_of_pieces _ _ ?_ y (cover_probs _ _ _ _ _ _ y)
  delta bodyRun.sl.H14_11
  intro p hp
  simp only [List.mem_cons, List.not_mem_nil, or_false] at hp
  rcases hp with rfl | rfl | rfl | rfl | rfl | rfl | rfl | rfl | rfl | rfl | rfl
  · exact fun x => probs_piece (bodyRun.sl.r arg6 f6) (bodyRun.sl.v41 arg3 f3) (arg4.view.read (Elt F) f4) 10 (by decide) (block_inb 10 (by decide)) x
  · exact fun x => probs_piece (bodyRun.sl.r arg6 f6) (bodyRun.sl.v41 arg3 f3) (arg4.view.read (Elt F) f4) 9 (by decide) (block_inb 9 (by decide)) x
  · exact fun x => probs_piece (bodyRun.sl.r arg6 f6) (bodyRun.sl.v41 arg3 f3) (arg4.view.read (Elt F) f4) 8 (by decide) (block_inb 8 (by decide)) x
  · exact fun x => probs_piece (bodyRun.sl.r arg6 f6) (bodyRun.sl.v41 arg3 f3) (arg4.view.read (Elt F) f4) 7 (by decide) (block_inb 7 (by decide)) x
  · exact fun x => probs_piece (bodyRun.sl.r arg6 f6) (bodyRun.sl.v41 arg3 f3) (arg4.view.read (Elt F) f4) 6 (by decide) (block_inb 6 (by decide)) x
  · exact fun x => probs_piece (bodyRun.sl.r arg6 f6) (bodyRun.sl.v41 arg3 f3) (arg4.view.read (Elt F) f4) 5 (by decide) (block_inb 5 (by decide)) x
  · exact fun x => probs_piece (bodyRun.sl.r arg6 f6) (bodyRun.sl.v41 arg3 f3) (arg4.view.read (Elt F) f4) 4 (by decide) (block_inb 4 (by decide)) x
  · exact fun x => probs_piece (bodyRun.sl.r arg6 f6) (bodyRun.sl.v41 arg3 f3) (arg4.view.read (Elt F) f4) 3 (by decide) (block_inb 3 (by decide)) x
  · exact fun x => probs_piece (bodyRun.sl.r arg6 f6) (bodyRun.sl.v41 arg3 f3) (arg4.view.read (Elt F) f4) 2 (by decide) (block_inb 2 (by decide)) x
  · exact fun x => probs_piece (bodyRun.sl.r arg6 f6) (bodyRun.sl.v41 arg3 f3) (arg4.view.read (Elt F) f4) 1 (by decide) (block_inb 1 (by decide)) x
  · exact fun x => probs_piece (bodyRun.sl.r arg6 f6) (bodyRun.sl.v41 arg3 f3) (arg4.view.read (Elt F) f4) 0 (by decide) (block_inb 0 (by decide)) x

/-- A load of the weight buffer reads the weights there. -/
theorem load_probs : (fun r : Rect S2048x8448 => arg14.view.readCov (bodyRun.sl.H14_11 arg3 arg4 arg6 f3 f4 f6) r.toLoadRect)
    = fun r => View.ld (allProbs (bodyRun.sl.r arg6 f6) (bodyRun.sl.v41 arg3 f3) (arg4.view.read (Elt F) f4)) r := by
  funext r
  rw [View.readCov_eq_canon_ld _ _ _ (cover_probs _ _ _ _ _ _), canon_probs]

/-- The lane sums after 1 blocks. -/
theorem lsum_0 : bodyRun.sl.v129 arg3 arg4 arg6 arg12 f3 f4 f6 = lsum (bodyRun.sl.r arg6 f6) (bodyRun.sl.v41 arg3 f3) (arg4.view.read (Elt F) f4) 0 (by decide) := by
  refine (readCov_whole _ off2_zero _ _ _).trans ?_
  rfl
/-- The lane sums after 2 blocks. -/
theorem lsum_1 : bodyRun.sl.v176 arg3 arg4 arg6 arg12 f3 f4 f6 = lsum (bodyRun.sl.r arg6 f6) (bodyRun.sl.v41 arg3 f3) (arg4.view.read (Elt F) f4) 1 (by decide) := by
  refine (readCov_whole _ off2_zero _ _ _).trans ?_
  rw [lsum, ← lsum_0 arg3 arg4 arg6 f3 f4 f6 arg12]
  rfl
/-- The lane sums after 3 blocks. -/
theorem lsum_2 : bodyRun.sl.v223 arg3 arg4 arg6 arg12 f3 f4 f6 = lsum (bodyRun.sl.r arg6 f6) (bodyRun.sl.v41 arg3 f3) (arg4.view.read (Elt F) f4) 2 (by decide) := by
  refine (readCov_whole _ off2_zero _ _ _).trans ?_
  rw [lsum, ← lsum_1 arg3 arg4 arg6 f3 f4 f6 arg12]
  rfl
/-- The lane sums after 4 blocks. -/
theorem lsum_3 : bodyRun.sl.v270 arg3 arg4 arg6 arg12 f3 f4 f6 = lsum (bodyRun.sl.r arg6 f6) (bodyRun.sl.v41 arg3 f3) (arg4.view.read (Elt F) f4) 3 (by decide) := by
  refine (readCov_whole _ off2_zero _ _ _).trans ?_
  rw [lsum, ← lsum_2 arg3 arg4 arg6 f3 f4 f6 arg12]
  rfl
/-- The lane sums after 5 blocks. -/
theorem lsum_4 : bodyRun.sl.v317 arg3 arg4 arg6 arg12 f3 f4 f6 = lsum (bodyRun.sl.r arg6 f6) (bodyRun.sl.v41 arg3 f3) (arg4.view.read (Elt F) f4) 4 (by decide) := by
  refine (readCov_whole _ off2_zero _ _ _).trans ?_
  rw [lsum, ← lsum_3 arg3 arg4 arg6 f3 f4 f6 arg12]
  rfl
/-- The lane sums after 6 blocks. -/
theorem lsum_5 : bodyRun.sl.v364 arg3 arg4 arg6 arg12 f3 f4 f6 = lsum (bodyRun.sl.r arg6 f6) (bodyRun.sl.v41 arg3 f3) (arg4.view.read (Elt F) f4) 5 (by decide) := by
  refine (readCov_whole _ off2_zero _ _ _).trans ?_
  rw [lsum, ← lsum_4 arg3 arg4 arg6 f3 f4 f6 arg12]
  rfl
/-- The lane sums after 7 blocks. -/
theorem lsum_6 : bodyRun.sl.v411 arg3 arg4 arg6 arg12 f3 f4 f6 = lsum (bodyRun.sl.r arg6 f6) (bodyRun.sl.v41 arg3 f3) (arg4.view.read (Elt F) f4) 6 (by decide) := by
  refine (readCov_whole _ off2_zero _ _ _).trans ?_
  rw [lsum, ← lsum_5 arg3 arg4 arg6 f3 f4 f6 arg12]
  rfl
/-- The lane sums after 8 blocks. -/
theorem lsum_7 : bodyRun.sl.v458 arg3 arg4 arg6 arg12 f3 f4 f6 = lsum (bodyRun.sl.r arg6 f6) (bodyRun.sl.v41 arg3 f3) (arg4.view.read (Elt F) f4) 7 (by decide) := by
  refine (readCov_whole _ off2_zero _ _ _).trans ?_
  rw [lsum, ← lsum_6 arg3 arg4 arg6 f3 f4 f6 arg12]
  rfl
/-- The lane sums after 9 blocks. -/
theorem lsum_8 : bodyRun.sl.v505 arg3 arg4 arg6 arg12 f3 f4 f6 = lsum (bodyRun.sl.r arg6 f6) (bodyRun.sl.v41 arg3 f3) (arg4.view.read (Elt F) f4) 8 (by decide) := by
  refine (readCov_whole _ off2_zero _ _ _).trans ?_
  rw [lsum, ← lsum_7 arg3 arg4 arg6 f3 f4 f6 arg12]
  rfl
/-- The lane sums after 10 blocks. -/
theorem lsum_9 : bodyRun.sl.v552 arg3 arg4 arg6 arg12 f3 f4 f6 = lsum (bodyRun.sl.r arg6 f6) (bodyRun.sl.v41 arg3 f3) (arg4.view.read (Elt F) f4) 9 (by decide) := by
  refine (readCov_whole _ off2_zero _ _ _).trans ?_
  rw [lsum, ← lsum_8 arg3 arg4 arg6 f3 f4 f6 arg12]
  rfl
/-- The lane sums after 11 blocks. -/
theorem lsum_10 : bodyRun.sl.v557 arg3 arg4 arg6 arg12 f3 f4 f6 = lsum (bodyRun.sl.r arg6 f6) (bodyRun.sl.v41 arg3 f3) (arg4.view.read (Elt F) f4) 10 (by decide) := by
  refine (readCov_whole _ off2_zero _ _ _).trans ?_
  rw [lsum, ← lsum_9 arg3 arg4 arg6 f3 f4 f6 arg12]
  rfl
/-- The rows' sums. -/
theorem denom_eq : bodyRun.sl.v559 arg3 arg4 arg6 arg12 f3 f4 f6 = denom (bodyRun.sl.r arg6 f6) (bodyRun.sl.v41 arg3 f3) (arg4.view.read (Elt F) f4) := by
  rw [denom, ← lsum_10 arg3 arg4 arg6 f3 f4 f6 arg12]
  rfl

end Blocks

end Cert.KernelIdeal.Hand

end
-- ==== Proof.Mix.lean ====
module

public import proofs.«01_k».proof.Proof.Gen.KernelIdeal.Frame
public import proofs.«01_k».proof.Proof.Fast

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! # The shared-shift path's accumulation and the block it leaves -/

theorem mix_inb {r : ℕ} (hr : r ≤ 1024) {o : ℕ} (ho : o + 128 ≤ 8448) (a : Fin 2) :
    (![r, o] : Fin 2 → ℕ) a + S1024x128.size a ≤ S2048x8448.size a := by
  match a with
  | ⟨0, _⟩ => show r + 1024 ≤ 2048; omega
  | ⟨1, _⟩ => exact ho

/-- The difference of the two maps' weights over 128 keys: the second one's scaled by `rho`. -/
def diffAt (rho : FVec F S1024x128 .bf16) (L : (r : Rect S2048x8448) → r.shape.Idx → Elt F .bf16) (o : ℕ) (ho : o + 128 ≤ 8448) :
    FVec F S1024x128 .bf16 :=
  subf (L (Rect.unit ![0, o] S1024x128.size (mix_inb (by decide) ho))) (mulf rho (L (Rect.unit ![1024, o] S1024x128.size (mix_inb (by decide) ho))))

/-- The difference over a block of 768 keys. -/
def mix (rho : FVec F S1024x128 .bf16) (L : (r : Rect S2048x8448) → r.shape.Idx → Elt F .bf16) (i : ℕ) (h : i < 11) : FVec F S1024x768 .bf16 :=
  concatenate S1024x768 1
    [⟨S1024x128, diffAt rho L (768 * i + 0) (by omega)⟩,
     ⟨S1024x128, diffAt rho L (768 * i + 128) (by omega)⟩,
     ⟨S1024x128, diffAt rho L (768 * i + 256) (by omega)⟩,
     ⟨S1024x128, diffAt rho L (768 * i + 384) (by omega)⟩,
     ⟨S1024x128, diffAt rho L (768 * i + 512) (by omega)⟩,
     ⟨S1024x128, diffAt rho L (768 * i + 640) (by omega)⟩]
    concatenates_S1024x128_S1024x128_S1024x128_S1024x128_S1024x128_S1024x128_S1024x768_d1

/-- The block's weighted values. -/
def pvAt (rho : FVec F S1024x128 .bf16) (L : (r : Rect S2048x8448) → r.shape.Idx → Elt F .bf16) (XV : S1x8448x128.Idx → Elt F .bf16) (i : ℕ) (h : i < 11) :
    FVec F S1024x128 .f32 :=
  matmul dot_S1024x768_S768x128_S1024x128_1_0_0_1_n_n none (mix rho L i h) (shapeCast S768x128 (kb XV i h) shapeCasts_S1x768x128_S768x128)
    (constant S1024x128 .f32 0#32)

/-- The weighted values of the first `n + 1` blocks. -/
def accAt (rho : FVec F S1024x128 .bf16) (L : (r : Rect S2048x8448) → r.shape.Idx → Elt F .bf16) (XV : S1x8448x128.Idx → Elt F .bf16) : (n : ℕ) → n < 11 → FVec F S1024x128 .f32
  | 0, h => pvAt rho L XV 0 h
  | n + 1, h => addf (accAt rho L XV n (by omega)) (pvAt rho L XV (n + 1) h)

/-- The first map's row sums. -/
def den1 (d : FVec F S2048x1 .f32) : FVec F S1024x1 .f32 := extractStridedSlice S1024x1 ![0, 0] d slices_S2048x1_o0_0_S1024x1

/-- The second map's row sums. -/
def den2 (d : FVec F S2048x1 .f32) : FVec F S1024x1 .f32 := extractStridedSlice S1024x1 ![1024, 0] d slices_S2048x1_o1024_0_S1024x1

/-- The second map's factor: `λ` times the first map's row sum over the second's. -/
def rhoOf (lam : FVec F S1x1 .f32) (d : FVec F S2048x1 .f32) : FVec F S1024x128 .bf16 :=
  truncf .bf16 (broadcastTo S1024x128 (shapeCast S1024x1
    (divf (mulf (broadcastTo S1024x1 lam broadcasts_S1x1_S1024x1) (den1 d)) (den2 d)) shapeCasts_S1024x1_S1024x1)
    broadcasts_S1024x1_S1024x128) bitsLt_bf16_f32

/-- The end of either path: the root mean square normalization, the weight `sub` and the constant factor. -/
def normed (a : FVec F S1024x128 .f32) : FVec F S1024x128 .f32 :=
  mulf a (broadcastTo S1024x128 (rsqrt (addf (divf (shapeCast S1024x1
    (multiReduction .add [1] S1024 (mulf a a) 0x00000000#32 reduces_S1024x128_S1024 (.inl rfl) rfl) shapeCasts_S1024_S1024x1)
    (broadcast S1024x1 (Scalar.ofBits .f32 0x43000000#32))) (broadcast S1024x1 (Scalar.ofBits .f32 0x358637BD#32))))
    broadcasts_S1024x1_S1024x128)

/-- The two last factors and the rounding. -/
def scaled (x : FVec F S1024x128 .f32) (sub : FVec F S1x128 .f32) : FVec F S1024x128 .bf16 :=
  truncf .bf16 (mulf (mulf x (broadcastTo S1024x128 sub broadcasts_S1x128_S1024x128)) (broadcast S1024x128 (Scalar.ofBits .f32 0x3EE34C57#32)))
    bitsLt_bf16_f32

section Blocks
variable (arg3 : Memref sig .tc .vmem S1x1024x128 .bf16) (arg4 : Memref sig .tc .vmem S1x8448x128 .bf16) (arg5 : Memref sig .tc .vmem S1x8448x128 .bf16) (arg6 : Memref sig .tc .vmem S1x128 .f32) (arg7 : Memref sig .tc .vmem S4x64 .f32) (arg8 : Memref sig .tc .vmem S1x128 .f32) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (arg12 : Memref sig .tc .vmem S2048x128 .f32) (arg14 : Memref sig .tc .vmem S2048x8448 .bf16)

/-- `rho`, of the row sums. -/
theorem rho_eq : bodyRun.sl.v577 arg3 arg4 arg6 arg7 arg12 f3 f4 f6 f7
    = rhoOf (bodyRun.sl.r_1 arg7 f7) (bodyRun.sl.v559 arg3 arg4 arg6 arg12 f3 f4 f6) := rfl

/-- Block 0's weighted values. -/
theorem pv_0 : bodyRun.sl.v605 arg3 arg4 arg5 arg6 arg7 arg12 arg14 f3 f4 f5 f6 f7 = pvAt (bodyRun.sl.v577 arg3 arg4 arg6 arg7 arg12 f3 f4 f6 f7) (fun r : Rect S2048x8448 => arg14.view.readCov (bodyRun.sl.H14_11 arg3 arg4 arg6 f3 f4 f6) r.toLoadRect) (arg5.view.read (Elt F) f5) 0 (by decide) := rfl
/-- Block 1's weighted values. -/
theorem pv_1 : bodyRun.sl.v633 arg3 arg4 arg5 arg6 arg7 arg12 arg14 f3 f4 f5 f6 f7 = pvAt (bodyRun.sl.v577 arg3 arg4 arg6 arg7 arg12 f3 f4 f6 f7) (fun r : Rect S2048x8448 => arg14.view.readCov (bodyRun.sl.H14_11 arg3 arg4 arg6 f3 f4 f6) r.toLoadRect) (arg5.view.read (Elt F) f5) 1 (by decide) := rfl
/-- Block 2's weighted values. -/
theorem pv_2 : bodyRun.sl.v662 arg3 arg4 arg5 arg6 arg7 arg12 arg14 f3 f4 f5 f6 f7 = pvAt (bodyRun.sl.v577 arg3 arg4 arg6 arg7 arg12 f3 f4 f6 f7) (fun r : Rect S2048x8448 => arg14.view.readCov (bodyRun.sl.H14_11 arg3 arg4 arg6 f3 f4 f6) r.toLoadRect) (arg5.view.read (Elt F) f5) 2 (by decide) := rfl
/-- Block 3's weighted values. -/
theorem pv_3 : bodyRun.sl.v691 arg3 arg4 arg5 arg6 arg7 arg12 arg14 f3 f4 f5 f6 f7 = pvAt (bodyRun.sl.v577 arg3 arg4 arg6 arg7 arg12 f3 f4 f6 f7) (fun r : Rect S2048x8448 => arg14.view.readCov (bodyRun.sl.H14_11 arg3 arg4 arg6 f3 f4 f6) r.toLoadRect) (arg5.view.read (Elt F) f5) 3 (by decide) := rfl
/-- Block 4's weighted values. -/
theorem pv_4 : bodyRun.sl.v720 arg3 arg4 arg5 arg6 arg7 arg12 arg14 f3 f4 f5 f6 f7 = pvAt (bodyRun.sl.v577 arg3 arg4 arg6 arg7 arg12 f3 f4 f6 f7) (fun r : Rect S2048x8448 => arg14.view.readCov (bodyRun.sl.H14_11 arg3 arg4 arg6 f3 f4 f6) r.toLoadRect) (arg5.view.read (Elt F) f5) 4 (by decide) := rfl
/-- Block 5's weighted values. -/
theorem pv_5 : bodyRun.sl.v749 arg3 arg4 arg5 arg6 arg7 arg12 arg14 f3 f4 f5 f6 f7 = pvAt (bodyRun.sl.v577 arg3 arg4 arg6 arg7 arg12 f3 f4 f6 f7) (fun r : Rect S2048x8448 => arg14.view.readCov (bodyRun.sl.H14_11 arg3 arg4 arg6 f3 f4 f6) r.toLoadRect) (arg5.view.read (Elt F) f5) 5 (by decide) := rfl
/-- Block 6's weighted values. -/
theorem pv_6 : bodyRun.sl.v778 arg3 arg4 arg5 arg6 arg7 arg12 arg14 f3 f4 f5 f6 f7 = pvAt (bodyRun.sl.v577 arg3 arg4 arg6 arg7 arg12 f3 f4 f6 f7) (fun r : Rect S2048x8448 => arg14.view.readCov (bodyRun.sl.H14_11 arg3 arg4 arg6 f3 f4 f6) r.toLoadRect) (arg5.view.read (Elt F) f5) 6 (by decide) := rfl
/-- Block 7's weighted values. -/
theorem pv_7 : bodyRun.sl.v807 arg3 arg4 arg5 arg6 arg7 arg12 arg14 f3 f4 f5 f6 f7 = pvAt (bodyRun.sl.v577 arg3 arg4 arg6 arg7 arg12 f3 f4 f6 f7) (fun r : Rect S2048x8448 => arg14.view.readCov (bodyRun.sl.H14_11 arg3 arg4 arg6 f3 f4 f6) r.toLoadRect) (arg5.view.read (Elt F) f5) 7 (by decide) := rfl
/-- Block 8's weighted values. -/
theorem pv_8 : bodyRun.sl.v836 arg3 arg4 arg5 arg6 arg7 arg12 arg14 f3 f4 f5 f6 f7 = pvAt (bodyRun.sl.v577 arg3 arg4 arg6 arg7 arg12 f3 f4 f6 f7) (fun r : Rect S2048x8448 => arg14.view.readCov (bodyRun.sl.H14_11 arg3 arg4 arg6 f3 f4 f6) r.toLoadRect) (arg5.view.read (Elt F) f5) 8 (by decide) := rfl
/-- Block 9's weighted values. -/
theorem pv_9 : bodyRun.sl.v865 arg3 arg4 arg5 arg6 arg7 arg12 arg14 f3 f4 f5 f6 f7 = pvAt (bodyRun.sl.v577 arg3 arg4 arg6 arg7 arg12 f3 f4 f6 f7) (fun r : Rect S2048x8448 => arg14.view.readCov (bodyRun.sl.H14_11 arg3 arg4 arg6 f3 f4 f6) r.toLoadRect) (arg5.view.read (Elt F) f5) 9 (by decide) := rfl
/-- Block 10's weighted values. -/
theorem pv_10 : bodyRun.sl.v894 arg3 arg4 arg5 arg6 arg7 arg12 arg14 f3 f4 f5 f6 f7 = pvAt (bodyRun.sl.v577 arg3 arg4 arg6 arg7 arg12 f3 f4 f6 f7) (fun r : Rect S2048x8448 => arg14.view.readCov (bodyRun.sl.H14_11 arg3 arg4 arg6 f3 f4 f6) r.toLoadRect) (arg5.view.read (Elt F) f5) 10 (by decide) := rfl
/-- The weighted values of 1 blocks. -/
theorem acc_0 : bodyRun.sl.v605 arg3 arg4 arg5 arg6 arg7 arg12 arg14 f3 f4 f5 f6 f7 = accAt (bodyRun.sl.v577 arg3 arg4 arg6 arg7 arg12 f3 f4 f6 f7) (fun r : Rect S2048x8448 => arg14.view.readCov (bodyRun.sl.H14_11 arg3 arg4 arg6 f3 f4 f6) r.toLoadRect) (arg5.view.read (Elt F) f5) 0 (by decide) := by
  rw [accAt, ← pv_0]
/-- The weighted values of 2 blocks. -/
theorem acc_1 : bodyRun.sl.v634 arg3 arg4 arg5 arg6 arg7 arg12 arg14 f3 f4 f5 f6 f7 = accAt (bodyRun.sl.v577 arg3 arg4 arg6 arg7 arg12 f3 f4 f6 f7) (fun r : Rect S2048x8448 => arg14.view.readCov (bodyRun.sl.H14_11 arg3 arg4 arg6 f3 f4 f6) r.toLoadRect) (arg5.view.read (Elt F) f5) 1 (by decide) := by
  rw [accAt, ← pv_1, ← acc_0]
  rfl
/-- The weighted values of 3 blocks. -/
theorem acc_2 : bodyRun.sl.v663 arg3 arg4 arg5 arg6 arg7 arg12 arg14 f3 f4 f5 f6 f7 = accAt (bodyRun.sl.v577 arg3 arg4 arg6 arg7 arg12 f3 f4 f6 f7) (fun r : Rect S2048x8448 => arg14.view.readCov (bodyRun.sl.H14_11 arg3 arg4 arg6 f3 f4 f6) r.toLoadRect) (arg5.view.read (Elt F) f5) 2 (by decide) := by
  rw [accAt, ← pv_2, ← acc_1]
  rfl
/-- The weighted values of 4 blocks. -/
theorem acc_3 : bodyRun.sl.v692 arg3 arg4 arg5 arg6 arg7 arg12 arg14 f3 f4 f5 f6 f7 = accAt (bodyRun.sl.v577 arg3 arg4 arg6 arg7 arg12 f3 f4 f6 f7) (fun r : Rect S2048x8448 => arg14.view.readCov (bodyRun.sl.H14_11 arg3 arg4 arg6 f3 f4 f6) r.toLoadRect) (arg5.view.read (Elt F) f5) 3 (by decide) := by
  rw [accAt, ← pv_3, ← acc_2]
  rfl
/-- The weighted values of 5 blocks. -/
theorem acc_4 : bodyRun.sl.v721 arg3 arg4 arg5 arg6 arg7 arg12 arg14 f3 f4 f5 f6 f7 = accAt (bodyRun.sl.v577 arg3 arg4 arg6 arg7 arg12 f3 f4 f6 f7) (fun r : Rect S2048x8448 => arg14.view.readCov (bodyRun.sl.H14_11 arg3 arg4 arg6 f3 f4 f6) r.toLoadRect) (arg5.view.read (Elt F) f5) 4 (by decide) := by
  rw [accAt, ← pv_4, ← acc_3]
  rfl
/-- The weighted values of 6 blocks. -/
theorem acc_5 : bodyRun.sl.v750 arg3 arg4 arg5 arg6 arg7 arg12 arg14 f3 f4 f5 f6 f7 = accAt (bodyRun.sl.v577 arg3 arg4 arg6 arg7 arg12 f3 f4 f6 f7) (fun r : Rect S2048x8448 => arg14.view.readCov (bodyRun.sl.H14_11 arg3 arg4 arg6 f3 f4 f6) r.toLoadRect) (arg5.view.read (Elt F) f5) 5 (by decide) := by
  rw [accAt, ← pv_5, ← acc_4]
  rfl
/-- The weighted values of 7 blocks. -/
theorem acc_6 : bodyRun.sl.v779 arg3 arg4 arg5 arg6 arg7 arg12 arg14 f3 f4 f5 f6 f7 = accAt (bodyRun.sl.v577 arg3 arg4 arg6 arg7 arg12 f3 f4 f6 f7) (fun r : Rect S2048x8448 => arg14.view.readCov (bodyRun.sl.H14_11 arg3 arg4 arg6 f3 f4 f6) r.toLoadRect) (arg5.view.read (Elt F) f5) 6 (by decide) := by
  rw [accAt, ← pv_6, ← acc_5]
  rfl
/-- The weighted values of 8 blocks. -/
theorem acc_7 : bodyRun.sl.v808 arg3 arg4 arg5 arg6 arg7 arg12 arg14 f3 f4 f5 f6 f7 = accAt (bodyRun.sl.v577 arg3 arg4 arg6 arg7 arg12 f3 f4 f6 f7) (fun r : Rect S2048x8448 => arg14.view.readCov (bodyRun.sl.H14_11 arg3 arg4 arg6 f3 f4 f6) r.toLoadRect) (arg5.view.read (Elt F) f5) 7 (by decide) := by
  rw [accAt, ← pv_7, ← acc_6]
  rfl
/-- The weighted values of 9 blocks. -/
theorem acc_8 : bodyRun.sl.v837 arg3 arg4 arg5 arg6 arg7 arg12 arg14 f3 f4 f5 f6 f7 = accAt (bodyRun.sl.v577 arg3 arg4 arg6 arg7 arg12 f3 f4 f6 f7) (fun r : Rect S2048x8448 => arg14.view.readCov (bodyRun.sl.H14_11 arg3 arg4 arg6 f3 f4 f6) r.toLoadRect) (arg5.view.read (Elt F) f5) 8 (by decide) := by
  rw [accAt, ← pv_8, ← acc_7]
  rfl
/-- The weighted values of 10 blocks. -/
theorem acc_9 : bodyRun.sl.v866 arg3 arg4 arg5 arg6 arg7 arg12 arg14 f3 f4 f5 f6 f7 = accAt (bodyRun.sl.v577 arg3 arg4 arg6 arg7 arg12 f3 f4 f6 f7) (fun r : Rect S2048x8448 => arg14.view.readCov (bodyRun.sl.H14_11 arg3 arg4 arg6 f3 f4 f6) r.toLoadRect) (arg5.view.read (Elt F) f5) 9 (by decide) := by
  rw [accAt, ← pv_9, ← acc_8]
  rfl
/-- The weighted values of 11 blocks. -/
theorem acc_10 : bodyRun.sl.v895 arg3 arg4 arg5 arg6 arg7 arg12 arg14 f3 f4 f5 f6 f7 = accAt (bodyRun.sl.v577 arg3 arg4 arg6 arg7 arg12 f3 f4 f6 f7) (fun r : Rect S2048x8448 => arg14.view.readCov (bodyRun.sl.H14_11 arg3 arg4 arg6 f3 f4 f6) r.toLoadRect) (arg5.view.read (Elt F) f5) 10 (by decide) := by
  rw [accAt, ← pv_10, ← acc_9]
  rfl

/-- What the shared-shift path leaves. -/
theorem fast_eq : bodyRun.sl.v914 arg3 arg4 arg5 arg6 arg7 arg8 arg12 arg14 f3 f4 f5 f6 f7 f8
    = scaled (normed (divf (bodyRun.sl.v895 arg3 arg4 arg5 arg6 arg7 arg12 arg14 f3 f4 f5 f6 f7) (broadcastTo S1024x128 (den1 (bodyRun.sl.v559 arg3 arg4 arg6 arg12 f3 f4 f6)) broadcasts_S1024x1_S1024x128)))
      (k0_pay38 (arg8.view.read (Elt F) f8)) := by
  rw [← readAt_whole arg8.view off2_zero inb_S1x128_S1x128_0_0]
  rfl

end Blocks

end Cert.KernelIdeal.Hand

end
-- ==== Proof.Out.lean ====
module

public import proofs.«01_k».proof.Proof.Gen.KernelIdeal.Frame
public import proofs.«01_k».proof.Proof.Mix
public import proofs.«01_k».proof.Proof.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! # The block a grid point writes, as a function of the blocks it reads -/

/-- The stacked queries: the block's queries with only the first map's lanes, over the same with only the second's. -/
def qs (X3 : Vec F S1x1024x128 .bf16) : FVec F S2048x128 .bf16 := k0_pay45 (k0_pay43 X3) (k0_pay44 X3)

/-- The attention of the block by the shared shift. -/
def fastA (X3 : Vec F S1x1024x128 .bf16) (X4 X5 : S1x8448x128.Idx → Elt F .bf16) (X6 : Vec F S1x128 .f32) (X7 : Vec F S4x64 .f32) :
    FVec F S1024x128 .f32 :=
  divf (accAt (rhoOf (k0_pay41 X7) (denom (k0_pay40 X6) (qs X3) X4)) (fun r => View.ld (allProbs (k0_pay40 X6) (qs X3) X4) r) X5 10 (by decide))
    (broadcastTo S1024x128 (den1 (denom (k0_pay40 X6) (qs X3) X4)) broadcasts_S1024x1_S1024x128)

/-- The attention of the block by the online softmax, of the loop's last state. -/
def exactOf (lam : FVec F S1x1 .f32) (s : St F) : FVec F S1024x128 .f32 :=
  subf (extractStridedSlice S1024x128 ![0, 0] (divf s.acc (broadcastTo S2048x128 s.l broadcasts_S2048x1_S2048x128)) slices_S2048x128_o0_0_S1024x128)
    (mulf (broadcastTo S1024x128 lam broadcasts_S1x1_S1024x128)
      (extractStridedSlice S1024x128 ![1024, 0] (divf s.acc (broadcastTo S2048x128 s.l broadcasts_S2048x1_S2048x128)) slices_S2048x128_o1024_0_S1024x128))

/-- The attention of the block by the online softmax. -/
def exactA (X3 : Vec F S1x1024x128 .bf16) (X4 X5 : S1x8448x128.Idx → Elt F .bf16) (X7 : Vec F S4x64 .f32) : FVec F S1024x128 .f32 :=
  exactOf (k0_pay41 X7) (St.at (qs X3) X4 X5 k0_t1_loop.trips)

/-- The block written, of the attention. -/
def blockOf (a : FVec F S1024x128 .f32) (X8 : Vec F S1x128 .f32) : FVec F S1x1024x128 .bf16 :=
  shapeCast S1x1024x128 (scaled (normed a) (k0_pay38 X8)) shapeCasts_S1024x128_S1x1024x128

section Blocks
variable (arg3 : Memref sig .tc .vmem S1x1024x128 .bf16) (arg4 : Memref sig .tc .vmem S1x8448x128 .bf16) (arg5 : Memref sig .tc .vmem S1x8448x128 .bf16) (arg6 : Memref sig .tc .vmem S1x128 .f32) (arg7 : Memref sig .tc .vmem S4x64 .f32) (arg8 : Memref sig .tc .vmem S1x128 .f32) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (arg12 : Memref sig .tc .vmem S2048x128 .f32) (arg14 : Memref sig .tc .vmem S2048x8448 .bf16)

theorem q_eq : bodyRun.sl.v41 arg3 f3 = qs (arg3.view.read (Elt F) f3) := by
  rw [← readAt_whole arg3.view (off := k0_off1) off3_zero k0_off1_inb]
  rfl

theorem sh_eq : bodyRun.sl.r arg6 f6 = k0_pay40 (arg6.view.read (Elt F) f6) := by
  rw [← readAt_whole arg6.view off2_zero inb_S1x128_S1x128_0_0]
  rfl

theorem lam_eq : bodyRun.sl.r_1 arg7 f7 = k0_pay41 (arg7.view.read (Elt F) f7) := by
  rw [← readAt_whole arg7.view off2_zero inb_S4x64_S4x64_0_0]
  rfl

/-- The shared-shift path's block. -/
theorem fast_block : k0_pay1 (bodyRun.sl.v914 arg3 arg4 arg5 arg6 arg7 arg8 arg12 arg14 f3 f4 f5 f6 f7 f8)
    = blockOf (fastA (arg3.view.read (Elt F) f3) (arg4.view.read (Elt F) f4) (arg5.view.read (Elt F) f5) (arg6.view.read (Elt F) f6)
        (arg7.view.read (Elt F) f7)) (arg8.view.read (Elt F) f8) := by
  rw [fast_eq, acc_10, load_probs, rho_eq, denom_eq, q_eq, sh_eq, lam_eq]
  rfl

/-- The exact path's block. -/
theorem exact_block : k0_pay2 (k0_pay37 (bodyRun.sl.r_1 arg7 f7)
      (St.at (bodyRun.sl.v41 arg3 f3) (arg4.view.read (Elt F) f4) (arg5.view.read (Elt F) f5) k0_t1_loop.trips).acc
      (St.at (bodyRun.sl.v41 arg3 f3) (arg4.view.read (Elt F) f4) (arg5.view.read (Elt F) f5) k0_t1_loop.trips).l)
      (k0_pay38 (arg8.view.read (Elt F) f8))
    = blockOf (exactA (arg3.view.read (Elt F) f3) (arg4.view.read (Elt F) f4) (arg5.view.read (Elt F) f5)
        (arg7.view.read (Elt F) f7)) (arg8.view.read (Elt F) f8) := by
  rw [q_eq, lam_eq]
  rfl

end Blocks

variable (m : (ℓ : Loc nD τ sig) → Buf (Elt F) ℓ)

/-- The block a grid point writes is one of the two. -/
theorem outAt_eq (c : Dev nD) (t : Fin cfg0.N) :
    outAt m c t = blockOf (exactA (iblk m c 0 t) (iblk m c 1 t) (iblk m c 2 t) (iblk m c 4 t)) (iblk m c 5 t)
      ∨ outAt m c t = blockOf (fastA (iblk m c 0 t) (iblk m c 1 t) (iblk m c 2 t) (iblk m c 3 t) (iblk m c 4 t)) (iblk m c 5 t) := by
  unfold outAt
  split
  · left
    refine (exact_block _ _ _ _ _ _ _ _ _ _).trans ?_
    simp only [Memref.IsWhole.read_unread]
  · right
    refine (fast_block _ _ _ _ _ _ _ _ _ _ _ _ _ _).trans ?_
    simp only [Memref.IsWhole.read_unread]

end Cert.KernelIdeal.Hand

end
-- ==== Proof.Sums.lean ====
/- Real sums cut into blocks, and the ideal scalar operations on reals. -/
module

public import Idealize.ShloMosaic.PureOps.Ideal.Laws
public import Idealize.ShloMosaic.Lib.IdealHost

@[expose] public section

noncomputable section

namespace Cert.Sums

open Idealize.ShloMosaic

/-- A sum of reals, summed among the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of reals by a nonzero real. -/
theorem div_real {x y : ℝ} (h : y ≠ 0) : Ideal.div (x : EReal) (y : EReal) = ((x / y : ℝ) : EReal) := by
  rw [Ideal.div_coe h, ← EReal.coe_mul, mul_one_div]

/-- A power of two with a real exponent. -/
theorem exp2_real (x : ℝ) : Ideal.exp2 (x : EReal) = (((2 : ℝ) ^ x : ℝ) : EReal) := rfl

/-- Six chunks of 128 make a block of 768. -/
theorem sum_chunks (f : ℕ → ℝ) : ∑ l : Fin 128, (f l.val + f (128 + l.val) + f (256 + l.val) + f (384 + l.val) + f (512 + l.val) + f (640 + l.val))
    = ∑ k ∈ Finset.range 768, f k := by
  have h : ∀ o, ∑ l : Fin 128, f (o + l.val) = ∑ k ∈ Finset.range 128, f (o + k) := fun o => (Finset.sum_range (fun k => f (o + k))).symm
  have h0 : ∑ l : Fin 128, f l.val = ∑ k ∈ Finset.range 128, f k := (Finset.sum_range f).symm
  simp only [Finset.sum_add_distrib, h, h0]
  rw [show 768 = 640 + 128 from rfl, Finset.sum_range_add, show 640 = 512 + 128 from rfl, Finset.sum_range_add,
    show 512 = 384 + 128 from rfl, Finset.sum_range_add, show 384 = 256 + 128 from rfl, Finset.sum_range_add,
    show 256 = 128 + 128 from rfl, Finset.sum_range_add]

/-- One more block. -/
theorem sum_block (f : ℕ → ℝ) (n : ℕ) : ∑ k ∈ Finset.range (768 * (n + 1)), f k
    = ∑ k ∈ Finset.range (768 * n), f k + ∑ k : Fin 768, f (768 * n + k.val) := by
  rw [Nat.mul_succ, Finset.sum_range_add, Finset.sum_range (fun k => f (768 * n + k))]

/-- The blocks one after the other. -/
theorem sum_blocks (f : ℕ → ℝ) (n : ℕ) : ∑ i ∈ Finset.range n, ∑ k ∈ Finset.range 768, f (768 * i + k) = ∑ k ∈ Finset.range (768 * n), f k := by
  induction n with
  | zero => simp
  | succ n ih => rw [Finset.sum_range_succ, ih, Nat.mul_succ, Finset.sum_range_add]

/-- A maximum of reals started from a negative infinity is a real. -/
theorem fold_max_univ {ι : Type} [Fintype ι] [Nonempty ι] (f : ι → ℝ) :
    ∃ x : ℝ, Finset.fold max (⊥ : EReal) (fun k => ((f k : ℝ) : EReal)) Finset.univ = (x : EReal) := by
  have key : ∀ s : Finset ι, s.Nonempty → ∃ x : ℝ, Finset.fold max (⊥ : EReal) (fun k => ((f k : ℝ) : EReal)) s = (x : EReal) := by
    classical
    intro s hs
    induction s using Finset.induction_on with
    | empty => exact absurd hs (by simp)
    | insert a s ha ih =>
      rw [Finset.fold_insert ha]
      rcases s.eq_empty_or_nonempty with rfl | hs'
      · exact ⟨f a, by simp⟩
      · obtain ⟨x, hx⟩ := ih hs'
        exact ⟨max (f a) x, by rw [hx]; exact (EReal.coe_strictMono.monotone.map_max).symm⟩
  exact key _ Finset.univ_nonempty

/-- The same over `Fin n`. -/
theorem fold_max_real {n : ℕ} (hn : 0 < n) (f : Fin n → ℝ) :
    ∃ x : ℝ, Finset.fold max (⊥ : EReal) (fun k => ((f k : ℝ) : EReal)) Finset.univ = (x : EReal) :=
  haveI : Nonempty (Fin n) := ⟨⟨0, hn⟩⟩
  fold_max_univ f

/-- The word of the negative infinity. -/
theorem ofBits_neg_inf : Ideal.ofBits .f32 0xFF800000#32 = ⊥ := by
  simp [Ideal.ofBits, Ideal.ieee]

/-- Two to a score over `log 2`, less a shift, is the exponential of the score times a factor that the key does not
move. -/
theorem two_rpow (x s : ℝ) : (2 : ℝ) ^ (x * ((1 / 8) * (Real.log 2)⁻¹) - s) = Real.exp (x * (1 / 8)) * (2 : ℝ) ^ (-s) := by
  have h2 : Real.log 2 ≠ 0 := (Real.log_pos (by norm_num)).ne'
  rw [sub_eq_add_neg, Real.rpow_add (by norm_num)]
  congr 1
  rw [Real.rpow_def_of_pos (by norm_num)]
  congr 1
  field_simp

/-- A weighted mean does not see a common nonzero factor. -/
theorem mean_scale (E W : ℕ → ℝ) (c : ℝ) (hc : c ≠ 0) (s : Finset ℕ) :
    (∑ n ∈ s, E n * c * W n) / ∑ n ∈ s, E n * c = (∑ n ∈ s, E n * W n) / ∑ n ∈ s, E n := by
  rw [← Finset.sum_mul, show (∑ n ∈ s, E n * c * W n) = (∑ n ∈ s, E n * W n) * c by
    rw [Finset.sum_mul]; exact Finset.sum_congr rfl fun n _ => by ring]
  exact mul_div_mul_right _ _ hc

end Cert.Sums

end
-- ==== Proof.Val.lean ====
module

public import proofs.«01_k».proof.Proof.Gen.KernelIdeal.Frame
public import proofs.«01_k».proof.Proof.Out
public import proofs.«01_k».proof.Proof.Sums
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The two paths' vector operations, read at an index over the extended reals -/

theorem score_apply (q : FVec Ideal S2048x128 .bf16) (K : Vec Ideal S1x768x128 .bf16) (r : Fin 2048) (n : Fin 768) :
    score q K (ix2 r n) = ∑ d : Fin 128, q (ix2 r d) * K (ix3 0 n d) := by
  pointwise [score]

theorem kb_apply (X : S1x8448x128.Idx → Elt Ideal .bf16) (i : ℕ) (h : i < 11) (n : Fin 768) (d : Fin 128) :
    kb X i h (ix3 0 n d) = X (ix3 0 ⟨768 * i + n.val, by omega⟩ d) := by
  pointwise [kb]

theorem chunk_apply (sh : FVec Ideal S1x128 .f32) (s : FVec Ideal S2048x768 .f32) (o : ℕ) (h : S2048x768.Slices ![0, o] S2048x128)
    (ho : o + 128 ≤ 768) (r : Fin 2048) (l : Fin 128) :
    chunk sh s o h (ix2 r l) = Ideal.exp2 (s (ix2 r ⟨o + l.val, by omega⟩) - sh (ix2 0 l)) := by
  pointwise [chunk]
  rfl

theorem probs_apply (sh : FVec Ideal S1x128 .f32) (s : FVec Ideal S2048x768 .f32) (r : Fin 2048) (n : Fin 768) :
    probs sh s (ix2 r n) = Ideal.exp2 (s (ix2 r n) - sh (ix2 0 ⟨n.val % 128, by omega⟩)) := by
  have hn := n.isLt
  have g : ∀ (a b : ℕ) (ha : a < 768) (hb : b < 128), a = n.val → b = n.val % 128 →
      FloatOps.exp2 (F := Ideal) (φ := .f32) (s (ix2 r ⟨a, ha⟩) - sh (ix2 0 ⟨b, hb⟩))
        = Ideal.exp2 (s (ix2 r n) - sh (ix2 0 ⟨n.val % 128, by omega⟩)) := by
    intro a b ha hb h1 h2; subst h1; subst h2; rfl
  pointwise [probs, chunk]
  split_ifs <;> exact g _ _ _ _ (by omega) (by omega)

theorem psum_apply (sh : FVec Ideal S1x128 .f32) (s : FVec Ideal S2048x768 .f32) (r : Fin 2048) (l : Fin 128) :
    psum sh s (ix2 r l) = Ideal.exp2 (s (ix2 r ⟨l.val, by omega⟩) - sh (ix2 0 l)) + Ideal.exp2 (s (ix2 r ⟨128 + l.val, by omega⟩) - sh (ix2 0 l))
      + Ideal.exp2 (s (ix2 r ⟨256 + l.val, by omega⟩) - sh (ix2 0 l)) + Ideal.exp2 (s (ix2 r ⟨384 + l.val, by omega⟩) - sh (ix2 0 l))
      + Ideal.exp2 (s (ix2 r ⟨512 + l.val, by omega⟩) - sh (ix2 0 l)) + Ideal.exp2 (s (ix2 r ⟨640 + l.val, by omega⟩) - sh (ix2 0 l)) := by
  pointwise [psum, chunk]
  rfl

theorem qs_apply (X : Vec Ideal S1x1024x128 .bf16) (r : Fin 2048) (d : Fin 128) :
    qs X (ix2 r d) = if h : r.val < 1024 then (if d.val < 64 then X (ix3 0 ⟨r.val, h⟩ d) * (((1 / 8) * (Real.log 2)⁻¹ : ℝ) : EReal) else 0)
      else if d.val < 64 then 0 else X (ix3 0 ⟨r.val - 1024, by omega⟩ d) * (((1 / 8) * (Real.log 2)⁻¹ : ℝ) : EReal) := by
  have hκ : (Named.named (F := Ideal) κ "scale_log2e" 0x3E38AA3B#32 : Ideal .f32) = (((1 / 8) * (Real.log 2)⁻¹ : ℝ) : EReal) :=
    Idealize.ShloMosaic.IdealRules.named_const.ideal_named_scalar κ "scale_log2e" _ _ rfl
  have hd : ∀ (a b : EReal), Scalar.select (IntOp.cmpi CmpIPredicate.slt (BitVec.ofNat 32 d.val) 64#32) a b = if d.val < 64 then a else b := by
    intro a b
    obtain ⟨d, hd⟩ := d
    have : IntOp.cmpi CmpIPredicate.slt (BitVec.ofNat 32 d) 64#32 = if d < 64 then 1#1 else 0#1 := by
      revert d; decide +kernel
    show Scalar.select (IntOp.cmpi CmpIPredicate.slt (BitVec.ofNat 32 d) 64#32) a b = if d < 64 then a else b
    rw [this]; split <;> rfl
  pointwise [qs, k0_pay45, k0_pay44, k0_pay43, k0_pay42, k0_pay39]
  simp only [hκ, hd]
  have one : (1 : EReal) - 1 = 0 := by rw [← EReal.coe_one, ← EReal.coe_sub]; simp
  by_cases h1 : r.val < 1024 <;> by_cases h2 : d.val < 64 <;> simp [h1, h2, one]

theorem denom_apply (sh : FVec Ideal S1x128 .f32) (q : FVec Ideal S2048x128 .bf16) (X : S1x8448x128.Idx → Elt Ideal .bf16) (r : Fin 2048) :
    denom sh q X (ix2 r 0) = ∑ l : Fin 128, lsum sh q X 10 (by decide) (ix2 r l) := by
  pointwise [denom]

theorem mix_apply (rho : FVec Ideal S1024x128 .bf16) (P : S2048x8448.Idx → Elt Ideal .bf16) (i : ℕ) (h : i < 11) (r : Fin 1024) (n : Fin 768) :
    mix rho (fun r => View.ld P r) i h (ix2 r n) = P (ix2 ⟨r.val, by omega⟩ ⟨768 * i + n.val, by omega⟩)
      - rho (ix2 r ⟨n.val % 128, by omega⟩) * P (ix2 ⟨1024 + r.val, by omega⟩ ⟨768 * i + n.val, by omega⟩) := by
  have hn := n.isLt
  have g : ∀ (a b : ℕ) (ha : a < 8448) (hb : b < 128), a = 768 * i + n.val → b = n.val % 128 →
      P (ix2 ⟨r.val, by omega⟩ ⟨a, ha⟩) - rho (ix2 r ⟨b, hb⟩) * P (ix2 ⟨1024 + r.val, by omega⟩ ⟨a, ha⟩)
        = P (ix2 ⟨r.val, by omega⟩ ⟨768 * i + n.val, by omega⟩)
          - rho (ix2 r ⟨n.val % 128, by omega⟩) * P (ix2 ⟨1024 + r.val, by omega⟩ ⟨768 * i + n.val, by omega⟩) := by
    intro a b ha hb h1 h2; subst h1; subst h2; rfl
  pointwise [mix, diffAt]
  split_ifs <;> exact g _ _ _ _ (by omega) (by omega)

theorem pvAt_apply (rho : FVec Ideal S1024x128 .bf16) (L : (r : Rect S2048x8448) → r.shape.Idx → Elt Ideal .bf16) (XV : S1x8448x128.Idx → Elt Ideal .bf16) (i : ℕ) (h : i < 11) (r : Fin 1024) (e : Fin 128) :
    pvAt rho L XV i h (ix2 r e) = ∑ n : Fin 768, mix rho L i h (ix2 r n) * kb XV i h (ix3 0 n e) := by
  pointwise [pvAt]

theorem rhoOf_apply (lam : FVec Ideal S1x1 .f32) (d : FVec Ideal S2048x1 .f32) (r : Fin 1024) (e : Fin 128) :
    rhoOf lam d (ix2 r e) = Ideal.div (lam (ix2 0 0) * d (ix2 ⟨r.val, by omega⟩ 0)) (d (ix2 ⟨1024 + r.val, by omega⟩ 0)) := by
  pointwise [rhoOf, den1, den2]

theorem lam_apply (X : Vec Ideal S4x64 .f32) : k0_pay41 X (ix2 0 0)
    = Ideal.exp (∑ x : Fin 64, X (ix2 0 x) * X (ix2 1 x)) - Ideal.exp (∑ x : Fin 64, X (ix2 2 x) * X (ix2 3 x)) + Ideal.ofBits FTy.f32 0x3F0E59D5#32 := by
  pointwise [k0_pay41]

theorem step_m (q : FVec Ideal S2048x128 .bf16) (K V : Vec Ideal S1x768x128 .bf16) (s : St Ideal) (r : Fin 2048) :
    (s.step q K V).m (ix2 r 0) = max (s.m (ix2 r 0)) (Finset.fold max (⊥ : EReal) (fun n : Fin 768 => score q K (ix2 r n)) Finset.univ) := by
  simp only [score_apply]
  pointwise [St.step, k0_pay36, k0_pay28, k0_pay27]
  rw [Cert.Sums.ofBits_neg_inf]

theorem step_l (q : FVec Ideal S2048x128 .bf16) (K V : Vec Ideal S1x768x128 .bf16) (s : St Ideal) (r : Fin 2048) :
    (s.step q K V).l (ix2 r 0) = Ideal.exp2 (s.m (ix2 r 0) - (s.step q K V).m (ix2 r 0)) * s.l (ix2 r 0)
      + ∑ n : Fin 768, Ideal.exp2 (score q K (ix2 r n) - (s.step q K V).m (ix2 r 0)) := by
  have hm : (s.step q K V).m (ix2 r 0) = k0_pay28 q K s.m (ix2 r 0) := by
    pointwise [St.step, k0_pay36]
  rw [hm]
  simp only [score_apply]
  pointwise [St.step, k0_pay31, k0_pay29, k0_pay30, k0_pay27]
  rfl

theorem step_acc (q : FVec Ideal S2048x128 .bf16) (K V : Vec Ideal S1x768x128 .bf16) (s : St Ideal) (r : Fin 2048) (e : Fin 128) :
    (s.step q K V).acc (ix2 r e) = Ideal.exp2 (s.m (ix2 r 0) - (s.step q K V).m (ix2 r 0)) * s.acc (ix2 r e)
      + ∑ n : Fin 768, Ideal.exp2 (score q K (ix2 r n) - (s.step q K V).m (ix2 r 0)) * V (ix3 0 n e) := by
  have hm : (s.step q K V).m (ix2 r 0) = k0_pay28 q K s.m (ix2 r 0) := by
    pointwise [St.step, k0_pay36]
  rw [hm]
  simp only [score_apply]
  pointwise [St.step, k0_pay32, k0_pay29, k0_pay30, k0_pay27]
  rfl

theorem init_m (r : Fin 2048) : (St.init (F := Ideal)).m (ix2 r 0) = ⊥ := by
  pointwise [St.init, k0_pay33]
  exact Cert.Sums.ofBits_neg_inf

theorem init_l (r : Fin 2048) : (St.init (F := Ideal)).l (ix2 r 0) = 0 := by
  pointwise [St.init, k0_pay34]

theorem init_acc (r : Fin 2048) (e : Fin 128) : (St.init (F := Ideal)).acc (ix2 r e) = 0 := by
  pointwise [St.init, k0_pay35]

theorem exactOf_apply (lam : FVec Ideal S1x1 .f32) (s : St Ideal) (r : Fin 1024) (e : Fin 128) :
    exactOf lam s (ix2 r e) = Ideal.div (s.acc (ix2 ⟨r.val, by omega⟩ e)) (s.l (ix2 ⟨r.val, by omega⟩ 0)) -
      lam (ix2 0 0) * Ideal.div (s.acc (ix2 ⟨1024 + r.val, by omega⟩ e)) (s.l (ix2 ⟨1024 + r.val, by omega⟩ 0)) := by
  pointwise [exactOf]

theorem fastA_apply (X3 : Vec Ideal S1x1024x128 .bf16) (X4 X5 : S1x8448x128.Idx → Elt Ideal .bf16) (X6 : Vec Ideal S1x128 .f32) (X7 : Vec Ideal S4x64 .f32)
    (r : Fin 1024) (e : Fin 128) :
    fastA X3 X4 X5 X6 X7 (ix2 r e) = Ideal.div
      (accAt (rhoOf (k0_pay41 X7) (denom (k0_pay40 X6) (qs X3) X4)) (fun r => View.ld (allProbs (k0_pay40 X6) (qs X3) X4) r) X5 10 (by decide) (ix2 r e))
      (denom (k0_pay40 X6) (qs X3) X4 (ix2 ⟨r.val, by omega⟩ 0)) := by
  pointwise [fastA, den1]

theorem sh_apply (X6 : Vec Ideal S1x128 .f32) (l : Fin 128) : k0_pay40 X6 (ix2 0 l) = X6 (ix2 0 l) := by
  pointwise [k0_pay40]

theorem blockOf_apply (a : FVec Ideal S1024x128 .f32) (X8 : Vec Ideal S1x128 .f32) (r : Fin 1024) (e : Fin 128) :
    blockOf a X8 (ix3 0 r e) = a (ix2 r e) * Ideal.rsqrt (Ideal.div (∑ x : Fin 128, a (ix2 r x) * a (ix2 r x)) (Ideal.ofBits FTy.f32 0x43000000#32)
        + Ideal.ofBits FTy.f32 0x358637BD#32) * X8 (ix2 0 e) * Ideal.ofBits FTy.f32 0x3EE34C57#32 := by
  pointwise [blockOf, scaled, normed, k0_pay38]

end Cert.KernelIdeal.Hand

end
-- ==== Proof.Spec.lean ====
/- The differential attention of the problem over the reals, and the array the two programs are to return. -/
module

public import proofs.«01_k».proof.Proof.Sums
public import Idealize.ShloMosaic.Lib.Pointwise

@[expose] public section

noncomputable section

namespace Cert.Spec

open Idealize.ShloMosaic Cert.Sums

/-- The product of query `r` and key `n` in map `j`. -/
def logit (Q K : ℕ → ℕ → ℝ) (j r n : ℕ) : ℝ := ∑ d : Fin 64, Q r (64 * j + d.val) * K n (64 * j + d.val)

/-- One map's weighted mean of the values. -/
def mean (S : ℕ → ℝ) (W : ℕ → ℝ) : ℝ :=
  (∑ n ∈ Finset.range 8448, Real.exp (S n * (1 / 8)) * W n) / ∑ n ∈ Finset.range 8448, Real.exp (S n * (1 / 8))

/-- The difference of the two maps' means. -/
def attn (Q K V : ℕ → ℕ → ℝ) (lam : ℝ) (r e : ℕ) : ℝ :=
  mean (logit Q K 0 r) (fun n => V n e) - lam * mean (logit Q K 1 r) (fun n => V n e)

/-- Every entry is a real number. -/
def Real' {ι : Type} (X : ι → EReal) : Prop := ∀ i, ∃ r : ℝ, X i = (r : EReal)

/-- An entry of an array as a real number. -/
def at3 {a b c : ℕ} (X : (⟨3, ![a, b, c]⟩ : Shape).Idx → EReal) (i j k : ℕ) : ℝ :=
  if h : i < a ∧ j < b ∧ k < c then (X (ix3 ⟨i, h.1⟩ ⟨j, h.2.1⟩ ⟨k, h.2.2⟩)).toReal else 0

theorem at3_eq {a b c : ℕ} {X : (⟨3, ![a, b, c]⟩ : Shape).Idx → EReal} (hX : Real' X) (i j k : ℕ) (hi : i < a) (hj : j < b) (hk : k < c) :
    X (ix3 ⟨i, hi⟩ ⟨j, hj⟩ ⟨k, hk⟩) = ((at3 X i j k : ℝ) : EReal) := by
  obtain ⟨r, hr⟩ := hX (ix3 ⟨i, hi⟩ ⟨j, hj⟩ ⟨k, hk⟩)
  rw [at3, dif_pos ⟨hi, hj, hk⟩, hr, EReal.toReal_coe]

/-- The latent rows, then the context's. -/
def rows (X : (⟨3, ![8, 8192, 1024]⟩ : Shape).Idx → EReal) (Y : (⟨3, ![8, 256, 1024]⟩ : Shape).Idx → EReal) (b n x : ℕ) : ℝ :=
  if n < 8192 then at3 X b n x else at3 Y b (n - 8192) x

/-- The second map's factor. -/
def lamOf (a7 a8 a9 a10 : (⟨1, ![64]⟩ : Shape).Idx → EReal) : EReal :=
  Ideal.exp (∑ x : Fin 64, a7 (ix1 x) * a8 (ix1 x)) - Ideal.exp (∑ x : Fin 64, a9 (ix1 x) * a10 (ix1 x)) + Ideal.ofBits FTy.f32 0x3F0E59D5#32

/-- It is a real number. -/
theorem lamOf_real {a7 a8 a9 a10 : (⟨1, ![64]⟩ : Shape).Idx → EReal} (h7 : Real' a7) (h8 : Real' a8) (h9 : Real' a9) (h10 : Real' a10) :
    lamOf a7 a8 a9 a10 = (((lamOf a7 a8 a9 a10).toReal : ℝ) : EReal) := by
  choose f7 e7 using h7
  choose f8 e8 using h8
  choose f9 e9 using h9
  choose f10 e10 using h10
  have hc : ∃ r : ℝ, Ideal.ofBits FTy.f32 0x3F0E59D5#32 = (r : EReal) :=
    ⟨_, by simp only [Ideal.ofBits, Ideal.ieee]; rfl⟩
  obtain ⟨r, hr⟩ := hc
  have : ∃ x : ℝ, lamOf a7 a8 a9 a10 = (x : EReal) := by
    refine ⟨Real.exp (∑ x : Fin 64, f7 (ix1 x) * f8 (ix1 x)) - Real.exp (∑ x : Fin 64, f9 (ix1 x) * f10 (ix1 x)) + r, ?_⟩
    rw [lamOf, hr]
    simp only [e7, e8, e9, e10, ← EReal.coe_mul, coe_sum, Ideal.exp_coe, ← EReal.coe_sub, ← EReal.coe_add]
  obtain ⟨x, hx⟩ := this
  rw [hx, EReal.toReal_coe]

/-- The attention of the arrays before the normalisation: batch `b`, head `h`, token `t`, channel `e`. -/
def attnOf (a0 a1 a2 : (⟨3, ![8, 8192, 1024]⟩ : Shape).Idx → EReal) (a3 a4 : (⟨3, ![8, 256, 1024]⟩ : Shape).Idx → EReal) (lam : ℝ) (b h t e : ℕ) : ℝ :=
  attn (fun t d => at3 a0 b t (128 * h + d)) (fun n d => rows a1 a3 b n (128 * h + d)) (fun n d => rows a2 a4 b n (128 * h + d)) lam t e

/-- A row divided by its root mean square, times the gain and a constant. -/
def normOf (A : Fin 128 → EReal) (a11 : (⟨1, ![128]⟩ : Shape).Idx → EReal) (e : Fin 128) : EReal :=
  A e * Ideal.rsqrt (Ideal.div (∑ x : Fin 128, A x * A x) (Ideal.ofBits FTy.f32 0x43000000#32) + Ideal.ofBits FTy.f32 0x358637BD#32)
    * a11 (ix1 e) * Ideal.ofBits FTy.f32 0x3EE34C57#32

/-- The array returned. -/
def out (a0 a1 a2 : (⟨3, ![8, 8192, 1024]⟩ : Shape).Idx → EReal) (a3 a4 : (⟨3, ![8, 256, 1024]⟩ : Shape).Idx → EReal)
    (a7 a8 a9 a10 : (⟨1, ![64]⟩ : Shape).Idx → EReal) (a11 : (⟨1, ![128]⟩ : Shape).Idx → EReal) (y : (⟨3, ![8, 8192, 1024]⟩ : Shape).Idx) : EReal :=
  normOf (fun e => ((attnOf a0 a1 a2 a3 a4 (lamOf a7 a8 a9 a10).toReal (y 0).val ((y 2).val / 128) (y 1).val e.val : ℝ) : EReal)) a11
    ⟨(y 2).val % 128, Nat.mod_lt _ (by decide)⟩

end Cert.Spec

end
-- ==== Proof.Block.lean ====
/- A block of the attention on real inputs: both paths give the difference of the two softmax means. -/
module

public import proofs.«01_k».proof.Proof.Val
public import proofs.«01_k».proof.Proof.Spec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Sums Cert.Spec

/-- The scale of the scores, in powers of two. -/
def kap : ℝ := (1 / 8) * (Real.log 2)⁻¹

/-- The products of the stacked rows: the first map's 1024 rows, then the second map's. -/
def stacked (Q K : ℕ → ℕ → ℝ) (r n : ℕ) : ℝ := if r < 1024 then logit Q K 0 r n else logit Q K 1 (r - 1024) n

/-- A mean does not change when the exponents are taken in powers of two less a shift. -/
theorem mean_pow (S W : ℕ → ℝ) (s : ℝ) :
    (∑ n ∈ Finset.range 8448, (2 : ℝ) ^ (S n * kap - s) * W n) / ∑ n ∈ Finset.range 8448, (2 : ℝ) ^ (S n * kap - s) = mean S W := by
  simp only [kap, two_rpow]
  exact mean_scale (fun n => Real.exp (S n * (1 / 8))) W _ (Real.rpow_pos_of_pos (by norm_num) _).ne' _

/-- A sum of powers of two is not zero. -/
theorem pows_ne (f : ℕ → ℝ) (n : ℕ) (h : 0 < n) : ∑ k ∈ Finset.range n, (2 : ℝ) ^ f k ≠ 0 :=
  (Finset.sum_pos (fun k _ => Real.rpow_pos_of_pos (by norm_num) _) ⟨0, Finset.mem_range.2 h⟩).ne'

/-- The common denominator taken apart. -/
theorem quotients (a b l1 l2 lam : ℝ) (h1 : l1 ≠ 0) (h2 : l2 ≠ 0) : (a - lam * l1 / l2 * b) / l1 = a / l1 - lam * (b / l2) := by
  field_simp

section Real
variable {X3 : Vec Ideal S1x1024x128 .bf16} {X4 X5 : S1x8448x128.Idx → Elt Ideal .bf16} {X6 : Vec Ideal S1x128 .f32} {X7 : Vec Ideal S4x64 .f32}
variable {Q K V : ℕ → ℕ → ℝ} {sh lam : ℝ}
variable (hQ : ∀ (r : Fin 1024) (d : Fin 128), X3 (ix3 0 r d) = ((Q r.val d.val : ℝ) : EReal))
variable (hK : ∀ (n : Fin 8448) (d : Fin 128), X4 (ix3 0 n d) = ((K n.val d.val : ℝ) : EReal))
variable (hV : ∀ (n : Fin 8448) (d : Fin 128), X5 (ix3 0 n d) = ((V n.val d.val : ℝ) : EReal))
variable (hsh : ∀ l : Fin 128, X6 (ix2 0 l) = ((sh : ℝ) : EReal))
variable (hlam : k0_pay41 X7 (ix2 0 0) = ((lam : ℝ) : EReal))
include hQ hK

/-- The scores of a block are real. -/
theorem score_real (i : ℕ) (h : i < 11) (r : Fin 2048) (n : Fin 768) :
    score (qs X3) (kb X4 i h) (ix2 r n) = ((stacked Q K r.val (768 * i + n.val) * kap : ℝ) : EReal) := by
  have hr := r.isLt
  rw [score_apply]
  have term : ∀ d : Fin 128, qs X3 (ix2 r d) * kb X4 i h (ix3 0 n d)
      = (((if r.val < 1024 then (if d.val < 64 then Q r.val d.val * kap else 0) else (if d.val < 64 then 0 else Q (r.val - 1024) d.val * kap))
        * K (768 * i + n.val) d.val : ℝ) : EReal) := by
    intro d
    rw [qs_apply, kb_apply, hK]
    split_ifs <;> simp only [hQ, kap, EReal.coe_mul, EReal.coe_zero]
  rw [Finset.sum_congr rfl fun d _ => term d, coe_sum]
  congr 1
  rw [show (∑ d : Fin 128, _) = ∑ d : Fin (64 + 64), _ from rfl, Fin.sum_univ_add]
  unfold stacked logit
  by_cases h1 : r.val < 1024
  · simp only [h1, if_true, Fin.val_castAdd, Fin.val_natAdd, Fin.is_lt]
    rw [Finset.sum_eq_zero (s := Finset.univ) (f := fun d : Fin 64 => (if 64 + d.val < 64 then Q r.val (64 + d.val) * kap else 0) * K (768 * i + n.val) (64 + d.val))
      (fun d _ => by rw [if_neg (by omega), zero_mul]), add_zero, Finset.sum_mul]
    exact Finset.sum_congr rfl fun d _ => by rw [Nat.mul_zero, Nat.zero_add]; ring
  · simp only [h1, if_false, Fin.val_castAdd, Fin.val_natAdd, Fin.is_lt, if_true, zero_mul, Finset.sum_const_zero, zero_add]
    rw [Finset.sum_mul]
    exact Finset.sum_congr rfl fun d _ => by rw [if_neg (by omega)]; ring

section Fast
include hsh

/-- The weights are real. -/
theorem probs_real (i : ℕ) (h : i < 11) (r : Fin 2048) (n : Fin 768) :
    probs (k0_pay40 X6) (score (qs X3) (kb X4 i h)) (ix2 r n) = (((2 : ℝ) ^ (stacked Q K r.val (768 * i + n.val) * kap - sh) : ℝ) : EReal) := by
  rw [probs_apply, score_real hQ hK, sh_apply, hsh, ← EReal.coe_sub, exp2_real]

/-- All the weights. -/
theorem allProbs_real (r : Fin 2048) (n : Fin 8448) :
    allProbs (k0_pay40 X6) (qs X3) X4 (ix2 r n) = (((2 : ℝ) ^ (stacked Q K r.val n.val * kap - sh) : ℝ) : EReal) := by
  have hn := n.isLt
  have := probs_real hQ hK hsh (n.val / 768) (by omega) r ⟨n.val % 768, Nat.mod_lt _ (by decide)⟩
  rw [show 768 * (n.val / 768) + (⟨n.val % 768, Nat.mod_lt _ (by decide)⟩ : Fin 768).val = n.val from Nat.div_add_mod _ _] at this
  rw [← this]
  unfold allProbs
  congr 1
  funext a
  match a with
  | ⟨0, _⟩ => rfl
  | ⟨1, _⟩ => rfl

/-- A lane's sum of weights over the first blocks. -/
theorem lsum_real (n : ℕ) (h : n < 11) (r : Fin 2048) (l : Fin 128) :
    lsum (k0_pay40 X6) (qs X3) X4 n h (ix2 r l) = ((∑ i ∈ Finset.range (n + 1),
      ((fun k => (2 : ℝ) ^ (stacked Q K r.val (768 * i + k) * kap - sh)) l.val
        + (fun k => (2 : ℝ) ^ (stacked Q K r.val (768 * i + k) * kap - sh)) (128 + l.val)
        + (fun k => (2 : ℝ) ^ (stacked Q K r.val (768 * i + k) * kap - sh)) (256 + l.val)
        + (fun k => (2 : ℝ) ^ (stacked Q K r.val (768 * i + k) * kap - sh)) (384 + l.val)
        + (fun k => (2 : ℝ) ^ (stacked Q K r.val (768 * i + k) * kap - sh)) (512 + l.val)
        + (fun k => (2 : ℝ) ^ (stacked Q K r.val (768 * i + k) * kap - sh)) (640 + l.val)) : ℝ) : EReal) := by
  have base : ∀ (i : ℕ) (h : i < 11), psum (k0_pay40 X6) (score (qs X3) (kb X4 i h)) (ix2 r l) = ((
      ((fun k => (2 : ℝ) ^ (stacked Q K r.val (768 * i + k) * kap - sh)) l.val
        + (fun k => (2 : ℝ) ^ (stacked Q K r.val (768 * i + k) * kap - sh)) (128 + l.val)
        + (fun k => (2 : ℝ) ^ (stacked Q K r.val (768 * i + k) * kap - sh)) (256 + l.val)
        + (fun k => (2 : ℝ) ^ (stacked Q K r.val (768 * i + k) * kap - sh)) (384 + l.val)
        + (fun k => (2 : ℝ) ^ (stacked Q K r.val (768 * i + k) * kap - sh)) (512 + l.val)
        + (fun k => (2 : ℝ) ^ (stacked Q K r.val (768 * i + k) * kap - sh)) (640 + l.val)) : ℝ) : EReal) := by
    intro i h
    rw [psum_apply]
    simp only [score_real hQ hK, sh_apply, hsh, ← EReal.coe_sub, exp2_real, ← EReal.coe_add]
  induction n with
  | zero =>
    rw [lsum, shapeCast_self, base, Finset.sum_range_one]
  | succ n ih =>
    rw [lsum, shapeCast_self, Finset.sum_range_succ, EReal.coe_add, ← base, ← ih (by omega)]
    rfl

/-- A row's sum of weights. -/
theorem denom_real (r : Fin 2048) :
    denom (k0_pay40 X6) (qs X3) X4 (ix2 r 0) = ((∑ k ∈ Finset.range 8448, (2 : ℝ) ^ (stacked Q K r.val k * kap - sh) : ℝ) : EReal) := by
  rw [denom_apply, Finset.sum_congr rfl fun l _ => lsum_real hQ hK hsh 10 (by decide) r l, coe_sum]
  congr 1
  rw [Finset.sum_comm, Finset.sum_congr rfl fun i _ => sum_chunks (fun k => (2 : ℝ) ^ (stacked Q K r.val (768 * i + k) * kap - sh))]
  exact sum_blocks (fun k => (2 : ℝ) ^ (stacked Q K r.val k * kap - sh)) 11

include hV hlam

/-- The weighted values of the first blocks, the second map's weights already subtracted. -/
theorem accAt_real (n : ℕ) (h : n < 11) (r : Fin 1024) (e : Fin 128) (c : ℝ)
    (rho : FVec Ideal S1024x128 .bf16) (hrho : ∀ e : Fin 128, rho (ix2 r e) = ((c : ℝ) : EReal)) :
    accAt rho (fun r => View.ld (allProbs (k0_pay40 X6) (qs X3) X4) r) X5 n h (ix2 r e)
      = ((∑ k ∈ Finset.range (768 * (n + 1)), ((2 : ℝ) ^ (stacked Q K r.val k * kap - sh)
          - c * (2 : ℝ) ^ (stacked Q K (1024 + r.val) k * kap - sh)) * V k e.val : ℝ) : EReal) := by
  have blk : ∀ (i : ℕ) (h : i < 11), pvAt rho (fun r => View.ld (allProbs (k0_pay40 X6) (qs X3) X4) r) X5 i h (ix2 r e)
      = ((∑ k : Fin 768, ((2 : ℝ) ^ (stacked Q K r.val (768 * i + k.val) * kap - sh)
          - c * (2 : ℝ) ^ (stacked Q K (1024 + r.val) (768 * i + k.val) * kap - sh)) * V (768 * i + k.val) e.val : ℝ) : EReal) := by
    intro i h
    rw [pvAt_apply, ← coe_sum]
    refine Finset.sum_congr rfl fun k _ => ?_
    rw [mix_apply, kb_apply, hV, allProbs_real hQ hK hsh, allProbs_real hQ hK hsh, hrho, ← EReal.coe_mul, ← EReal.coe_sub, ← EReal.coe_mul]
  induction n with
  | zero =>
    rw [accAt, blk, sum_block _ 0]; simp
  | succ n ih =>
    rw [sum_block _ (n + 1), EReal.coe_add, ← ih (by omega), ← blk (n + 1) h]
    rfl

/-- The one-pass path's block is the difference of the means. -/
theorem fastA_real (r : Fin 1024) (e : Fin 128) : fastA X3 X4 X5 X6 X7 (ix2 r e) = ((attn Q K V lam r.val e.val : ℝ) : EReal) := by
  have hr := r.isLt
  have d1 := denom_real hQ hK hsh ⟨r.val, by omega⟩
  have d2 := denom_real hQ hK hsh ⟨1024 + r.val, by omega⟩
  have s1 : ∀ k, stacked Q K r.val k = logit Q K 0 r.val k := fun k => if_pos hr
  have s2 : ∀ k, stacked Q K (1024 + r.val) k = logit Q K 1 r.val k := fun k => by
    rw [stacked, if_neg (by omega), Nat.add_sub_cancel_left]
  have n1 := pows_ne (fun k => logit Q K 0 r.val k * kap - sh) 8448 (by decide)
  have n2 := pows_ne (fun k => logit Q K 1 r.val k * kap - sh) 8448 (by decide)
  simp only [s1, s2] at d1 d2
  have hrho : ∀ e : Fin 128, rhoOf (k0_pay41 X7) (denom (k0_pay40 X6) (qs X3) X4) (ix2 r e)
      = (((lam * ∑ k ∈ Finset.range 8448, (2 : ℝ) ^ (logit Q K 0 r.val k * kap - sh)) / ∑ k ∈ Finset.range 8448, (2 : ℝ) ^ (logit Q K 1 r.val k * kap - sh) : ℝ) : EReal) := by
    intro e
    rw [rhoOf_apply, hlam, d1, d2, ← EReal.coe_mul, div_real n2]
  rw [fastA_apply, accAt_real hQ hK hV hsh hlam 10 (by decide) r e _ _ hrho, d1, div_real n1]
  congr 1
  simp only [s1, s2]
  rw [attn, ← mean_pow (logit Q K 0 r.val) _ sh, ← mean_pow (logit Q K 1 r.val) _ sh]
  simp only [sub_mul, Finset.sum_sub_distrib, mul_assoc, ← Finset.mul_sum]
  exact quotients _ _ _ _ _ n1 n2

end Fast

/-- One block of the running sums: the state's sums over the first `n` blocks, in the units of some real shift. -/
def Good (Q K V : ℕ → ℕ → ℝ) (s : St Ideal) (n : ℕ) : Prop := ∀ r : Fin 2048, ∃ m : ℝ,
  s.m (ix2 r 0) = ((m : ℝ) : EReal)
  ∧ s.l (ix2 r 0) = ((∑ k ∈ Finset.range (768 * n), (2 : ℝ) ^ (stacked Q K r.val k * kap - m) : ℝ) : EReal)
  ∧ ∀ e : Fin 128, s.acc (ix2 r e) = ((∑ k ∈ Finset.range (768 * n), (2 : ℝ) ^ (stacked Q K r.val k * kap - m) * V k e.val : ℝ) : EReal)

include hV

/-- A trip from a real state, or from the first state, gives a real state with one more block. -/
theorem good_step (s : St Ideal) (n : ℕ) (h : n < 11) (hs : (n = 0 ∧ s = St.init) ∨ Good Q K V s n) :
    Good Q K V (s.step (qs X3) (kb X4 n h) (kb X5 n h)) (n + 1) := by
  intro r
  obtain ⟨x, hx⟩ := fold_max_real (n := 768) (by decide) (fun k => stacked Q K r.val (768 * n + k.val) * kap)
  have hfold : Finset.fold max (⊥ : EReal) (fun k : Fin 768 => score (qs X3) (kb X4 n h) (ix2 r k)) Finset.univ = (x : EReal) := by
    rw [← hx]; congr 1; funext k; exact score_real hQ hK n h r k
  rcases hs with ⟨rfl, rfl⟩ | hs
  · have hm : ((St.init (F := Ideal)).step (qs X3) (kb X4 0 h) (kb X5 0 h)).m (ix2 r 0) = (x : EReal) := by
      rw [step_m, hfold, init_m]; exact max_eq_right bot_le
    refine ⟨x, hm, ?_, fun e => ?_⟩
    · rw [step_l, hm, init_l, mul_zero, zero_add, sum_block _ 0, Nat.mul_zero, Finset.sum_range_zero, zero_add, ← coe_sum]
      exact Finset.sum_congr rfl fun k _ => by rw [score_real hQ hK, ← EReal.coe_sub, exp2_real]
    · rw [step_acc, hm, init_acc, mul_zero, zero_add, sum_block _ 0, Nat.mul_zero, Finset.sum_range_zero, zero_add, ← coe_sum]
      exact Finset.sum_congr rfl fun k _ => by rw [score_real hQ hK, kb_apply, hV, ← EReal.coe_sub, exp2_real, ← EReal.coe_mul]
  · obtain ⟨m, h1, h2, h3⟩ := hs r
    have hm : (s.step (qs X3) (kb X4 n h) (kb X5 n h)).m (ix2 r 0) = ((max m x : ℝ) : EReal) := by
      rw [step_m, hfold, h1]; exact (EReal.coe_strictMono.monotone.map_max).symm
    have shift : ∀ a : ℝ, (2 : ℝ) ^ (m - max m x) * (2 : ℝ) ^ (a - m) = (2 : ℝ) ^ (a - max m x) := fun a => by
      rw [← Real.rpow_add (by norm_num)]; congr 1; ring
    refine ⟨max m x, hm, ?_, fun e => ?_⟩
    · rw [step_l, hm, h1, h2, ← EReal.coe_sub, exp2_real, ← EReal.coe_mul, sum_block, EReal.coe_add, Finset.mul_sum,
        Finset.sum_congr rfl fun k _ => shift _]
      congr 1
      rw [← coe_sum]
      exact Finset.sum_congr rfl fun k _ => by rw [score_real hQ hK, ← EReal.coe_sub, exp2_real]
    · rw [step_acc, hm, h1, h3, ← EReal.coe_sub, exp2_real, ← EReal.coe_mul, sum_block, EReal.coe_add, Finset.mul_sum,
        Finset.sum_congr rfl fun k _ => show _ = (2 : ℝ) ^ (stacked Q K r.val k * kap - max m x) * V k e.val by rw [← mul_assoc, shift]]
      congr 1
      rw [← coe_sum]
      exact Finset.sum_congr rfl fun k _ => by rw [score_real hQ hK, kb_apply, hV, ← EReal.coe_sub, exp2_real, ← EReal.coe_mul]

/-- The state after the first blocks. -/
theorem good_at (n : ℕ) (h : n < 11) : Good Q K V (St.at (qs X3) X4 X5 (n + 1)) (n + 1) := by
  have kvk : ∀ (X : S1x8448x128.Idx → Elt Ideal .bf16), kvBlock X ⟨n, by exact h⟩ = kb X n h := fun X => by
    unfold kvBlock kb
    congr 1
    have off : ∀ (n : Fin k0_t1_loop.trips) (a : Fin 3), k0_off3 n a = (![0, 768 * n.val, 0] : Fin 3 → ℕ) a := by decide +kernel
    congr 1
    exact funext (off ⟨n, h⟩)
  have step : St.at (qs X3) X4 X5 (n + 1) = (St.at (qs X3) X4 X5 n).step (qs X3) (kb X4 n h) (kb X5 n h) := by
    rw [St.at_succ _ _ _ ⟨n, by exact h⟩, kvk, kvk]
  rw [step]
  apply good_step hQ hK hV
  cases n with
  | zero => exact .inl ⟨rfl, rfl⟩
  | succ n => exact .inr (good_at n (by omega))

include hlam

/-- The online path's block is the difference of the means. -/
theorem exactA_real (r : Fin 1024) (e : Fin 128) : exactA X3 X4 X5 X7 (ix2 r e) = ((attn Q K V lam r.val e.val : ℝ) : EReal) := by
  have hr := r.isLt
  have g : Good Q K V (St.at (qs X3) X4 X5 k0_t1_loop.trips) 11 := good_at hQ hK hV 10 (by decide)
  obtain ⟨m1, -, l1, a1⟩ := g ⟨r.val, by omega⟩
  obtain ⟨m2, -, l2, a2⟩ := g ⟨1024 + r.val, by omega⟩
  have s1 : ∀ k, stacked Q K r.val k = logit Q K 0 r.val k := fun k => if_pos hr
  have s2 : ∀ k, stacked Q K (1024 + r.val) k = logit Q K 1 r.val k := fun k => by
    rw [stacked, if_neg (by omega), Nat.add_sub_cancel_left]
  simp only [s1, s2] at l1 l2 a1 a2
  rw [exactA, exactOf_apply, hlam, l1, l2, a1, a2, div_real (pows_ne _ _ (by decide)), div_real (pows_ne _ _ (by decide)), ← EReal.coe_mul, ← EReal.coe_sub, attn,
    ← mean_pow (logit Q K 0 r.val) _ m1, ← mean_pow (logit Q K 1 r.val) _ m2]

end Real

end Cert.KernelIdeal.Hand

end
-- ==== Proof.Windows.lean ====
/- What the kernel's windows hold at each point of the grid, in the arguments of the program. -/
module

public import proofs.«01_k».proof.Proof.Block
public import proofs.«01_k».proof.Proof.Out
public import Idealize.ShloMosaic.Lib.Pipeline.ValueKit
public import Idealize.ShloMosaic.Lib.StableHlo.ReadAt

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Sums Cert.Spec

variable (m : (ℓ : Loc nD τ sig) → Buf (Elt Ideal) ℓ)

/-- The queries' buffer. -/
theorem V_q (c : Dev nD) (b : Fin 8) (t : Fin 8192) (x : Fin 1024) :
    V m c main_v25 (ix3 b t x) = m ((c : Thread nD τ).loc main_arg0) (ix3 b t x) := by
  unfold V; after_reads_at

/-- The keys' buffer: the latent rows, then the context's. -/
theorem V_k (c : Dev nD) (b : Fin 8) (t : Fin 8448) (x : Fin 1024) :
    V m c main_v27 (ix3 b t x) = if h : t.val < 8192 then m ((c : Thread nD τ).loc main_arg1) (ix3 b ⟨t.val, h⟩ x)
      else m ((c : Thread nD τ).loc main_arg3) (ix3 b ⟨t.val - 8192, by omega⟩ x) := by
  unfold V; after_reads_at
  after_reads_simp

/-- The values' buffer: the latent rows, then the context's. -/
theorem V_v (c : Dev nD) (b : Fin 8) (t : Fin 8448) (x : Fin 1024) :
    V m c main_v29 (ix3 b t x) = if h : t.val < 8192 then m ((c : Thread nD τ).loc main_arg2) (ix3 b ⟨t.val, h⟩ x)
      else m ((c : Thread nD τ).loc main_arg4) (ix3 b ⟨t.val - 8192, by omega⟩ x) := by
  unfold V; after_reads_at
  after_reads_simp

/-- The gain's buffer. -/
theorem V_sub (c : Dev nD) (x : Fin 128) :
    V m c main_v15 (ix2 0 x) = m ((c : Thread nD τ).loc main_arg11) (ix1 x) := by
  unfold V; after_reads_at

/-- Row 0 of the factor's vectors. -/
theorem V_lam0 (c : Dev nD) (x : Fin 64) :
    V m c main_v14 (ix2 0 x) = m ((c : Thread nD τ).loc main_arg7) (ix1 x) := by
  unfold V; after_reads_at
  after_reads_simp
  pointwise

/-- Row 1 of the factor's vectors. -/
theorem V_lam1 (c : Dev nD) (x : Fin 64) :
    V m c main_v14 (ix2 1 x) = m ((c : Thread nD τ).loc main_arg8) (ix1 x) := by
  unfold V; after_reads_at
  after_reads_simp
  pointwise

/-- Row 2 of the factor's vectors. -/
theorem V_lam2 (c : Dev nD) (x : Fin 64) :
    V m c main_v14 (ix2 2 x) = m ((c : Thread nD τ).loc main_arg9) (ix1 x) := by
  unfold V; after_reads_at
  after_reads_simp
  pointwise

/-- Row 3 of the factor's vectors. -/
theorem V_lam3 (c : Dev nD) (x : Fin 64) :
    V m c main_v14 (ix2 3 x) = m ((c : Thread nD τ).loc main_arg10) (ix1 x) := by
  unfold V; after_reads_at
  after_reads_simp
  pointwise

/-- The shift is one real number on every lane. -/
theorem V_shift (c : Dev nD) (h5 : Real' (ι := S64.Idx) (m ((c : Thread nD τ).loc main_arg5))) (h6 : Real' (ι := S64.Idx) (m ((c : Thread nD τ).loc main_arg6))) :
    ∃ sh : ℝ, ∀ l : Fin 128, V m c main_v24 (ix2 0 l) = (sh : EReal) := by
  obtain ⟨a5, ha5⟩ : ∃ a : S64.Idx → EReal, a = m ((c : Thread nD τ).loc main_arg5) := ⟨_, rfl⟩
  obtain ⟨a6, ha6⟩ : ∃ a : S64.Idx → EReal, a = m ((c : Thread nD τ).loc main_arg6) := ⟨_, rfl⟩
  rw [← ha5] at h5
  rw [← ha6] at h6
  choose f5 e5 using h5
  choose f6 e6 using h6
  obtain ⟨k1, hk1⟩ : ∃ r : ℝ, Ideal.ofBits FTy.f32 1115684864#32 = (r : EReal) := ⟨_, by simp only [Ideal.ofBits, Ideal.ieee]; rfl⟩
  obtain ⟨k2, hk2⟩ : ∃ r : ℝ, Ideal.ofBits FTy.f32 1043900987#32 = (r : EReal) := ⟨_, by simp only [Ideal.ofBits, Ideal.ieee]; rfl⟩
  have ab : ∀ r : ℝ, FloatOps.absf (F := Ideal) (φ := .f32) ((r : ℝ) : EReal) = ((max r (-r) : ℝ) : EReal) := fun r => by
    rw [Ideal.absf_def, ← EReal.coe_neg]; exact (EReal.coe_strictMono.monotone.map_max).symm
  obtain ⟨x, hx⟩ := fold_max_univ (fun x : Fin 1 × Fin 128 => max (f5 (ix1 ⟨x.2.val % 64, Nat.mod_lt _ (by decide)⟩) * k2) (-(f5 (ix1 ⟨x.2.val % 64, Nat.mod_lt _ (by decide)⟩) * k2)))
  obtain ⟨y, hy⟩ := fold_max_univ (fun x : Fin 1 × Fin 128 => max (f6 (ix1 ⟨x.2.val % 64, Nat.mod_lt _ (by decide)⟩)) (-(f6 (ix1 ⟨x.2.val % 64, Nat.mod_lt _ (by decide)⟩))))
  refine ⟨k1 * x * y, fun l => ?_⟩
  have key : V m c main_v24 (ix2 0 l) = Ideal.ofBits FTy.f32 1115684864#32
      * Finset.fold max (⊥ : EReal) (fun x : Fin 1 × Fin 128 => FloatOps.absf (F := Ideal) (φ := .f32) (a5 (ix1 ⟨x.2.val % 64, Nat.mod_lt _ (by decide)⟩) * Ideal.ofBits FTy.f32 1043900987#32)) Finset.univ
      * Finset.fold max (⊥ : EReal) (fun x : Fin 1 × Fin 128 => FloatOps.absf (F := Ideal) (φ := .f32) (a6 (ix1 ⟨x.2.val % 64, Nat.mod_lt _ (by decide)⟩))) Finset.univ := by
    rw [← ofBits_neg_inf, ha5, ha6]
    unfold V; after_reads_at
  rw [key, EReal.coe_mul, EReal.coe_mul, ← hx, ← hy, ← hk1]
  simp only [e5, e6, hk2, ← EReal.coe_mul, ab]

/-- The block of window 0 at a point: batch, row block, head. -/
theorem index_0 : ∀ t : Fin cfg0.N, win0_0.index t (0 : Fin 3) = t.val / 64 ∧ win0_0.index t (1 : Fin 3) = t.val % 8 ∧ win0_0.index t (2 : Fin 3) = t.val / 8 % 8 := by
  decide +kernel

/-- An array read through that block. -/
theorem read_0 (t : Fin cfg0.N) (G : S8x8192x1024.Idx → Elt Ideal .bf16) (r : Fin 1024) (d : Fin 128) :
    (win0_0.blk t).view.read (Elt Ideal) G (ix3 0 r d)
      = G (ix3 ⟨t.val / 64, by have h : t.val < 512 := t.isLt; omega⟩ ⟨1024 * (t.val % 8) + r.val, by omega⟩ ⟨128 * (t.val / 8 % 8) + d.val, by omega⟩) := by
  blk_point [index_0 t]

/-- The block of window 6 at a point: batch, row block, head. -/
theorem index_6 : ∀ t : Fin cfg0.N, win0_6.index t (0 : Fin 3) = t.val / 64 ∧ win0_6.index t (1 : Fin 3) = t.val % 8 ∧ win0_6.index t (2 : Fin 3) = t.val / 8 % 8 := by
  decide +kernel

/-- An array read through that block. -/
theorem read_6 (t : Fin cfg0.N) (G : S8x8192x1024.Idx → Elt Ideal .bf16) (r : Fin 1024) (d : Fin 128) :
    (win0_6.blk t).view.read (Elt Ideal) G (ix3 0 r d)
      = G (ix3 ⟨t.val / 64, by have h : t.val < 512 := t.isLt; omega⟩ ⟨1024 * (t.val % 8) + r.val, by omega⟩ ⟨128 * (t.val / 8 % 8) + d.val, by omega⟩) := by
  blk_point [index_6 t]

/-- The block of window 1 at a point: batch, all rows, head. -/
theorem index_1 : ∀ t : Fin cfg0.N, win0_1.index t (0 : Fin 3) = t.val / 64 ∧ win0_1.index t (1 : Fin 3) = 0 ∧ win0_1.index t (2 : Fin 3) = t.val / 8 % 8 := by
  decide +kernel

/-- An array read through that block. -/
theorem read_1 (t : Fin cfg0.N) (G : S8x8448x1024.Idx → Elt Ideal .bf16) (n : Fin 8448) (d : Fin 128) :
    (win0_1.blk t).view.read (Elt Ideal) G (ix3 0 n d) = G (ix3 ⟨t.val / 64, by have h : t.val < 512 := t.isLt; omega⟩ n ⟨128 * (t.val / 8 % 8) + d.val, by omega⟩) := by
  blk_point [index_1 t]

/-- The block of window 2 at a point: batch, all rows, head. -/
theorem index_2 : ∀ t : Fin cfg0.N, win0_2.index t (0 : Fin 3) = t.val / 64 ∧ win0_2.index t (1 : Fin 3) = 0 ∧ win0_2.index t (2 : Fin 3) = t.val / 8 % 8 := by
  decide +kernel

/-- An array read through that block. -/
theorem read_2 (t : Fin cfg0.N) (G : S8x8448x1024.Idx → Elt Ideal .bf16) (n : Fin 8448) (d : Fin 128) :
    (win0_2.blk t).view.read (Elt Ideal) G (ix3 0 n d) = G (ix3 ⟨t.val / 64, by have h : t.val < 512 := t.isLt; omega⟩ n ⟨128 * (t.val / 8 % 8) + d.val, by omega⟩) := by
  blk_point [index_2 t]

/-- Window 3 is its whole array at every point. -/
theorem index_3 : ∀ t : Fin cfg0.N, win0_3.index t (0 : Fin 2) = 0 ∧ win0_3.index t (1 : Fin 2) = 0 := by
  decide +kernel

/-- An array read through it. -/
theorem read_3 (t : Fin cfg0.N) (G : S1x128.Idx → Elt Ideal .f32) (r : Fin 1) (d : Fin 128) :
    (win0_3.blk t).view.read (Elt Ideal) G (ix2 r d) = G (ix2 r d) := by
  blk_point [index_3 t]

/-- Window 4 is its whole array at every point. -/
theorem index_4 : ∀ t : Fin cfg0.N, win0_4.index t (0 : Fin 2) = 0 ∧ win0_4.index t (1 : Fin 2) = 0 := by
  decide +kernel

/-- An array read through it. -/
theorem read_4 (t : Fin cfg0.N) (G : S4x64.Idx → Elt Ideal .f32) (r : Fin 4) (d : Fin 64) :
    (win0_4.blk t).view.read (Elt Ideal) G (ix2 r d) = G (ix2 r d) := by
  blk_point [index_4 t]

/-- Window 5 is its whole array at every point. -/
theorem index_5 : ∀ t : Fin cfg0.N, win0_5.index t (0 : Fin 2) = 0 ∧ win0_5.index t (1 : Fin 2) = 0 := by
  decide +kernel

/-- An array read through it. -/
theorem read_5 (t : Fin cfg0.N) (G : S1x128.Idx → Elt Ideal .f32) (r : Fin 1) (d : Fin 128) :
    (win0_5.blk t).view.read (Elt Ideal) G (ix2 r d) = G (ix2 r d) := by
  blk_point [index_5 t]

end Cert.KernelIdeal.Hand

end
-- ==== Proof.Finite.lean ====
/- What the precondition says: every entry of the eleven arrays it names is a real number. -/
module

public import proofs.«01_k».proof.Pre_finite
public import proofs.«01_k».proof.Proof.Spec
public import Idealize.ShloMosaic.Lib.ReduceAll
public import Idealize.ShloMosaic.Lib.Affine

@[expose] public section

noncomputable section

namespace Cert.Finite

open Idealize.ShloMosaic Cert.Spec Cert.Pre_finite

/-- An extended real of absolute value below infinity is a real number. -/
theorem real_of_lt (x : EReal) (h : max x (-x) < ⊤) : ∃ r : ℝ, x = (r : EReal) := by
  induction x using EReal.rec with
  | bot => simp at h
  | top => simp at h
  | coe r => exact ⟨r, rfl⟩

/-- A reduction by `and` of the comparisons with infinity. -/
theorem real_of_reduce {s : Shape} {axes : List (Fin s.rank)} (x : FVec Ideal s .f32) (b : S_.BroadcastsInDim s (![] : Fin 0 → Fin s.rank))
    (hr : s.ReducesTo axes S_) (hu : 0 < S_.numel) (i : S_.Idx)
    (h : Host.reduce IntOp.andi (cmpf .olt (Host.absf x) (broadcastInDim s ![] b (constant (F := Ideal) S_ .f32 0x7F800000#32))) (constantI S_ 1 1#1) hr hu i = 1#1) :
    Real' x := by
  intro j
  have e := Host.reduce_andi_eq_one _ _ hr hu i h j (funext fun a => a.elim0)
  apply real_of_lt
  have d : FloatOps.cmpf (F := Ideal) .olt (FloatOps.hostAbsf (x j)) (FloatOps.ofBits (F := Ideal) .f32 0x7F800000#32) = 1#1 := e
  have k : Ideal.ofBits .f32 0x7F800000#32 = ⊤ := by simp [Ideal.ofBits, Ideal.ieee]
  have g : BitVec.ofBool (decide (max (x j) (-x j) < ⊤)) = 1#1 := by
    rw [← k]; exact d
  by_contra hn
  rw [decide_eq_false hn] at g
  exact absurd g (by decide)

/-- What the precondition gives. -/
structure Args (a0 a1 a2 : S8x8192x1024.Idx → EReal) (a3 a4 : S8x256x1024.Idx → EReal) (a5 a6 a7 a8 a9 a10 : S64.Idx → EReal) : Prop where
  h0 : Real' a0
  h1 : Real' a1
  h2 : Real' a2
  h3 : Real' a3
  h4 : Real' a4
  h5 : Real' a5
  h6 : Real' a6
  h7 : Real' a7
  h8 : Real' a8
  h9 : Real' a9
  h10 : Real' a10

/-- The precondition at its one index: the eleven arrays hold real numbers. -/
theorem args_of_fn [Cert.Pre_finite.Facts] (a0 a1 a2 : FVec Ideal S8x8192x1024 .f32) (a3 a4 : FVec Ideal S8x256x1024 .f32) (a5 a6 a7 a8 a9 a10 : FVec Ideal S64 .f32)
    (a11 : FVec Ideal S128 .f32) (i : S_.Idx) (h : fn (F := Ideal) a0 a1 a2 a3 a4 a5 a6 a7 a8 a9 a10 a11 i = 1#1) :
    Args a0 a1 a2 a3 a4 a5 a6 a7 a8 a9 a10 := by
  unfold fn fn_part1 fn_part2 fn_part3 at h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_reduce _ _ _ _ _ h0, real_of_reduce _ _ _ _ _ h1, real_of_reduce _ _ _ _ _ h2, real_of_reduce _ _ _ _ _ h3,
    real_of_reduce _ _ _ _ _ h4, real_of_reduce _ _ _ _ _ h5, real_of_reduce _ _ _ _ _ h6, real_of_reduce _ _ _ _ _ h7,
    real_of_reduce _ _ _ _ _ h8, real_of_reduce _ _ _ _ _ h9, real_of_reduce _ _ _ _ _ h10⟩

end Cert.Finite

end
-- ==== Proof.Array.lean ====
/- The array the kernel leaves: the differential attention of its arguments. -/
module

public import proofs.«01_k».proof.Proof.Block
public import proofs.«01_k».proof.Proof.Windows
public import proofs.«01_k».proof.Proof.Out
public import proofs.«01_k».proof.Proof.Finite
public import Idealize.ShloMosaic.Lib.Pipeline.ValueKit
public import Idealize.ShloMosaic.Lib.StableHlo.ReadAt

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Sums Cert.Spec Cert.Finite

variable (m : (ℓ : Loc nD τ sig) → Buf (Elt Ideal) ℓ) (ρ : Dev nD → PrngReg)

/-- The array a core's launch is to leave. -/
def res (c : Dev nD) : S8x8192x1024.Idx → Elt Ideal .bf16 :=
  out (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg7)) (m ((c : Thread nD τ).loc main_arg8)) (m ((c : Thread nD τ).loc main_arg9)) (m ((c : Thread nD τ).loc main_arg10)) (m ((c : Thread nD τ).loc main_arg11))

/-- The argument arrays of a core hold real numbers. -/
def Fin' (c : Dev nD) : Prop := Args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

variable (c : Dev nD) (hf : Fin' m c) (t : Fin cfg0.N)
include hf

/-- The queries of a point. -/
theorem q_at (r : Fin 1024) (d : Fin 128) :
    iblk m c 0 t (ix3 0 r d) = ((at3 (m ((c : Thread nD τ).loc main_arg0)) (t.val / 64) (1024 * (t.val % 8) + r.val) (128 * (t.val / 8 % 8) + d.val) : ℝ) : EReal) := by
  have ht : t.val < 512 := t.isLt
  refine ((read_0 t _ r d).trans (V_q m c _ _ _)).trans ?_
  exact at3_eq hf.h0 _ _ _ _ _ _

/-- Rows of the two arrays stacked. -/
theorem stack_at {X : S8x8192x1024.Idx → EReal} {Y : S8x256x1024.Idx → EReal} (hX : Real' X) (hY : Real' Y) (b : Fin 8) (n : Fin 8448) (x : Fin 1024) :
    (if h : n.val < 8192 then X (ix3 b ⟨n.val, h⟩ x) else Y (ix3 b ⟨n.val - 8192, by omega⟩ x)) = ((rows X Y b.val n.val x.val : ℝ) : EReal) := by
  unfold rows
  split
  · exact at3_eq hX _ _ _ _ _ _
  · exact at3_eq hY _ _ _ _ _ _

/-- The keys of a point. -/
theorem k_at (n : Fin 8448) (d : Fin 128) :
    iblk m c 1 t (ix3 0 n d) = ((rows (m ((c : Thread nD τ).loc main_arg1)) (m ((c : Thread nD τ).loc main_arg3)) (t.val / 64) n.val (128 * (t.val / 8 % 8) + d.val) : ℝ) : EReal) := by
  have ht : t.val < 512 := t.isLt
  refine ((read_1 t _ n d).trans (V_k m c _ _ _)).trans ?_
  exact stack_at m c hf hf.h1 hf.h3 _ _ _

/-- The values of a point. -/
theorem v_at (n : Fin 8448) (d : Fin 128) :
    iblk m c 2 t (ix3 0 n d) = ((rows (m ((c : Thread nD τ).loc main_arg2)) (m ((c : Thread nD τ).loc main_arg4)) (t.val / 64) n.val (128 * (t.val / 8 % 8) + d.val) : ℝ) : EReal) := by
  have ht : t.val < 512 := t.isLt
  refine ((read_2 t _ n d).trans (V_v m c _ _ _)).trans ?_
  exact stack_at m c hf hf.h2 hf.h4 _ _ _

/-- The shift of a point. -/
theorem sh_at : ∃ sh : ℝ, ∀ l : Fin 128, iblk m c 3 t (ix2 0 l) = (sh : EReal) := by
  obtain ⟨sh, h⟩ := V_shift m c hf.h5 hf.h6
  exact ⟨sh, fun l => (read_3 t _ 0 l).trans (h l)⟩

/-- The second map's factor at a point. -/
theorem lam_at : k0_pay41 (iblk m c 4 t) (ix2 0 0)
    = (((lamOf (m ((c : Thread nD τ).loc main_arg7)) (m ((c : Thread nD τ).loc main_arg8)) (m ((c : Thread nD τ).loc main_arg9)) (m ((c : Thread nD τ).loc main_arg10))).toReal : ℝ) : EReal) := by
  have r0 : ∀ x : Fin 64, iblk m c 4 t (ix2 0 x) = m ((c : Thread nD τ).loc main_arg7) (ix1 x) := fun x => (read_4 t _ 0 x).trans (V_lam0 m c x)
  have r1 : ∀ x : Fin 64, iblk m c 4 t (ix2 1 x) = m ((c : Thread nD τ).loc main_arg8) (ix1 x) := fun x => (read_4 t _ 1 x).trans (V_lam1 m c x)
  have r2 : ∀ x : Fin 64, iblk m c 4 t (ix2 2 x) = m ((c : Thread nD τ).loc main_arg9) (ix1 x) := fun x => (read_4 t _ 2 x).trans (V_lam2 m c x)
  have r3 : ∀ x : Fin 64, iblk m c 4 t (ix2 3 x) = m ((c : Thread nD τ).loc main_arg10) (ix1 x) := fun x => (read_4 t _ 3 x).trans (V_lam3 m c x)
  rw [← lamOf_real hf.h7 hf.h8 hf.h9 hf.h10, lam_apply]
  simp only [r0, r1, r2, r3]
  rfl

/-- An element of the block a point leaves. -/
theorem block_at (r : Fin 1024) (e : Fin 128) :
    outAt m c t (ix3 0 r e) = res m c (ix3 ⟨t.val / 64, by have h : t.val < 512 := t.isLt; omega⟩ ⟨1024 * (t.val % 8) + r.val, by omega⟩ ⟨128 * (t.val / 8 % 8) + e.val, by omega⟩) := by
  have ht : t.val < 512 := t.isLt
  have key : ∀ a : FVec Ideal S1024x128 .f32, (∀ (r : Fin 1024) (e : Fin 128), a (ix2 r e)
        = ((attn (fun r d => at3 (m ((c : Thread nD τ).loc main_arg0)) (t.val / 64) (1024 * (t.val % 8) + r) (128 * (t.val / 8 % 8) + d))
          (fun n d => rows (m ((c : Thread nD τ).loc main_arg1)) (m ((c : Thread nD τ).loc main_arg3)) (t.val / 64) n (128 * (t.val / 8 % 8) + d))
          (fun n d => rows (m ((c : Thread nD τ).loc main_arg2)) (m ((c : Thread nD τ).loc main_arg4)) (t.val / 64) n (128 * (t.val / 8 % 8) + d))
          (lamOf (m ((c : Thread nD τ).loc main_arg7)) (m ((c : Thread nD τ).loc main_arg8)) (m ((c : Thread nD τ).loc main_arg9)) (m ((c : Thread nD τ).loc main_arg10))).toReal r.val e.val : ℝ) : EReal)) →
      blockOf a (iblk m c 5 t) (ix3 0 r e) = res m c (ix3 ⟨t.val / 64, by have h : t.val < 512 := t.isLt; omega⟩ ⟨1024 * (t.val % 8) + r.val, by omega⟩ ⟨128 * (t.val / 8 % 8) + e.val, by omega⟩) := by
    intro a ha
    have s : iblk m c 5 t (ix2 0 e) = m ((c : Thread nD τ).loc main_arg11) (ix1 e) := (read_5 t _ 0 e).trans (V_sub m c e)
    have e1 : (128 * (t.val / 8 % 8) + e.val) / 128 = t.val / 8 % 8 := by omega
    have e2 : (⟨(128 * (t.val / 8 % 8) + e.val) % 128, Nat.mod_lt _ (by decide)⟩ : Fin 128) = e := Fin.ext (by show (128 * (t.val / 8 % 8) + e.val) % 128 = e.val; omega)
    rw [blockOf_apply, s]
    simp only [ha]
    show _ = normOf (fun x => ((attnOf (m ((c : Thread nD τ).loc main_arg0)) (m ((c : Thread nD τ).loc main_arg1)) (m ((c : Thread nD τ).loc main_arg2)) (m ((c : Thread nD τ).loc main_arg3)) (m ((c : Thread nD τ).loc main_arg4)) (lamOf (m ((c : Thread nD τ).loc main_arg7)) (m ((c : Thread nD τ).loc main_arg8)) (m ((c : Thread nD τ).loc main_arg9)) (m ((c : Thread nD τ).loc main_arg10))).toReal
      (t.val / 64) ((128 * (t.val / 8 % 8) + e.val) / 128) (1024 * (t.val % 8) + r.val) x.val : ℝ) : EReal)) (m ((c : Thread nD τ).loc main_arg11)) ⟨(128 * (t.val / 8 % 8) + e.val) % 128, Nat.mod_lt _ (by decide)⟩
    rw [e1, e2]
    rfl
  obtain ⟨sh, hsh⟩ := sh_at m c hf t
  rcases outAt_eq m c t with h | h
  · rw [h]
    exact key _ fun r e => exactA_real (q_at m c hf t) (k_at m c hf t) (v_at m c hf t) (lam_at m c hf t) r e
  · rw [h]
    exact key _ fun r e => fastA_real (q_at m c hf t) (k_at m c hf t) (v_at m c hf t) hsh (lam_at m c hf t) r e

/-- What a point writes back is its block of the array. -/
theorem flushed_eq : (dats m 0 c).flushed 6 t = (win0_6.blk t).view.read (Elt Ideal) (res m c) := by
  show (cfg0.win 6).cut (grid0.coords t) ((dats m 0 c).after 6 t) = _
  rw [after_6]
  funext y
  have e : y = ix3 (n0 := 1) (n1 := 1024) (n2 := 128) 0 (y 1) (y 2) := by
    funext a
    match a with
    | ⟨0, _⟩ => exact Subsingleton.elim (α := Fin 1) _ _
    | ⟨1, _⟩ => rfl
    | ⟨2, _⟩ => rfl
  rw [e]
  exact (block_at m c hf t (y 1) (y 2)).trans (read_6 t (res m c) (y 1) (y 2)).symm

omit hf in
/-- The blocks written back cover the array. -/
theorem cover (i : S8x8192x1024.Idx) : ∃ t : Fin cfg0.N, (cfg0.win 6).flush t = true ∧ i ∈ ((cfg0.win 6).blk t).view.set := by
  have h0 : (i 0 : Nat) < 8 := (i 0).isLt
  have h1 : (i 1 : Nat) < 8192 := (i 1).isLt
  have h2 : (i 2 : Nat) < 1024 := (i 2).isLt
  have hN : cfg0.N = 512 := N_0
  let t : Fin cfg0.N := ⟨64 * (i 0).val + 8 * ((i 2).val / 128) + (i 1).val / 1024, by rw [hN]; omega⟩
  have tv : t.val = 64 * (i 0).val + 8 * ((i 2).val / 128) + (i 1).val / 1024 := rfl
  refine ⟨t, flush0_6 _, ?_⟩
  show i ∈ ((View.whole main_v30).slice (win0_6.rect t)).set
  rw [View.set_slice_whole, Rect.mem_set_unit]
  obtain ⟨i0, i1, i2⟩ := index_6 t
  intro a
  match a with
  | ⟨0, _⟩ =>
    show win0_6.index t 0 * 1 ≤ (i 0 : Nat) ∧ (i 0 : Nat) < win0_6.index t 0 * 1 + 1
    rw [i0, tv]; omega
  | ⟨1, _⟩ =>
    show win0_6.index t 1 * 1024 ≤ (i 1 : Nat) ∧ (i 1 : Nat) < win0_6.index t 1 * 1024 + 1024
    rw [i1, tv]; omega
  | ⟨2, _⟩ =>
    show win0_6.index t 2 * 128 ≤ (i 2 : Nat) ∧ (i 2 : Nat) < win0_6.index t 2 * 128 + 128
    rw [i2, tv]; omega

/-- The array after the launch. -/
theorem final : (dats m 0 c).arrAt 6 cfg0.N = res m c :=
  (dats m 0 c).arrAt_eq_of_cover 6 (res m c) (fun t _ => flushed_eq m c hf t) cover

omit hf in
/-- The run: the result array at the attention of the arguments, the arguments unchanged. -/
theorem run (hf : ∀ c, Fin' m c) : θ_run defs (onTc (τ := τ) (main (F := Ideal))) ⟨m, fun _ => 0, ρ⟩ fun r => ∀ c : Dev nD,
      r.2.mem ((c.tc : Thread nD τ).loc main_v30) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h' c => by
    have h := h'.1
    exact ⟨((h c).1 6).trans (final m c (hf c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩)
    (run_main m ρ)

end Cert.KernelIdeal.Hand

end
-- ==== Proof.Ref.lean ====
/- The reference's result, cut into its stages, and each stage read at an index over the extended reals. -/
module

public import proofs.«01_k».proof.Proof.Gen.ReferenceIdeal.Run
public import proofs.«01_k».proof.Proof.Sums
public import Idealize.ShloMosaic.Lib.Pointwise
public import Idealize.ShloMosaic.Lib.Tactic.CleanTypes

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic

/-- The queries by batch, head, map, token and channel. -/
def qH (a0 : Vec Ideal S8x8192x1024 .f32) : Vec Ideal S8x8x2x8192x64 .f32 :=
  shapeCast _ (transpose S8x16x8192x64 [0, 2, 1, 3] (shapeCast S8x8192x16x64 a0 shapeCasts_S8x8192x1024_S8x8192x16x64)
    transposes_S8x8192x16x64_S8x16x8192x64_0_2_1_3) shapeCasts_S8x16x8192x64_S8x8x2x8192x64

/-- The keys, the context's first. -/
def kH (a1 : Vec Ideal S8x8192x1024 .f32) (a3 : Vec Ideal S8x256x1024 .f32) : Vec Ideal S8x8x2x8448x64 .f32 :=
  shapeCast _ (fn_main_v18 (F := Ideal) (transpose S8x16x256x64 [0, 2, 1, 3] (shapeCast S8x256x16x64 a3 shapeCasts_S8x256x1024_S8x256x16x64) transposes_S8x256x16x64_S8x16x256x64_0_2_1_3)
    (transpose S8x16x8192x64 [0, 2, 1, 3] (shapeCast S8x8192x16x64 a1 shapeCasts_S8x8192x1024_S8x8192x16x64) transposes_S8x8192x16x64_S8x16x8192x64_0_2_1_3))
    shapeCasts_S8x16x8448x64_S8x8x2x8448x64

/-- The values, the context's first. -/
def vH (a2 : Vec Ideal S8x8192x1024 .f32) (a4 : Vec Ideal S8x256x1024 .f32) : Vec Ideal S8x8x8448x128 .f32 :=
  fn_main_v20 (F := Ideal) (transpose S8x8x256x128 [0, 2, 1, 3] (shapeCast S8x256x8x128 a4 shapeCasts_S8x256x1024_S8x256x8x128) transposes_S8x256x8x128_S8x8x256x128_0_2_1_3)
    (transpose S8x8x8192x128 [0, 2, 1, 3] (shapeCast S8x8192x8x128 a2 shapeCasts_S8x8192x1024_S8x8192x8x128) transposes_S8x8192x8x128_S8x8x8192x128_0_2_1_3)

/-- The scaled scores. -/
def sH (q : FVec Ideal S8x8x2x8192x64 .f32) (k : FVec Ideal S8x8x2x8448x64 .f32) : FVec Ideal S8x8x2x8192x8448 .f32 :=
  mulf (Host.dotGeneral dot_S8x8x2x8192x64_S8x8x2x8448x64_S8x8x2x8192x8448_4_4_3_3_012_012 none q k)
    (broadcastInDim S8x8x2x8192x8448 ![] bcast_S_S8x8x2x8192x8448 (constant S_ .f32 0x3E000000#32))

/-- The row maxima. -/
def mH (s : FVec Ideal S8x8x2x8192x8448 .f32) : FVec Ideal S8x8x2x8192 .f32 :=
  maximumf (broadcastInDim S8x8x2x8192 ![] bcast_S_S8x8x2x8192 (constant S_ .f32 0xFF800000#32))
    (Host.reduce FloatOps.maximumf s (constant S_ .f32 0xFF800000#32) reducesTo_S8x8x2x8192x8448_S8x8x2x8192_d4 h_S_)

/-- The exponentials, shifted by the row maxima. -/
def eH (s : FVec Ideal S8x8x2x8192x8448 .f32) (x : FVec Ideal S8x8x2x8192 .f32) : FVec Ideal S8x8x2x8192x8448 .f32 :=
  Host.exp (subf s (broadcastInDim S8x8x2x8192x8448 ![0, 1, 2, 3, 4] bcast_S8x8x2x8192x1_S8x8x2x8192x8448_0_1_2_3_4
    (broadcastInDim S8x8x2x8192x1 ![0, 1, 2, 3] bcast_S8x8x2x8192_S8x8x2x8192x1_0_1_2_3 x)))

/-- The softmax weights. -/
def pH (e : FVec Ideal S8x8x2x8192x8448 .f32) : FVec Ideal S8x8x2x8192x8448 .f32 :=
  Host.divf e (broadcastInDim S8x8x2x8192x8448 ![0, 1, 2, 3, 4] bcast_S8x8x2x8192x1_S8x8x2x8192x8448_0_1_2_3_4
    (broadcastInDim S8x8x2x8192x1 ![0, 1, 2, 3] bcast_S8x8x2x8192_S8x8x2x8192x1_0_1_2_3
      (Host.reduceAdd e (constant S_ .f32 0x00000000#32) reducesTo_S8x8x2x8192x8448_S8x8x2x8192_d4 h_S_)))

/-- The second map's factor. -/
def lamH (a7 a8 a9 a10 : FVec Ideal S64 .f32) : FVec Ideal S_ .f32 :=
  addf (subf (Host.exp (Host.reduceAdd (mulf a7 a8) (constant S_ .f32 0x00000000#32) reducesTo_S64_S_d0 h_S_))
    (Host.exp (Host.reduceAdd (mulf a9 a10) (constant S_ .f32 0x00000000#32) reducesTo_S64_S_d0 h_S_))) (constant S_ .f32 0x3F0E59D5#32)

/-- The difference of the two maps' weights. -/
def dH (lam : FVec Ideal S_ .f32) (p : FVec Ideal S8x8x2x8192x8448 .f32) : FVec Ideal S8x8x8192x8448 .f32 :=
  subf (shapeCast _ (extractStridedSlice S8x8x1x8192x8448 ![0, 0, 0, 0, 0] p slices_S8x8x2x8192x8448_S8x8x1x8192x8448_0_0_0_0_0) shapeCasts_S8x8x1x8192x8448_S8x8x8192x8448)
    (mulf (broadcastInDim S8x8x8192x8448 ![] bcast_S_S8x8x8192x8448 lam)
      (shapeCast _ (extractStridedSlice S8x8x1x8192x8448 ![0, 0, 1, 0, 0] p slices_S8x8x2x8192x8448_S8x8x1x8192x8448_0_0_1_0_0) shapeCasts_S8x8x1x8192x8448_S8x8x8192x8448))

/-- The weighted values. -/
def oH (d : FVec Ideal S8x8x8192x8448 .f32) (v : FVec Ideal S8x8x8448x128 .f32) : FVec Ideal S8x8x8192x128 .f32 :=
  Host.dotGeneral dot_S8x8x8192x8448_S8x8x8448x128_S8x8x8192x128_3_2_2_3_01_01 none d v

/-- The normalised and scaled result, heads side by side. -/
def fH (o : FVec Ideal S8x8x8192x128 .f32) (a11 : FVec Ideal S128 .f32) : FVec Ideal S8x8192x1024 .bf16 :=
  truncf .bf16 (shapeCast S8x8192x1024 (transpose S8x8192x8x128 [0, 2, 1, 3]
    (mulf (mulf (mulf o (broadcastInDim S8x8x8192x128 ![0, 1, 2, 3] bcast_S8x8x8192x1_S8x8x8192x128_0_1_2_3
      (Host.rsqrt (addf (Host.divf (broadcastInDim S8x8x8192x1 ![0, 1, 2] bcast_S8x8x8192_S8x8x8192x1_0_1_2
        (Host.reduceAdd (mulf o o) (constant S_ .f32 0x00000000#32) reducesTo_S8x8x8192x128_S8x8x8192_d3 h_S_))
        (broadcastInDim S8x8x8192x1 ![] bcast_S_S8x8x8192x1 (constant S_ .f32 0x43000000#32)))
        (broadcastInDim S8x8x8192x1 ![] bcast_S_S8x8x8192x1 (constant S_ .f32 0x358637BD#32))))))
      (broadcastInDim S8x8x8192x128 ![0, 1, 2, 3] bcast_S1x1x1x128_S8x8x8192x128_0_1_2_3 (broadcastInDim S1x1x1x128 ![3] bcast_S128_S1x1x1x128_3 a11)))
      (broadcastInDim S8x8x8192x128 ![] bcast_S_S8x8x8192x128 (constant S_ .f32 0x3EE34C57#32)))
    transposes_S8x8x8192x128_S8x8192x8x128_0_2_1_3) shapeCasts_S8x8192x8x128_S8x8192x1024) bitsLt_bf16_f32

/-- The attention before the normalisation. -/
def attnH (a0 a1 a2 : Vec Ideal S8x8192x1024 .f32) (a3 a4 : Vec Ideal S8x256x1024 .f32) (a7 a8 a9 a10 : FVec Ideal S64 .f32) : FVec Ideal S8x8x8192x128 .f32 :=
  oH (dH (lamH a7 a8 a9 a10) (pH (eH (sH (qH a0) (kH a1 a3)) (mH (sH (qH a0) (kH a1 a3)))))) (vH a2 a4)

variable (m : (ℓ : Loc nD τ sig) → Buf (Elt Ideal) ℓ)

/-- The reference's result, by its stages. -/
theorem res_eq (c : Dev nD) : res_main_v61 m c = fH (attnH (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg7))
    (m ((c : Thread nD τ).loc main_arg8)) (m ((c : Thread nD τ).loc main_arg9)) (m ((c : Thread nD τ).loc main_arg10))) (m ((c : Thread nD τ).loc main_arg11)) := by
  unfold res_main_v61 fH attnH oH vH dH pH eH mH sH lamH kH qH
  rfl

theorem qH_apply (a0 : Vec Ideal S8x8192x1024 .f32) (b h : Fin 8) (j : Fin 2) (t : Fin 8192) (d : Fin 64) :
    qH a0 (ix5 b h j t d) = a0 (ix3 b t ⟨128 * h.val + 64 * j.val + d.val, by omega⟩) := by
  pointwise [qH]
  have e : (h.val * 2 + j.val) * 64 + d.val = 128 * h.val + 64 * j.val + d.val := by omega
  simp only [e]

theorem kH_apply (a1 : Vec Ideal S8x8192x1024 .f32) (a3 : Vec Ideal S8x256x1024 .f32) (b h : Fin 8) (j : Fin 2) (n : Fin 8448) (d : Fin 64) :
    kH a1 a3 (ix5 b h j n d) = if hn : n.val < 256 then a3 (ix3 b ⟨n.val, hn⟩ ⟨128 * h.val + 64 * j.val + d.val, by omega⟩)
      else a1 (ix3 b ⟨n.val - 256, by omega⟩ ⟨128 * h.val + 64 * j.val + d.val, by omega⟩) := by
  pointwise [kH, fn_main_v18]
  have e : (h.val * 2 + j.val) * 64 + d.val = 128 * h.val + 64 * j.val + d.val := by omega
  simp only [e]

theorem vH_apply (a2 : Vec Ideal S8x8192x1024 .f32) (a4 : Vec Ideal S8x256x1024 .f32) (b h : Fin 8) (n : Fin 8448) (e : Fin 128) :
    vH a2 a4 (ix4 b h n e) = if hn : n.val < 256 then a4 (ix3 b ⟨n.val, hn⟩ ⟨128 * h.val + e.val, by omega⟩)
      else a2 (ix3 b ⟨n.val - 256, by omega⟩ ⟨128 * h.val + e.val, by omega⟩) := by
  pointwise [vH, fn_main_v20]
  have c : h.val * 128 + e.val = 128 * h.val + e.val := by omega
  simp only [c]

theorem sH_apply (q : FVec Ideal S8x8x2x8192x64 .f32) (k : FVec Ideal S8x8x2x8448x64 .f32) (b h : Fin 8) (j : Fin 2) (t : Fin 8192) (n : Fin 8448) :
    sH q k (ix5 b h j t n) = (∑ d : Fin 64, q (ix5 b h j t d) * k (ix5 b h j n d)) * Ideal.ofBits .f32 0x3E000000#32 := by
  pointwise [sH]

/-- A maximum over the last axis, at any extents. -/
theorem reduce_max {n0 n1 n2 n3 n4 : ℕ} (s : FVec Ideal ⟨5, ![n0, n1, n2, n3, n4]⟩ .f32) (v : FVec Ideal S_ .f32)
    (h : (⟨5, ![n0, n1, n2, n3, n4]⟩ : Shape).ReducesTo [4] ⟨4, ![n0, n1, n2, n3]⟩) (hu : 0 < S_.numel) (a : Fin n0) (b : Fin n1) (c : Fin n2) (d : Fin n3) :
    Host.reduce FloatOps.maximumf s v h hu (ix4 a b c d) = Finset.fold max (v (Shape.Idx.first hu)) (fun n : Fin n4 => s (ix5 a b c d n)) Finset.univ := by
  pointwise

/-- The larger of a vector's element and the negative infinity. -/
theorem max_bot (x : FVec Ideal S8x8x2x8192 .f32) (j : S8x8x2x8192.Idx) :
    maximumf (broadcastInDim S8x8x2x8192 ![] bcast_S_S8x8x2x8192 (constant (F := Ideal) S_ .f32 0xFF800000#32)) x j = x j := by
  show max (Ideal.ofBits .f32 0xFF800000#32) (x j) = x j
  rw [Cert.Sums.ofBits_neg_inf]
  exact max_eq_right bot_le

theorem mH_apply (s : FVec Ideal S8x8x2x8192x8448 .f32) (b h : Fin 8) (j : Fin 2) (t : Fin 8192) :
    mH s (ix4 b h j t) = Finset.fold max (⊥ : EReal) (fun n : Fin 8448 => s (ix5 b h j t n)) Finset.univ := by
  rw [mH, max_bot, reduce_max, ← Cert.Sums.ofBits_neg_inf]
  rfl

theorem eH_apply (s : FVec Ideal S8x8x2x8192x8448 .f32) (x : FVec Ideal S8x8x2x8192 .f32) (b h : Fin 8) (j : Fin 2) (t : Fin 8192) (n : Fin 8448) :
    eH s x (ix5 b h j t n) = Ideal.exp (s (ix5 b h j t n) - x (ix4 b h j t)) := by
  pointwise [eH]

theorem pH_apply (e : FVec Ideal S8x8x2x8192x8448 .f32) (b h : Fin 8) (j : Fin 2) (t : Fin 8192) (n : Fin 8448) :
    pH e (ix5 b h j t n) = Ideal.div (e (ix5 b h j t n)) (∑ n : Fin 8448, e (ix5 b h j t n)) := by
  pointwise [pH]

theorem lamH_apply (a7 a8 a9 a10 : FVec Ideal S64 .f32) (i : S_.Idx) : lamH a7 a8 a9 a10 i
    = Ideal.exp (∑ x : Fin 64, a7 (ix1 x) * a8 (ix1 x)) - Ideal.exp (∑ x : Fin 64, a9 (ix1 x) * a10 (ix1 x)) + Ideal.ofBits FTy.f32 0x3F0E59D5#32 := by
  pointwise [lamH]

theorem dH_apply (lam : FVec Ideal S_ .f32) (p : FVec Ideal S8x8x2x8192x8448 .f32) (b h : Fin 8) (t : Fin 8192) (n : Fin 8448) :
    dH lam p (ix4 b h t n) = p (ix5 b h 0 t n) - lam ix0 * p (ix5 b h 1 t n) := by
  pointwise [dH]

theorem oH_apply (d : FVec Ideal S8x8x8192x8448 .f32) (v : FVec Ideal S8x8x8448x128 .f32) (b h : Fin 8) (t : Fin 8192) (e : Fin 128) :
    oH d v (ix4 b h t e) = ∑ n : Fin 8448, d (ix4 b h t n) * v (ix4 b h n e) := by
  pointwise [oH]

theorem fH_apply (o : FVec Ideal S8x8x8192x128 .f32) (a11 : FVec Ideal S128 .f32) (b : Fin 8) (t : Fin 8192) (x : Fin 1024) :
    fH o a11 (ix3 b t x) = o (ix4 b ⟨x.val / 128, by omega⟩ t ⟨x.val % 128, by omega⟩)
      * Ideal.rsqrt (Ideal.div (∑ e : Fin 128, o (ix4 b ⟨x.val / 128, by omega⟩ t e) * o (ix4 b ⟨x.val / 128, by omega⟩ t e)) (Ideal.ofBits FTy.f32 0x43000000#32)
        + Ideal.ofBits FTy.f32 0x358637BD#32) * a11 (ix1 ⟨x.val % 128, by omega⟩) * Ideal.ofBits FTy.f32 0x3EE34C57#32 := by
  pointwise [fH]

end Cert.ReferenceIdeal.Hand

end
-- ==== Proof.RefEq.lean ====
/- The reference's array is the differential attention of its arguments: the row maximum cancels in each softmax, and the
   order of the keys does not matter to a sum. -/
module

public import proofs.«01_k».proof.Proof.Ref
public import proofs.«01_k».proof.Proof.Spec
public import proofs.«01_k».proof.Proof.Finite

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic
open Cert.Sums Cert.Spec Cert.Finite

/-- Where the reference's row `n` lies when the latent rows come first. -/
def rot (n : ℕ) : ℕ := if n < 256 then 8192 + n else n - 256

/-- Two stretches of a sum exchanged. -/
theorem sum_swap (g : ℕ → ℝ) (a b : ℕ) : ∑ n ∈ Finset.range (a + b), g (if n < a then b + n else n - a) = ∑ n ∈ Finset.range (b + a), g n := by
  rw [Finset.sum_range_add, Finset.sum_range_add, add_comm]
  congr 1
  · refine Finset.sum_congr rfl fun n _ => ?_
    rw [if_neg (by omega), Nat.add_sub_cancel_left]
  · refine Finset.sum_congr rfl fun n hn => ?_
    rw [if_pos (Finset.mem_range.1 hn)]

/-- A sum over all rows does not see their order. -/
theorem sum_rot (g : ℕ → ℝ) : ∑ n : Fin 8448, g (rot n.val) = ∑ n ∈ Finset.range 8448, g n := by
  rw [Fin.sum_univ_eq_sum_range (fun n => g (rot n)) 8448]
  exact sum_swap g 256 8192

/-- The context's rows, then the latent rows. -/
theorem rows_rot {X : S8x8192x1024.Idx → EReal} {Y : S8x256x1024.Idx → EReal} (hX : Real' X) (hY : Real' Y) (b : Fin 8) (n : Fin 8448) (x : Fin 1024) :
    (if h : n.val < 256 then Y (ix3 b ⟨n.val, h⟩ x) else X (ix3 b ⟨n.val - 256, by omega⟩ x)) = ((rows X Y b.val (rot n.val) x.val : ℝ) : EReal) := by
  have hn := n.isLt
  unfold rows rot
  split
  · rename_i h
    rw [if_neg (by omega), Nat.add_sub_cancel_left]
    exact at3_eq hY _ _ _ _ _ _
  · rename_i h
    rw [if_pos (by omega)]
    exact at3_eq hX _ _ _ _ _ _

/-- The exponentials' total is not zero. -/
theorem total_ne (S : ℕ → ℝ) : (∑ n ∈ Finset.range 8448, Real.exp (S n * (1 / 8))) ≠ 0 :=
  (Finset.sum_pos (fun _ _ => Real.exp_pos _) ⟨0, by simp⟩).ne'

/-- A softmax over real scores: the maximum subtracted cancels. -/
theorem softmax (s : FVec Ideal S8x8x2x8192x8448 .f32) (b h : Fin 8) (j : Fin 2) (t : Fin 8192) (S : ℕ → ℝ)
    (hs : ∀ n : Fin 8448, s (ix5 b h j t n) = ((S (rot n.val) * (1 / 8) : ℝ) : EReal)) (n : Fin 8448) :
    pH (eH s (mH s)) (ix5 b h j t n)
      = ((Real.exp (S (rot n.val) * (1 / 8)) / ∑ n ∈ Finset.range 8448, Real.exp (S n * (1 / 8)) : ℝ) : EReal) := by
  obtain ⟨M, hM⟩ : ∃ M : ℝ, mH s (ix4 b h j t) = (M : EReal) := by
    rw [mH_apply]
    simp only [hs]
    exact fold_max_univ fun n : Fin 8448 => S (rot n.val) * (1 / 8)
  have he : ∀ n : Fin 8448, eH s (mH s) (ix5 b h j t n) = ((Real.exp (S (rot n.val) * (1 / 8)) * Real.exp (-M) : ℝ) : EReal) := by
    intro n
    rw [eH_apply, hs, hM, ← EReal.coe_sub, Ideal.exp_coe, sub_eq_add_neg, Real.exp_add]
  rw [pH_apply]
  simp only [he]
  rw [coe_sum, sum_rot (fun k => Real.exp (S k * (1 / 8)) * Real.exp (-M)), ← Finset.sum_mul,
    div_real (mul_ne_zero (total_ne S) (Real.exp_pos _).ne'), mul_div_mul_right _ _ (Real.exp_pos _).ne']

/-- The two maps' weighted sums together are the difference of the means. -/
theorem two_means (S0 S1 W : ℕ → ℝ) (lam : ℝ) :
    ∑ n : Fin 8448, (Real.exp (S0 (rot n.val) * (1 / 8)) / (∑ n ∈ Finset.range 8448, Real.exp (S0 n * (1 / 8)))
        - lam * (Real.exp (S1 (rot n.val) * (1 / 8)) / ∑ n ∈ Finset.range 8448, Real.exp (S1 n * (1 / 8)))) * W (rot n.val)
      = mean S0 W - lam * mean S1 W := by
  generalize hZ0 : (∑ n ∈ Finset.range 8448, Real.exp (S0 n * (1 / 8))) = Z0
  generalize hZ1 : (∑ n ∈ Finset.range 8448, Real.exp (S1 n * (1 / 8))) = Z1
  rw [sum_rot (fun k => (Real.exp (S0 k * (1 / 8)) / Z0 - lam * (Real.exp (S1 k * (1 / 8)) / Z1)) * W k)]
  unfold mean
  rw [hZ0, hZ1, Finset.sum_div, Finset.sum_div, Finset.mul_sum, ← Finset.sum_sub_distrib]
  exact Finset.sum_congr rfl fun k _ => by ring

section

variable {a0 a1 a2 : S8x8192x1024.Idx → EReal} {a3 a4 : S8x256x1024.Idx → EReal} {a5 a6 a7 a8 a9 a10 : S64.Idx → EReal}
variable (ha : Args a0 a1 a2 a3 a4 a5 a6 a7 a8 a9 a10)
include ha

/-- The scaled scores are real. -/
theorem score_real (b h : Fin 8) (j : Fin 2) (t : Fin 8192) (n : Fin 8448) : sH (qH a0) (kH a1 a3) (ix5 b h j t n)
    = ((logit (fun t d => at3 a0 b.val t (128 * h.val + d)) (fun n d => rows a1 a3 b.val n (128 * h.val + d)) j.val t.val (rot n.val) * (1 / 8) : ℝ) : EReal) := by
  have hj := j.isLt
  have hh := h.isLt
  rw [sH_apply]
  have term : ∀ d : Fin 64, qH a0 (ix5 b h j t d) * kH a1 a3 (ix5 b h j n d)
      = ((at3 a0 b.val t.val (128 * h.val + (64 * j.val + d.val)) * rows a1 a3 b.val (rot n.val) (128 * h.val + (64 * j.val + d.val)) : ℝ) : EReal) := by
    intro d
    have hd := d.isLt
    rw [qH_apply, kH_apply, EReal.coe_mul, ← Nat.add_assoc]
    congr 1
    · exact at3_eq ha.h0 _ _ _ _ _ _
    · exact rows_rot ha.h1 ha.h3 b n ⟨128 * h.val + 64 * j.val + d.val, by omega⟩
  have k : Ideal.ofBits .f32 0x3E000000#32 = ((1 / 8 : ℝ) : EReal) := by
    simp [Ideal.ofBits, Ideal.ieee, -EReal.coe_mul]; norm_num
  simp only [term]
  rw [coe_sum, k, ← EReal.coe_mul]
  rfl

/-- The attention before the normalisation. -/
theorem attn_real (b h : Fin 8) (t : Fin 8192) (e : Fin 128) : attnH a0 a1 a2 a3 a4 a7 a8 a9 a10 (ix4 b h t e)
    = ((attnOf a0 a1 a2 a3 a4 (lamOf a7 a8 a9 a10).toReal b.val h.val t.val e.val : ℝ) : EReal) := by
  have hh := h.isLt
  unfold attnH
  rw [oH_apply]
  have hl : lamH a7 a8 a9 a10 ix0 = (((lamOf a7 a8 a9 a10).toReal : ℝ) : EReal) := by
    rw [← lamOf_real ha.h7 ha.h8 ha.h9 ha.h10, lamH_apply]; rfl
  have hv : ∀ n : Fin 8448, vH a2 a4 (ix4 b h n e) = ((rows a2 a4 b.val (rot n.val) (128 * h.val + e.val) : ℝ) : EReal) := fun n => by
    rw [vH_apply]
    exact rows_rot ha.h2 ha.h4 b n ⟨128 * h.val + e.val, by omega⟩
  simp only [dH_apply, hl, hv, softmax _ b h 0 t _ (score_real ha b h 0 t), softmax _ b h 1 t _ (score_real ha b h 1 t), ← EReal.coe_mul, ← EReal.coe_sub]
  rw [coe_sum]
  refine congrArg _ ?_
  exact two_means _ _ (fun n => rows a2 a4 b.val n (128 * h.val + e.val)) _

/-- The reference's array. -/
theorem ref_out (a11 : S128.Idx → EReal) : fH (attnH a0 a1 a2 a3 a4 a7 a8 a9 a10) a11 = out a0 a1 a2 a3 a4 a7 a8 a9 a10 a11 := by
  have key : ∀ (b : Fin 8) (t : Fin 8192) (x : Fin 1024), fH (attnH a0 a1 a2 a3 a4 a7 a8 a9 a10) a11 (ix3 b t x)
      = out a0 a1 a2 a3 a4 a7 a8 a9 a10 a11 (ix3 b t x) := by
    intro b t x
    rw [fH_apply]
    simp only [attn_real ha]
    rfl
  funext y
  have e : y = ix3 (n0 := 8) (n1 := 8192) (n2 := 1024) (y 0) (y 1) (y 2) := by
    funext a
    match a with
    | ⟨0, _⟩ => rfl
    | ⟨1, _⟩ => rfl
    | ⟨2, _⟩ => rfl
  rw [e]
  exact key _ _ _

end

end Cert.ReferenceIdeal.Hand

end
-- ==== Proof.Post.Spec.lean ====
/- The layer's last stage on one row over the extended reals: the attention's output through its projection, gated and
   added to the row; the sum normalised and modulated; the gated feed-forward network; and its result gated and added. -/
module

public import Idealize.ShloMosaic.Lib.Pointwise
public import Idealize.ShloMosaic.Lib.Tactic.CleanTypes

@[expose] public section

noncomputable section

namespace Cert.PostSpec

open Idealize.ShloMosaic Idealize.ShloMosaic.Tactic

/-- The row after the attention: `x + g · (a W)`. -/
def mixed (x a : Fin 1024 → EReal) (W : Fin 1024 → Fin 1024 → EReal) (g : Fin 1024 → EReal) (j : Fin 1024) : EReal :=
  x j + g j * ∑ k : Fin 1024, a k * W k j

/-- The row over its root mean square, times the gain, scaled by `1 + sc` and shifted by `sh`. -/
def modulated (x gain sc sh : Fin 1024 → EReal) (j : Fin 1024) : EReal :=
  x j * Ideal.rsqrt (Ideal.div (∑ k : Fin 1024, x k * x k) (Ideal.ofBits .f32 0x44800000#32) + Ideal.ofBits .f32 0x358637BD#32) * gain j
    * (Ideal.ofBits .f32 0x3F800000#32 + sc j) + sh j

/-- The gate's activation times the up projection, from the two columns' products. -/
def gated (g u : EReal) : EReal :=
  g * Ideal.div (Ideal.ofBits .f32 0x3F800000#32) (Ideal.ofBits .f32 0x3F800000#32 + Ideal.exp (-g)) * u

/-- A hidden unit of the feed-forward network: gate column `n`, up column `2816 + n`. -/
def hidden (h : Fin 1024 → EReal) (W : Fin 1024 → Fin 5632 → EReal) (n : Fin 2816) : EReal :=
  gated (∑ k : Fin 1024, h k * W k ⟨n.val, by omega⟩) (∑ k : Fin 1024, h k * W k ⟨2816 + n.val, by omega⟩)

/-- The row after the feed-forward network. -/
def result (y h : Fin 1024 → EReal) (Wgu : Fin 1024 → Fin 5632 → EReal) (Wd : Fin 2816 → Fin 1024 → EReal) (g : Fin 1024 → EReal) (j : Fin 1024) : EReal :=
  y j + g j * ∑ n : Fin 2816, hidden h Wgu n * Wd n j

/-- The whole stage on one row, its six modulation vectors side by side in `md`. -/
def post (x a : Fin 1024 → EReal) (md : Fin 6144 → EReal) (Wo : Fin 1024 → Fin 1024 → EReal) (gain : Fin 1024 → EReal)
    (Wgu : Fin 1024 → Fin 5632 → EReal) (Wd : Fin 2816 → Fin 1024 → EReal) : Fin 1024 → EReal :=
  result (mixed x a Wo fun j => md ⟨2048 + j.val, by omega⟩)
    (modulated (mixed x a Wo fun j => md ⟨2048 + j.val, by omega⟩) gain (fun j => md ⟨4096 + j.val, by omega⟩) fun j => md ⟨3072 + j.val, by omega⟩)
    Wgu Wd fun j => md ⟨5120 + j.val, by omega⟩

end Cert.PostSpec

end
-- ==== Proof.Post.Block.lean ====
/- A block of the layer's last stage: each of its rows is the stage of that row. -/
module

public import proofs.«01_k».proof.Proof.Gen.Kernel2Ideal.Value
public import proofs.«01_k».proof.Proof.Post.Spec
public import Idealize.ShloMosaic.Lib.Pipeline.ValueKit

@[expose] public section

set_option maxRecDepth 16384

noncomputable section

namespace Cert.Kernel2Ideal.Hand

open Cert.Kernel2Ideal Cert.Kernel2Ideal.Gen Cert.PostSpec
open Idealize.ShloMosaic Idealize.ShloMosaic.TcCoe Idealize.ShloMosaic.Tactic

/-- 256 hidden units from the gate's columns and the up projection's. -/
def chunk (h : FVec Ideal S1024x1024 .bf16) (wg wu : Vec Ideal S1024x256 .bf16) : FVec Ideal S1024x256 .bf16 := k0_pay9 (F := Ideal) h wg wu

/-- The 2816 hidden units, 256 side by side at a time. -/
def units (h : FVec Ideal S1024x1024 .bf16) (w : Vec Ideal S1024x5632 .bf16) : FVec Ideal S1024x2816 .bf16 :=
  concatenate S1024x2816 1 [⟨S1024x256, chunk h (View.ld w r0_3) (View.ld w r0_4)⟩, ⟨S1024x256, chunk h (View.ld w r0_5) (View.ld w r0_6)⟩,
    ⟨S1024x256, chunk h (View.ld w r0_7) (View.ld w r0_8)⟩, ⟨S1024x256, chunk h (View.ld w r0_9) (View.ld w r0_10)⟩,
    ⟨S1024x256, chunk h (View.ld w r0_11) (View.ld w r0_12)⟩, ⟨S1024x256, chunk h (View.ld w r0_13) (View.ld w r0_14)⟩,
    ⟨S1024x256, chunk h (View.ld w r0_15) (View.ld w r0_16)⟩, ⟨S1024x256, chunk h (View.ld w r0_17) (View.ld w r0_18)⟩,
    ⟨S1024x256, chunk h (View.ld w r0_19) (View.ld w r0_20)⟩, ⟨S1024x256, chunk h (View.ld w r0_21) (View.ld w r0_22)⟩,
    ⟨S1024x256, chunk h (View.ld w r0_23) (View.ld w r0_24)⟩] concatenates_S1024x256_S1024x256_S1024x256_S1024x256_S1024x256_S1024x256_S1024x256_S1024x256_S1024x256_S1024x256_S1024x256_S1024x2816_d1

/-- The row plus the gated product of the units with the second weight. -/
def close (g : FVec Ideal S1x1024 .f32) (y : FVec Ideal S1024x1024 .f32) (a : FVec Ideal S1024x2816 .bf16) (w : Vec Ideal S2816x1024 .bf16) : FVec Ideal S1024x1024 .f32 :=
  addf y (mulf (broadcastTo S1024x1024 g broadcasts_S1x1024_S1024x1024)
    (matmul (φ₂ := .bf16) dot_S1024x2816_S2816x1024_S1024x1024_1_0_0_1_n_n none a (shapeCast S2816x1024 w shapeCasts_S2816x1024_S2816x1024) (constant S1024x1024 .f32 0x00000000#32)))

theorem hz2 : (![0, 0] : Fin 2 → Nat) = fun _ => 0 := funext (by decide)
theorem hz3 : (![0, 0, 0] : Fin 3 → Nat) = fun _ => 0 := funext (by decide)

/-- The block a point leaves, by its stages. -/
theorem out_eq (x0 : Vec Ideal S1024x1024 .f32) (x1 : Vec Ideal S1024x1024 .bf16) (x2 : Vec Ideal S1x1x6144 .f32) (x3 : Vec Ideal S1024x1024 .bf16)
    (x4 : Vec Ideal S1x1024 .f32) (x5 : Vec Ideal S1024x5632 .bf16) (x6 : Vec Ideal S2816x1024 .bf16) :
    out0_7 x0 x1 x2 x3 x4 x5 x6 = close (k0_pay4 x2) (k0_pay5 x1 x2 x0 x3) (units (k0_pay6 x1 x2 x0 x3 x4) x5) x6 := by
  have h0 : ∀ {e : EltTy} (x : Vec Ideal S1024x1024 e), View.ld x r0_0 = x := fun x => View.ld_unit_zero (S := S1024x1024) hz2 _ x
  have h1 : View.ld x2 r0_1 = x2 := View.ld_unit_zero (S := S1x1x6144) hz3 _ x2
  have h2 : View.ld x4 r0_2 = x4 := View.ld_unit_zero (S := S1x1024) hz2 _ x4
  have h6 : View.ld x6 r0_25 = x6 := View.ld_unit_zero (S := S2816x1024) hz2 _ x6
  unfold out0_7 k0_pay26
  rw [View.canon_unit_zero (S := S1024x1024) hz2]
  simp only [h0, h1, h2, h6]
  rfl

/-- A hidden unit of a chunk. -/
theorem chunk_apply (h : FVec Ideal S1024x1024 .bf16) (wg wu : Vec Ideal S1024x256 .bf16) (r : Fin 1024) (n : Fin 256) :
    chunk h wg wu (ix2 r n) = gated (∑ k : Fin 1024, h (ix2 r k) * wg (ix2 k n)) (∑ k : Fin 1024, h (ix2 r k) * wu (ix2 k n)) := by
  unfold gated
  rw [← zero_sub (∑ k : Fin 1024, h (ix2 r k) * wg (ix2 k n))]
  pointwise [chunk, k0_pay9]

/-- A block of 256 columns of the first weight. -/
theorem cols (w : Vec Ideal S1024x5632 .bf16) (o : ℕ) (inb) (k : Fin 1024) (n : Fin 256) (i : Fin 5632) (hi : i.val = o + n.val) :
    View.ld w (Rect.unit (s := S1024x5632) ![0, o] S1024x256.size inb) (ix2 k n) = w (ix2 k i) :=
  View.ld_unit_apply_of w _ _ inb (ix2 k n) (ix2 k i) (by
    intro a
    match a with
    | ⟨0, _⟩ => exact (Nat.zero_add _).symm
    | ⟨1, _⟩ => exact hi)

/-- A hidden unit of a chunk of the weight's columns. -/
theorem chunk_hidden (h : FVec Ideal S1024x1024 .bf16) (w : Vec Ideal S1024x5632 .bf16) (o o' : ℕ) (i1 : ∀ a : Fin 2, ![0, o] a + S1024x256.size a ≤ S1024x5632.size a)
    (i2 : ∀ a : Fin 2, ![0, o'] a + S1024x256.size a ≤ S1024x5632.size a) (ho : o' = 2816 + o) (r : Fin 1024) (n : Fin 256) (j : Fin 2816) (hj : j.val = o + n.val) :
    chunk h (View.ld w (Rect.unit (s := S1024x5632) ![0, o] S1024x256.size i1)) (View.ld w (Rect.unit (s := S1024x5632) ![0, o'] S1024x256.size i2)) (ix2 r n)
      = hidden (fun k => h (ix2 r k)) (fun k i => w (ix2 k i)) j := by
  rw [chunk_apply]
  unfold Cert.PostSpec.hidden
  simp only [cols w o i1 _ n ⟨j.val, by omega⟩ hj, cols w o' i2 _ n ⟨2816 + j.val, by omega⟩ (by show 2816 + j.val = o' + n.val; omega)]

/-- A choice both of whose sides are one value. -/
theorem either {α : Type} {p : Prop} [Decidable p] {x : p → α} {y : ¬p → α} {v : α} (hx : ∀ h, x h = v) (hy : ∀ h, y h = v) : dite p x y = v := by
  split
  · exact hx _
  · exact hy _

/-- Eleven blocks of 256 columns side by side, each agreeing with a function of the column. -/
theorem eleven (a0 a1 a2 a3 a4 a5 a6 a7 a8 a9 a10 : FVec Ideal S1024x256 .bf16) (f : Fin 2816 → EReal) (r : Fin 1024)
    (h0 : ∀ (n : Fin 256) (j : Fin 2816), j.val = 0 + n.val → a0 (ix2 r n) = f j)
    (h1 : ∀ (n : Fin 256) (j : Fin 2816), j.val = 256 + n.val → a1 (ix2 r n) = f j)
    (h2 : ∀ (n : Fin 256) (j : Fin 2816), j.val = 512 + n.val → a2 (ix2 r n) = f j)
    (h3 : ∀ (n : Fin 256) (j : Fin 2816), j.val = 768 + n.val → a3 (ix2 r n) = f j)
    (h4 : ∀ (n : Fin 256) (j : Fin 2816), j.val = 1024 + n.val → a4 (ix2 r n) = f j)
    (h5 : ∀ (n : Fin 256) (j : Fin 2816), j.val = 1280 + n.val → a5 (ix2 r n) = f j)
    (h6 : ∀ (n : Fin 256) (j : Fin 2816), j.val = 1536 + n.val → a6 (ix2 r n) = f j)
    (h7 : ∀ (n : Fin 256) (j : Fin 2816), j.val = 1792 + n.val → a7 (ix2 r n) = f j)
    (h8 : ∀ (n : Fin 256) (j : Fin 2816), j.val = 2048 + n.val → a8 (ix2 r n) = f j)
    (h9 : ∀ (n : Fin 256) (j : Fin 2816), j.val = 2304 + n.val → a9 (ix2 r n) = f j)
    (h10 : ∀ (n : Fin 256) (j : Fin 2816), j.val = 2560 + n.val → a10 (ix2 r n) = f j) (n : Fin 2816) :
    concatenate S1024x2816 1 [⟨S1024x256, a0⟩, ⟨S1024x256, a1⟩, ⟨S1024x256, a2⟩, ⟨S1024x256, a3⟩, ⟨S1024x256, a4⟩, ⟨S1024x256, a5⟩, ⟨S1024x256, a6⟩, ⟨S1024x256, a7⟩, ⟨S1024x256, a8⟩, ⟨S1024x256, a9⟩, ⟨S1024x256, a10⟩]
      concatenates_S1024x256_S1024x256_S1024x256_S1024x256_S1024x256_S1024x256_S1024x256_S1024x256_S1024x256_S1024x256_S1024x256_S1024x2816_d1 (ix2 r n) = f n := by
  pointwise
  refine either (fun g => h0 _ n (by show n.val = 0 + (n.val); omega)) fun g0 => ?_
  refine either (fun g => h1 _ n (by show n.val = 256 + (n.val - 256); omega)) fun g1 => ?_
  refine either (fun g => h2 _ n (by show n.val = 512 + (n.val - 256 - 256); omega)) fun g2 => ?_
  refine either (fun g => h3 _ n (by show n.val = 768 + (n.val - 256 - 256 - 256); omega)) fun g3 => ?_
  refine either (fun g => h4 _ n (by show n.val = 1024 + (n.val - 256 - 256 - 256 - 256); omega)) fun g4 => ?_
  refine either (fun g => h5 _ n (by show n.val = 1280 + (n.val - 256 - 256 - 256 - 256 - 256); omega)) fun g5 => ?_
  refine either (fun g => h6 _ n (by show n.val = 1536 + (n.val - 256 - 256 - 256 - 256 - 256 - 256); omega)) fun g6 => ?_
  refine either (fun g => h7 _ n (by show n.val = 1792 + (n.val - 256 - 256 - 256 - 256 - 256 - 256 - 256); omega)) fun g7 => ?_
  refine either (fun g => h8 _ n (by show n.val = 2048 + (n.val - 256 - 256 - 256 - 256 - 256 - 256 - 256 - 256); omega)) fun g8 => ?_
  refine either (fun g => h9 _ n (by show n.val = 2304 + (n.val - 256 - 256 - 256 - 256 - 256 - 256 - 256 - 256 - 256); omega)) fun g9 => ?_
  exact h10 _ n (by show n.val = 2560 + (n.val - 256 - 256 - 256 - 256 - 256 - 256 - 256 - 256 - 256 - 256); omega)

/-- A hidden unit. -/
theorem units_apply (h : FVec Ideal S1024x1024 .bf16) (w : Vec Ideal S1024x5632 .bf16) (r : Fin 1024) (n : Fin 2816) :
    units h w (ix2 r n) = hidden (fun k => h (ix2 r k)) (fun k i => w (ix2 k i)) n := by
  unfold units
  exact eleven _ _ _ _ _ _ _ _ _ _ _ (hidden (fun k => h (ix2 r k)) (fun k i => w (ix2 k i))) r
    (chunk_hidden h w 0 2816 _ _ rfl r)
    (chunk_hidden h w 256 3072 _ _ rfl r)
    (chunk_hidden h w 512 3328 _ _ rfl r)
    (chunk_hidden h w 768 3584 _ _ rfl r)
    (chunk_hidden h w 1024 3840 _ _ rfl r)
    (chunk_hidden h w 1280 4096 _ _ rfl r)
    (chunk_hidden h w 1536 4352 _ _ rfl r)
    (chunk_hidden h w 1792 4608 _ _ rfl r)
    (chunk_hidden h w 2048 4864 _ _ rfl r)
    (chunk_hidden h w 2304 5120 _ _ rfl r)
    (chunk_hidden h w 2560 5376 _ _ rfl r) n

/-- The gate of the last product. -/
theorem gate_apply (x2 : Vec Ideal S1x1x6144 .f32) (j : Fin 1024) : k0_pay4 (F := Ideal) x2 (ix2 0 j) = x2 (ix3 0 0 ⟨5120 + j.val, by omega⟩) := by
  pointwise [k0_pay4, k0_pay3]

/-- The rows after the attention. -/
theorem mixed_apply (x1 : Vec Ideal S1024x1024 .bf16) (x2 : Vec Ideal S1x1x6144 .f32) (x0 : Vec Ideal S1024x1024 .f32) (x3 : Vec Ideal S1024x1024 .bf16) (r j : Fin 1024) :
    k0_pay5 (F := Ideal) x1 x2 x0 x3 (ix2 r j) = mixed (fun k => x0 (ix2 r k)) (fun k => x1 (ix2 r k)) (fun k j => x3 (ix2 k j)) (fun j => x2 (ix3 0 0 ⟨2048 + j.val, by omega⟩)) j := by
  unfold mixed
  pointwise [k0_pay5, k0_pay3]

/-- The rows normalised and modulated, from the rows after the attention. -/
theorem modulated_apply (x1 : Vec Ideal S1024x1024 .bf16) (x2 : Vec Ideal S1x1x6144 .f32) (x0 : Vec Ideal S1024x1024 .f32) (x3 : Vec Ideal S1024x1024 .bf16) (x4 : Vec Ideal S1x1024 .f32) (r j : Fin 1024) :
    k0_pay6 (F := Ideal) x1 x2 x0 x3 x4 (ix2 r j) = modulated (fun k => k0_pay5 (F := Ideal) x1 x2 x0 x3 (ix2 r k)) (fun j => x4 (ix2 0 j))
      (fun j => x2 (ix3 0 0 ⟨4096 + j.val, by omega⟩)) (fun j => x2 (ix3 0 0 ⟨3072 + j.val, by omega⟩)) j := by
  unfold k0_pay6 modulated
  generalize k0_pay5 (F := Ideal) x1 x2 x0 x3 = y
  pointwise [k0_pay3]

theorem close_apply (g : FVec Ideal S1x1024 .f32) (y : FVec Ideal S1024x1024 .f32) (a : FVec Ideal S1024x2816 .bf16) (w : Vec Ideal S2816x1024 .bf16) (r j : Fin 1024) :
    close g y a w (ix2 r j) = y (ix2 r j) + g (ix2 0 j) * ∑ n : Fin 2816, a (ix2 r n) * w (ix2 n j) := by
  pointwise [close]

/-- An element of the block a point leaves. -/
theorem out_apply (x0 : Vec Ideal S1024x1024 .f32) (x1 : Vec Ideal S1024x1024 .bf16) (x2 : Vec Ideal S1x1x6144 .f32) (x3 : Vec Ideal S1024x1024 .bf16)
    (x4 : Vec Ideal S1x1024 .f32) (x5 : Vec Ideal S1024x5632 .bf16) (x6 : Vec Ideal S2816x1024 .bf16) (r j : Fin 1024) :
    out0_7 x0 x1 x2 x3 x4 x5 x6 (ix2 r j) = post (fun k => x0 (ix2 r k)) (fun k => x1 (ix2 r k)) (fun i => x2 (ix3 0 0 i)) (fun k j => x3 (ix2 k j))
      (fun j => x4 (ix2 0 j)) (fun k i => x5 (ix2 k i)) (fun n j => x6 (ix2 n j)) j := by
  rw [out_eq, close_apply]
  simp only [units_apply, gate_apply, modulated_apply, mixed_apply]
  rfl

end Cert.Kernel2Ideal.Hand

end
-- ==== Proof.Post.Array.lean ====
/- The array the layer's last stage leaves: each row the stage of the arguments' row. -/
module

public import proofs.«01_k».proof.Proof.Post.Block
public import Idealize.ShloMosaic.Lib.StableHlo.ReadAt

@[expose] public section

set_option maxRecDepth 16384

noncomputable section

namespace Cert.Kernel2Ideal.Hand

open Cert.Kernel2Ideal Cert.Kernel2Ideal.Gen Cert.PostSpec
open Idealize.ShloMosaic Idealize.ShloMosaic.TcCoe Idealize.ShloMosaic.Tactic
open Idealize.SL.Sem
open Idealize.ShloMosaic.Pipeline (Dat Cfg Window cellOf)

variable (m : (ℓ : Loc nD τ sig) → Buf (Elt Ideal) ℓ) (ρ : Dev nD → PrngReg) (c : Dev nD) (t : Fin cfg0.N)

theorem V_x (n : Fin 65536) (j : Fin 1024) : V m c main_v1 (ix2 n j)
    = m ((c : Thread nD τ).loc main_arg0) (ix3 ⟨n.val / 8192, by omega⟩ ⟨n.val % 8192, by omega⟩ j) := by
  unfold V; after_reads_at

theorem V_a (n : Fin 65536) (j : Fin 1024) : V m c main_v3 (ix2 n j)
    = m ((c : Thread nD τ).loc main_arg1) (ix3 ⟨n.val / 8192, by omega⟩ ⟨n.val % 8192, by omega⟩ j) := by
  unfold V; after_reads_at

theorem V_md (b : Fin 8) (i : Fin 6144) : V m c main_v0 (ix3 b 0 i) = m ((c : Thread nD τ).loc main_arg2) (ix2 b i) := by
  unfold V; after_reads_at

theorem V_wo (k j : Fin 1024) : V m c main_v4 (ix2 k j) = m ((c : Thread nD τ).loc main_arg3) (ix2 k j) := by
  unfold V; after_reads_at

theorem V_gain (j : Fin 1024) : V m c main_v5 (ix2 0 j) = m ((c : Thread nD τ).loc main_arg4) (ix1 j) := by
  unfold V; after_reads_at

theorem V_gu (k : Fin 1024) (i : Fin 5632) : V m c main_v6 (ix2 k i) = m ((c : Thread nD τ).loc main_arg5) (ix2 k i) := by
  unfold V; after_reads_at

theorem V_dn (n : Fin 2816) (j : Fin 1024) : V m c main_v7 (ix2 n j) = m ((c : Thread nD τ).loc main_arg6) (ix2 n j) := by
  unfold V; after_reads_at

theorem index_0 : ∀ t : Fin cfg0.N, win0_0.index t (0 : Fin 2) = t.val ∧ win0_0.index t (1 : Fin 2) = 0 := by decide +kernel
theorem index_1 : ∀ t : Fin cfg0.N, win0_1.index t (0 : Fin 2) = t.val ∧ win0_1.index t (1 : Fin 2) = 0 := by decide +kernel
theorem index_2 : ∀ t : Fin cfg0.N, win0_2.index t (0 : Fin 3) = t.val / 8 ∧ win0_2.index t (1 : Fin 3) = 0 ∧ win0_2.index t (2 : Fin 3) = 0 := by decide +kernel
theorem index_3 : ∀ t : Fin cfg0.N, win0_3.index t (0 : Fin 2) = 0 ∧ win0_3.index t (1 : Fin 2) = 0 := by decide +kernel
theorem index_4 : ∀ t : Fin cfg0.N, win0_4.index t (0 : Fin 2) = 0 ∧ win0_4.index t (1 : Fin 2) = 0 := by decide +kernel
theorem index_5 : ∀ t : Fin cfg0.N, win0_5.index t (0 : Fin 2) = 0 ∧ win0_5.index t (1 : Fin 2) = 0 := by decide +kernel
theorem index_6 : ∀ t : Fin cfg0.N, win0_6.index t (0 : Fin 2) = 0 ∧ win0_6.index t (1 : Fin 2) = 0 := by decide +kernel
theorem index_7 : ∀ t : Fin cfg0.N, win0_7.index t (0 : Fin 2) = t.val ∧ win0_7.index t (1 : Fin 2) = 0 := by decide +kernel

theorem read_0 (G : S65536x1024.Idx → Elt Ideal .f32) (r j : Fin 1024) : (win0_0.blk t).view.read (Elt Ideal) G (ix2 r j)
    = G (ix2 ⟨1024 * t.val + r.val, by have h : t.val < 64 := t.isLt; omega⟩ j) := by
  blk_point [index_0 t]

theorem read_1 (G : S65536x1024.Idx → Elt Ideal .bf16) (r j : Fin 1024) : (win0_1.blk t).view.read (Elt Ideal) G (ix2 r j)
    = G (ix2 ⟨1024 * t.val + r.val, by have h : t.val < 64 := t.isLt; omega⟩ j) := by
  blk_point [index_1 t]

theorem read_2 (G : S8x1x6144.Idx → Elt Ideal .f32) (i : Fin 6144) : (win0_2.blk t).view.read (Elt Ideal) G (ix3 0 0 i)
    = G (ix3 ⟨t.val / 8, by have h : t.val < 64 := t.isLt; omega⟩ 0 i) := by
  blk_point [index_2 t]

theorem read_3 (G : S1024x1024.Idx → Elt Ideal .bf16) (k j : Fin 1024) : (win0_3.blk t).view.read (Elt Ideal) G (ix2 k j) = G (ix2 k j) := by
  blk_point [index_3 t]

theorem read_4 (G : S1x1024.Idx → Elt Ideal .f32) (j : Fin 1024) : (win0_4.blk t).view.read (Elt Ideal) G (ix2 0 j) = G (ix2 0 j) := by
  blk_point [index_4 t]

theorem read_5 (G : S1024x5632.Idx → Elt Ideal .bf16) (k : Fin 1024) (i : Fin 5632) : (win0_5.blk t).view.read (Elt Ideal) G (ix2 k i) = G (ix2 k i) := by
  blk_point [index_5 t]

theorem read_6 (G : S2816x1024.Idx → Elt Ideal .bf16) (n : Fin 2816) (j : Fin 1024) : (win0_6.blk t).view.read (Elt Ideal) G (ix2 n j) = G (ix2 n j) := by
  blk_point [index_6 t]

theorem read_7 (G : S65536x1024.Idx → Elt Ideal .f32) (r j : Fin 1024) : (win0_7.blk t).view.read (Elt Ideal) G (ix2 r j)
    = G (ix2 ⟨1024 * t.val + r.val, by have h : t.val < 64 := t.isLt; omega⟩ j) := by
  blk_point [index_7 t]

/-- The last stage of the arguments, row `n` being token `n % 8192` of batch `n / 8192`. -/
def stage (a0 a1 : S8x8192x1024.Idx → EReal) (a2 : S8x6144.Idx → EReal) (a3 : S1024x1024.Idx → EReal) (a4 : S1024.Idx → EReal)
    (a5 : S1024x5632.Idx → EReal) (a6 : S2816x1024.Idx → EReal) (n : Fin 65536) (j : Fin 1024) : EReal :=
  post (fun k => a0 (ix3 ⟨n.val / 8192, by omega⟩ ⟨n.val % 8192, by omega⟩ k)) (fun k => a1 (ix3 ⟨n.val / 8192, by omega⟩ ⟨n.val % 8192, by omega⟩ k))
    (fun i => a2 (ix2 ⟨n.val / 8192, by omega⟩ i)) (fun k j => a3 (ix2 k j)) (fun j => a4 (ix1 j)) (fun k i => a5 (ix2 k i)) (fun n j => a6 (ix2 n j)) j

/-- The array a core's launch is to leave. -/
def res : S65536x1024.Idx → Elt Ideal .f32 := fun y =>
  stage (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (y 0) (y 1)

/-- An element of the block a point leaves. -/
theorem block_at (r j : Fin 1024) :
    out0_7 (F := Ideal) (iblk m c 0 t) (iblk m c 1 t) (iblk m c 2 t) (iblk m c 3 t) (iblk m c 4 t) (iblk m c 5 t) (iblk m c 6 t) (ix2 r j)
      = res m c (ix2 ⟨1024 * t.val + r.val, by have h : t.val < 64 := t.isLt; omega⟩ j) := by
  have ht : t.val < 64 := t.isLt
  have e : (⟨t.val / 8, by omega⟩ : Fin 8) = ⟨(1024 * t.val + r.val) / 8192, by omega⟩ := Fin.ext (by show t.val / 8 = (1024 * t.val + r.val) / 8192; omega)
  refine (out_apply _ _ _ _ _ _ _ r j).trans ?_
  have h0 : ∀ k : Fin 1024, iblk m c 0 t (ix2 r k) = _ := fun k => (read_0 t _ r k).trans (V_x m c _ k)
  have h1 : ∀ k : Fin 1024, iblk m c 1 t (ix2 r k) = _ := fun k => (read_1 t _ r k).trans (V_a m c _ k)
  have h2 : ∀ i : Fin 6144, iblk m c 2 t (ix3 0 0 i) = _ := fun i => (read_2 t _ i).trans (V_md m c _ i)
  have h3 : ∀ k j : Fin 1024, iblk m c 3 t (ix2 k j) = _ := fun k j => (read_3 t _ k j).trans (V_wo m c k j)
  have h4 : ∀ j : Fin 1024, iblk m c 4 t (ix2 0 j) = _ := fun j => (read_4 t _ j).trans (V_gain m c j)
  have h5 : ∀ (k : Fin 1024) (i : Fin 5632), iblk m c 5 t (ix2 k i) = _ := fun k i => (read_5 t _ k i).trans (V_gu m c k i)
  have h6 : ∀ (n : Fin 2816) (j : Fin 1024), iblk m c 6 t (ix2 n j) = _ := fun n j => (read_6 t _ n j).trans (V_dn m c n j)
  unfold res stage
  simp only [h0, h1, h2, h3, h4, h5, h6, e]
  rfl

/-- What a point writes back is its block of the array. -/
theorem flushed_eq : (dats m 0 c).flushed 7 t = (win0_7.blk t).view.read (Elt Ideal) (res m c) := by
  rw [Value.flushed7]
  funext y
  have e : y = ix2 (n0 := 1024) (n1 := 1024) (y 0) (y 1) := by
    funext a
    match a with
    | ⟨0, _⟩ => rfl
    | ⟨1, _⟩ => rfl
  rw [e]
  exact (block_at m c t (y 0) (y 1)).trans (read_7 t (res m c) (y 0) (y 1)).symm

/-- The blocks written back cover the array. -/
theorem cover (i : S65536x1024.Idx) : ∃ t : Fin cfg0.N, (cfg0.win 7).flush t = true ∧ i ∈ ((cfg0.win 7).blk t).view.set := by
  have h0 : (i 0 : Nat) < 65536 := (i 0).isLt
  have h1 : (i 1 : Nat) < 1024 := (i 1).isLt
  have hN : cfg0.N = 64 := by decide
  let t : Fin cfg0.N := ⟨(i 0).val / 1024, by rw [hN]; omega⟩
  have tv : t.val = (i 0).val / 1024 := rfl
  refine ⟨t, flush0_7 _, ?_⟩
  show i ∈ ((View.whole main_v8).slice (win0_7.rect t)).set
  rw [View.set_slice_whole, Rect.mem_set_unit]
  obtain ⟨i0, i1⟩ := index_7 t
  intro a
  match a with
  | ⟨0, _⟩ =>
    show win0_7.index t 0 * 1024 ≤ (i 0 : Nat) ∧ (i 0 : Nat) < win0_7.index t 0 * 1024 + 1024
    rw [i0, tv]; omega
  | ⟨1, _⟩ =>
    show win0_7.index t 1 * 1024 ≤ (i 1 : Nat) ∧ (i 1 : Nat) < win0_7.index t 1 * 1024 + 1024
    rw [i1]; omega

/-- The array after the launch. -/
theorem final : (dats m 0 c).arrAt 7 cfg0.N = res m c :=
  (dats m 0 c).arrAt_eq_of_cover 7 (res m c) (fun t _ => flushed_eq m c t) cover

/-- The run: the result array at the stage of the arguments, the arguments unchanged. -/
theorem run : θ_run defs (onTc (τ := τ) (main (F := Ideal))) ⟨m, fun _ => 0, ρ⟩ fun r => ∀ c : Dev nD,
      r.2.mem ((c.tc : Thread nD τ).loc main_v8) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (final m c), (h c).2⟩) (Value.run_blocks m ρ)

end Cert.Kernel2Ideal.Hand

end
-- ==== Proof.Post.Ref.lean ====
/- The reference's last stage, cut into its steps, and each read at an index over the extended reals. -/
module

public import proofs.«01_k».proof.Proof.Gen.Reference2Ideal.Run
public import proofs.«01_k».proof.Proof.Post.Spec

@[expose] public section

set_option maxRecDepth 16384

noncomputable section

namespace Cert.Reference2Ideal.Hand

open Cert.Reference2Ideal Cert.Reference2Ideal.Gen Cert.Reference2Ideal.Value Cert.PostSpec
open Idealize.ShloMosaic Idealize.ShloMosaic.TcCoe Idealize.ShloMosaic.Tactic

/-- The modulation vectors, one token axis inserted. -/
def mdH (a2 : FVec Ideal S8x6144 .f32) : FVec Ideal S8x1x6144 .f32 := broadcastInDim S8x1x6144 ![0, 2] bcast_S8x6144_S8x1x6144_0_2 a2

/-- The rows after the attention. -/
def xH (a0 a1 : FVec Ideal S8x8192x1024 .f32) (md : FVec Ideal S8x1x6144 .f32) (a3 : FVec Ideal S1024x1024 .f32) : FVec Ideal S8x8192x1024 .f32 :=
  addf a0 (mulf (broadcastInDim S8x8192x1024 ![0, 1, 2] bcast_S8x1x1024_S8x8192x1024_0_1_2 (extractStridedSlice S8x1x1024 ![0, 0, 2048] md slices_S8x1x6144_S8x1x1024_0_0_2048))
    (Host.dotGeneral dot_S8x8192x1024_S1024x1024_S8x8192x1024_2_0_01_1_n_n none a1 a3))

/-- The rows normalised and modulated. -/
def hH (x : FVec Ideal S8x8192x1024 .f32) (md : FVec Ideal S8x1x6144 .f32) (a4 : FVec Ideal S1024 .f32) : FVec Ideal S8x8192x1024 .f32 :=
  addf (mulf (mulf (mulf x (broadcastInDim S8x8192x1024 ![0, 1, 2] bcast_S8x8192x1_S8x8192x1024_0_1_2
      (Host.rsqrt (addf (Host.divf (broadcastInDim S8x8192x1 ![0, 1] bcast_S8x8192_S8x8192x1_0_1
        (Host.reduceAdd (mulf x x) (constant S_ .f32 0x00000000#32) reducesTo_S8x8192x1024_S8x8192_d2 h_S_))
        (broadcastInDim S8x8192x1 ![] bcast_S_S8x8192x1 (constant S_ .f32 0x44800000#32)))
        (broadcastInDim S8x8192x1 ![] bcast_S_S8x8192x1 (constant S_ .f32 0x358637BD#32))))))
      (broadcastInDim S8x8192x1024 ![0, 1, 2] bcast_S1x1x1024_S8x8192x1024_0_1_2 (broadcastInDim S1x1x1024 ![2] bcast_S1024_S1x1x1024_2 a4)))
      (broadcastInDim S8x8192x1024 ![0, 1, 2] bcast_S8x1x1024_S8x8192x1024_0_1_2 (addf (broadcastInDim S8x1x1024 ![] bcast_S_S8x1x1024 (constant S_ .f32 0x3F800000#32))
        (extractStridedSlice S8x1x1024 ![0, 0, 4096] md slices_S8x1x6144_S8x1x1024_0_0_4096))))
    (broadcastInDim S8x8192x1024 ![0, 1, 2] bcast_S8x1x1024_S8x8192x1024_0_1_2 (extractStridedSlice S8x1x1024 ![0, 0, 3072] md slices_S8x1x6144_S8x1x1024_0_0_3072))

/-- The gate and up projections, side by side. -/
def guH (h : FVec Ideal S8x8192x1024 .f32) (a5 : FVec Ideal S1024x5632 .f32) : FVec Ideal S8x8192x5632 .f32 :=
  Host.dotGeneral dot_S8x8192x1024_S1024x5632_S8x8192x5632_2_0_01_1_n_n none h a5

/-- The hidden units. -/
def uH (p : FVec Ideal S8x8192x5632 .f32) : FVec Ideal S8x8192x2816 .f32 :=
  mulf (mulf (extractStridedSlice S8x8192x2816 ![0, 0, 0] p slices_S8x8192x5632_S8x8192x2816_0_0_0)
    (Host.divf (broadcastInDim S8x8192x2816 ![] bcast_S_S8x8192x2816 (constant S_ .f32 0x3F800000#32))
      (addf (broadcastInDim S8x8192x2816 ![] bcast_S_S8x8192x2816 (constant S_ .f32 0x3F800000#32))
        (Host.exp (Host.negf (extractStridedSlice S8x8192x2816 ![0, 0, 0] p slices_S8x8192x5632_S8x8192x2816_0_0_0))))))
    (extractStridedSlice S8x8192x2816 ![0, 0, 2816] p slices_S8x8192x5632_S8x8192x2816_0_0_2816)

/-- The rows after the feed-forward network, batches one below another. -/
def rH (x : FVec Ideal S8x8192x1024 .f32) (u : FVec Ideal S8x8192x2816 .f32) (md : FVec Ideal S8x1x6144 .f32) (a6 : FVec Ideal S2816x1024 .f32) : FVec Ideal S65536x1024 .f32 :=
  shapeCast _ (addf x (mulf (broadcastInDim S8x8192x1024 ![0, 1, 2] bcast_S8x1x1024_S8x8192x1024_0_1_2 (extractStridedSlice S8x1x1024 ![0, 0, 5120] md slices_S8x1x6144_S8x1x1024_0_0_5120))
    (Host.dotGeneral dot_S8x8192x2816_S2816x1024_S8x8192x1024_2_0_01_1_n_n none u a6))) shapeCasts_S8x8192x1024_S65536x1024

variable (m : (ℓ : Loc nD τ sig) → Buf (Elt Ideal) ℓ)

/-- The whole stage, by its steps. -/
def postH (a0 a1 : FVec Ideal S8x8192x1024 .f32) (a2 : FVec Ideal S8x6144 .f32) (a3 : FVec Ideal S1024x1024 .f32) (a4 : FVec Ideal S1024 .f32)
    (a5 : FVec Ideal S1024x5632 .f32) (a6 : FVec Ideal S2816x1024 .f32) : FVec Ideal S65536x1024 .f32 :=
  rH (xH a0 a1 (mdH a2) a3) (uH (guH (hH (xH a0 a1 (mdH a2) a3) (mdH a2) a4) a5)) (mdH a2) a6

/-- The reference's result, by its steps. -/
theorem res_eq (c : Dev nD) : res_main_v39 m c = postH (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) := by
  unfold res_main_v39 postH rH uH guH hH xH mdH
  rfl

theorem mdH_apply (a2 : FVec Ideal S8x6144 .f32) (b : Fin 8) (i : Fin 6144) : mdH a2 (ix3 b 0 i) = a2 (ix2 b i) := by
  pointwise [mdH]

theorem xH_apply (a0 a1 : FVec Ideal S8x8192x1024 .f32) (md : FVec Ideal S8x1x6144 .f32) (a3 : FVec Ideal S1024x1024 .f32) (b : Fin 8) (t : Fin 8192) (j : Fin 1024) :
    xH a0 a1 md a3 (ix3 b t j) = mixed (fun k => a0 (ix3 b t k)) (fun k => a1 (ix3 b t k)) (fun k j => a3 (ix2 k j)) (fun j => md (ix3 b 0 ⟨2048 + j.val, by omega⟩)) j := by
  unfold mixed
  pointwise [xH]

theorem hH_apply (x : FVec Ideal S8x8192x1024 .f32) (md : FVec Ideal S8x1x6144 .f32) (a4 : FVec Ideal S1024 .f32) (b : Fin 8) (t : Fin 8192) (j : Fin 1024) :
    hH x md a4 (ix3 b t j) = modulated (fun k => x (ix3 b t k)) (fun j => a4 (ix1 j)) (fun j => md (ix3 b 0 ⟨4096 + j.val, by omega⟩)) (fun j => md (ix3 b 0 ⟨3072 + j.val, by omega⟩)) j := by
  unfold modulated
  pointwise [hH]

theorem guH_apply (h : FVec Ideal S8x8192x1024 .f32) (a5 : FVec Ideal S1024x5632 .f32) (b : Fin 8) (t : Fin 8192) (i : Fin 5632) :
    guH h a5 (ix3 b t i) = ∑ k : Fin 1024, h (ix3 b t k) * a5 (ix2 k i) := by
  pointwise [guH]

theorem uH_apply (p : FVec Ideal S8x8192x5632 .f32) (b : Fin 8) (t : Fin 8192) (n : Fin 2816) :
    uH p (ix3 b t n) = gated (p (ix3 b t ⟨n.val, by omega⟩)) (p (ix3 b t ⟨2816 + n.val, by omega⟩)) := by
  unfold gated
  pointwise [uH]

theorem rH_apply (x : FVec Ideal S8x8192x1024 .f32) (u : FVec Ideal S8x8192x2816 .f32) (md : FVec Ideal S8x1x6144 .f32) (a6 : FVec Ideal S2816x1024 .f32) (n : Fin 65536) (j : Fin 1024) :
    rH x u md a6 (ix2 n j) = x (ix3 ⟨n.val / 8192, by omega⟩ ⟨n.val % 8192, by omega⟩ j) + md (ix3 ⟨n.val / 8192, by omega⟩ 0 ⟨5120 + j.val, by omega⟩)
      * ∑ i : Fin 2816, u (ix3 ⟨n.val / 8192, by omega⟩ ⟨n.val % 8192, by omega⟩ i) * a6 (ix2 i j) := by
  pointwise [rH]

/-- A row of the reference's result. -/
theorem postH_apply (a0 a1 : FVec Ideal S8x8192x1024 .f32) (a2 : FVec Ideal S8x6144 .f32) (a3 : FVec Ideal S1024x1024 .f32) (a4 : FVec Ideal S1024 .f32)
    (a5 : FVec Ideal S1024x5632 .f32) (a6 : FVec Ideal S2816x1024 .f32) (n : Fin 65536) (j : Fin 1024) :
    postH a0 a1 a2 a3 a4 a5 a6 (ix2 n j) = post (fun k => a0 (ix3 ⟨n.val / 8192, by omega⟩ ⟨n.val % 8192, by omega⟩ k))
      (fun k => a1 (ix3 ⟨n.val / 8192, by omega⟩ ⟨n.val % 8192, by omega⟩ k)) (fun i => a2 (ix2 ⟨n.val / 8192, by omega⟩ i)) (fun k j => a3 (ix2 k j))
      (fun j => a4 (ix1 j)) (fun k i => a5 (ix2 k i)) (fun n j => a6 (ix2 n j)) j := by
  rw [postH, rH_apply]
  simp only [uH_apply, guH_apply, hH_apply, xH_apply, mdH_apply]
  rfl

end Cert.Reference2Ideal.Hand

end
-- ==== Proof.Gqa.Trip.lean ====
/- One trip of the grouped-query attention's exact loop. -/
module

public import proofs.«01_k».proof.Proof.Gen.Kernel4Ideal.Frame
public import proofs.«01_k».proof.Proof.Gen.Kernel4Ideal.Skeleton
public import proofs.«01_k».proof.Proof.Trip

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand (St off2_zero off3_zero)

variable {F : FTy → Type} [FloatOps F] [Named F]

local notation "𝕄" => MT nD τ sig Unit (Elt F) ℕ (UR sig nD τ) ℕ

/-- A store of a whole buffer leaves what it stored. -/
theorem read_store {sp : Space} {S : Shape} {e : EltTy} (v : View sig .tc sp S e) {off : Fin S.rank → Nat} (h : off = fun _ => 0)
    (inb : ∀ a, off a + S.size a ≤ S.size a) (w : S.Idx → Elt F e) (L : List (View.Piece (Elt F) S e)) (f : v.ty.Contents (Elt F)) :
    v.read (Elt F) (v.writes (Elt F) f ((⟨Rect.unit off S.size inb, w⟩ : View.Piece (Elt F) S e) :: L)) = w := by
  rw [View.read_writes_eq_canon _ _ _ (fun y => ⟨_, List.mem_cons_self .., by
    subst h; show y ∈ (Rect.whole S).set; rw [Rect.set_whole]; exact Finset.mem_univ y⟩)]
  exact View.canon_cons_unit_zero h inb w L

/-- A load of a whole buffer reads what it holds. -/
theorem readAt_whole {sp : Space} {S : Shape} {e : EltTy} (v : View sig .tc sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f := by
  exact View.ld_unit_zero h inb (v.read (Elt F) f)

/-- A load, over junk, of a whole buffer last stored as a whole reads what was stored. -/
theorem readCov_whole {sp : Space} {S : Shape} {e : EltTy} (v : View sig .tc sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self .., by
    subst h; show y ∈ (Rect.whole S).set; rw [Rect.set_whole]; exact Finset.mem_univ y⟩),
    View.canon_cons_unit_zero h, View.ld_unit_zero h]

/-- One trip over 768 keys: from a state `s` of the running maximum, sum and weighted values to the next. -/
theorem trip (c : Dev nD) (i : grid0.Coords) (arg2 : Memref sig .tc .vmem S1x8192x512 .bf16) (harg2 : arg2.IsWhole) (arg3 : Memref sig .tc .vmem S1x8448x128 .bf16) (harg3 : arg3.IsWhole) (arg4 : Memref sig .tc .vmem S1x8448x128 .bf16) (harg4 : arg4.IsWhole) (arg5 : Memref sig .tc .vmem S1x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x8192x512 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x128 .f32) (harg11 : arg11.IsWhole) (arg12 : Memref sig .tc .vmem S2048x128 .f32) (harg12 : arg12.IsWhole) (j : Fin k0_t1_loop.trips) (v4 : BitVec 32) (q : FVec F S2048x128 .bf16)
    (f3 : BufTy.Contents (Elt F) arg3.view.ty) (f4 : BufTy.Contents (Elt F) arg4.view.ty) (k : Fin k0_t2_loop.trips) (s : St F) (f9 : BufTy.Contents (Elt F) arg9.view.ty) (f10 : BufTy.Contents (Elt F) arg10.view.ty) (f12 : BufTy.Contents (Elt F) arg12.view.ty)
    (h9 : arg9.view.read (Elt F) f9 = s.m) (h10 : arg10.view.read (Elt F) f10 = s.l) (h12 : arg12.view.read (Elt F) f12 = s.acc) :
    iprop((arg3.view.loc (c : Thread nD τ) ↦[arg3.view.set]{fullShare} f3) ∗ (arg4.view.loc (c : Thread nD τ) ↦[arg4.view.set]{fullShare} f4) ∗ (arg9.view.loc (c : Thread nD τ) ↦[arg9.view.set]{fullShare} f9) ∗ (arg10.view.loc (c : Thread nD τ) ↦[arg10.view.set]{fullShare} f10) ∗ (arg12.view.loc (c : Thread nD τ) ↦[arg12.view.set]{fullShare} f12))
      ⊢ (wp frame (wpE (defs₀ (F := F)) Variants.none c none) Set.univ (k0_t2_body (F := F) i arg2 harg2 arg3 harg3 arg4 harg4 arg5 harg5 arg6 harg6 arg7 harg7 arg8 harg8 arg9 harg9 arg10 harg10 arg11 harg11 arg12 harg12 j v4 q k PUnit.unit)
        (fun _ => iprop((arg3.view.loc (c : Thread nD τ) ↦[arg3.view.set]{fullShare} f3) ∗ (arg4.view.loc (c : Thread nD τ) ↦[arg4.view.set]{fullShare} f4)
          ∗ (∃ g, (arg9.view.loc (c : Thread nD τ) ↦[arg9.view.set]{fullShare} g) ∗ ⌜arg9.view.read (Elt F) g = (s.step q (View.ld (arg3.view.read (Elt F) f3) (Rect.unit (s := S1x8448x128) (k0_off6 k) S1x768x128.size (k0_off6_inb k))) (View.ld (arg4.view.read (Elt F) f4) (Rect.unit (s := S1x8448x128) (k0_off6 k) S1x768x128.size (k0_off6_inb k)))).m⌝)
          ∗ (∃ g, (arg10.view.loc (c : Thread nD τ) ↦[arg10.view.set]{fullShare} g) ∗ ⌜arg10.view.read (Elt F) g = (s.step q (View.ld (arg3.view.read (Elt F) f3) (Rect.unit (s := S1x8448x128) (k0_off6 k) S1x768x128.size (k0_off6_inb k))) (View.ld (arg4.view.read (Elt F) f4) (Rect.unit (s := S1x8448x128) (k0_off6 k) S1x768x128.size (k0_off6_inb k)))).l⌝)
          ∗ (∃ g, (arg12.view.loc (c : Thread nD τ) ↦[arg12.view.set]{fullShare} g) ∗ ⌜arg12.view.read (Elt F) g = (s.step q (View.ld (arg3.view.read (Elt F) f3) (Rect.unit (s := S1x8448x128) (k0_off6 k) S1x768x128.size (k0_off6_inb k))) (View.ld (arg4.view.read (Elt F) f4) (Rect.unit (s := S1x8448x128) (k0_off6 k) S1x768x128.size (k0_off6_inb k)))).acc⌝))) : sProp 𝕄) := by
  have hk : k.val < 11 := Nat.lt_of_lt_of_le k.isLt k0_t2_abs.2.1
  unfold k0_t2_body
  iintro ⟨H3, H4, H9, H10, H12⟩
  sl_exec
  sl_step
  isplitl [H3]; · iexact H3
  isplitl [H4]; · iexact H4
  isplitl [H9]
  · iexists _; isplitl [H9]; · iexact H9
    ipureintro
    refine (read_store _ off2_zero _ _ _ _).trans ?_
    simp only [St.step]
    rw [← h9, ← readAt_whole arg9.view off2_zero inb_S2048x1_S2048x1_0_0]; rfl
  isplitl [H10]
  · iexists _; isplitl [H10]; · iexact H10
    ipureintro
    refine (read_store _ off2_zero _ _ _ _).trans ?_
    simp only [St.step]
    rw [← h9, ← h10, ← readAt_whole arg9.view off2_zero inb_S2048x1_S2048x1_0_0,
      ← readAt_whole arg10.view off2_zero inb_S2048x1_S2048x1_0_0]; rfl
  iexists _; isplitl [H12]; · iexact H12
  ipureintro
  refine (read_store _ off2_zero _ _ _ _).trans ?_
  simp only [St.step]
  rw [← h9, ← h12, ← readAt_whole arg9.view off2_zero inb_S2048x1_S2048x1_0_0,
    ← readAt_whole arg12.view off2_zero inb_S2048x128_S2048x128_0_0]; rfl

end Cert.Kernel4Ideal.Hand

end
-- ==== Proof.Gqa.Body.lean ====
/- One block of 512 queries of the grouped-query attention. -/
module

public import proofs.«01_k».proof.Proof.Gen.Kernel4Ideal.Frame
public import proofs.«01_k».proof.Proof.Gen.Kernel4Ideal.Skeleton
public import proofs.«01_k».proof.Proof.Gqa.Trip
public import Idealize.ShloMosaic.Lib.WritesUnit
public import Idealize.ShloMosaic.Lib.Pointwise

@[expose] public section

set_option maxRecDepth 65536
set_option maxHeartbeats 4000000

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand (St off2_zero off3_zero)

variable {F : FTy → Type} [FloatOps F] [Named F]

local notation "𝕄" => MT nD τ sig Unit (Elt F) ℕ (UR sig nD τ) ℕ

/-- Head `g` of a block's attention, as it is stored: 512 of the 2048 stacked rows. -/
def part (O : FVec F S2048x128 .f32) (g : Fin 4) : FVec F S1x512x128 .bf16 :=
  match g with
  | 0 => k0_pay2 (truncf .bf16 (extractStridedSlice S512x128 ![0, 0] O slices_S2048x128_o0_0_S512x128) bitsLt_bf16_f32)
  | 1 => k0_pay2 (truncf .bf16 (extractStridedSlice S512x128 ![512, 0] O slices_S2048x128_o512_0_S512x128) bitsLt_bf16_f32)
  | 2 => k0_pay2 (truncf .bf16 (extractStridedSlice S512x128 ![1024, 0] O slices_S2048x128_o1024_0_S512x128) bitsLt_bf16_f32)
  | 3 => k0_pay3 O

/-- A block of 512 rows put in place: head `g` in the columns from `128 * g`. -/
def put (k : ℕ) (O : FVec F S2048x128 .f32) (X : S1x8192x512.Idx → Elt F .bf16) : S1x8192x512.Idx → Elt F .bf16 := fun y =>
  if (y 1).val / 512 = k then
    part O ⟨(y 2).val / 128, by have h : (y 2).val < 512 := (y 2).isLt; omega⟩
      (ix3 0 ⟨(y 1).val % 512, Nat.mod_lt _ (by decide)⟩ ⟨(y 2).val % 128, Nat.mod_lt _ (by decide)⟩)
  else X y

theorem off2_eq : ∀ k : Fin k0_t1_loop.trips, ∀ a, k0_off2 k a = (![0, 512 * k.val, 0] : Fin 3 → ℕ) a := by decide +kernel
theorem off3_eq : ∀ k : Fin k0_t1_loop.trips, ∀ a, k0_off3 k a = (![0, 512 * k.val, 128] : Fin 3 → ℕ) a := by decide +kernel
theorem off4_eq : ∀ k : Fin k0_t1_loop.trips, ∀ a, k0_off4 k a = (![0, 512 * k.val, 256] : Fin 3 → ℕ) a := by decide +kernel
theorem off5_eq : ∀ k : Fin k0_t1_loop.trips, ∀ a, k0_off5 k a = (![0, 512 * k.val, 384] : Fin 3 → ℕ) a := by decide +kernel
theorem off7_eq : ∀ k : Fin k0_t1_loop.trips, ∀ a, k0_off7 k a = (![0, 512 * k.val, 0] : Fin 3 → ℕ) a := by decide +kernel
theorem off8_eq : ∀ k : Fin k0_t1_loop.trips, ∀ a, k0_off8 k a = (![0, 512 * k.val, 128] : Fin 3 → ℕ) a := by decide +kernel
theorem off9_eq : ∀ k : Fin k0_t1_loop.trips, ∀ a, k0_off9 k a = (![0, 512 * k.val, 256] : Fin 3 → ℕ) a := by decide +kernel
theorem off10_eq : ∀ k : Fin k0_t1_loop.trips, ∀ a, k0_off10 k a = (![0, 512 * k.val, 384] : Fin 3 → ℕ) a := by decide +kernel

/-- One store of a head: under it the head, elsewhere what was there. -/
theorem read_part {sp : Space} (v : View sig .tc sp S1x8192x512 .bf16) (f : v.ty.Contents (Elt F)) (k g : ℕ) (hg : g < 4) {off : Fin 3 → ℕ}
    (ho : ∀ a, off a = (![0, 512 * k, 128 * g] : Fin 3 → ℕ) a)
    (inb : ∀ a, off a + S1x512x128.size a ≤ S1x8192x512.size a) (w : S1x512x128.Idx → Elt F .bf16) (L : List (View.Piece (Elt F) S1x8192x512 .bf16)) (y : S1x8192x512.Idx) :
    v.read (Elt F) (v.writes (Elt F) f ((⟨Rect.unit off S1x512x128.size inb, w⟩ : View.Piece (Elt F) S1x8192x512 .bf16) :: L)) y
      = if (y 1).val / 512 = k ∧ (y 2).val / 128 = g then
          w (ix3 0 ⟨(y 1).val % 512, Nat.mod_lt _ (by decide)⟩ ⟨(y 2).val % 128, Nat.mod_lt _ (by decide)⟩)
        else v.read (Elt F) (v.writes (Elt F) f L) y := by
  have h0 : (y 0).val < 1 := (y 0).isLt
  split
  case isTrue h =>
    refine View.read_writes_cons_unit_of_mem v f inb w L y (ix3 0 ⟨(y 1).val % 512, Nat.mod_lt _ (by decide)⟩ ⟨(y 2).val % 128, Nat.mod_lt _ (by decide)⟩) (funext ho) ?_
    intro a
    match a with
    | ⟨0, _⟩ => show (y 0).val = 0 + 0; omega
    | ⟨1, _⟩ => show (y 1).val = 512 * k + (y 1).val % 512; omega
    | ⟨2, _⟩ => show (y 2).val = 128 * g + (y 2).val % 128; omega
  case isFalse h =>
    by_cases h1 : (y 1).val / 512 = k
    · refine View.read_writes_cons_unit_of_not_mem v f inb w L y (funext ho) 2 ?_
      show (y 2).val < 128 * g ∨ 128 * g + 128 ≤ (y 2).val
      have h2 : ¬ (y 2).val / 128 = g := fun e => h ⟨h1, e⟩
      omega
    · refine View.read_writes_cons_unit_of_not_mem v f inb w L y (funext ho) 1 ?_
      show (y 1).val < 512 * k ∨ 512 * k + 512 ≤ (y 1).val
      omega

/-- The four stores of a block put it in place. -/
theorem read_put {sp : Space} (v : View sig .tc sp S1x8192x512 .bf16) (f : v.ty.Contents (Elt F)) (k : ℕ) (O : FVec F S2048x128 .f32) {o0 o1 o2 o3 : Fin 3 → ℕ}
    (h0 : ∀ a, o0 a = (![0, 512 * k, 0] : Fin 3 → ℕ) a) (h1 : ∀ a, o1 a = (![0, 512 * k, 128] : Fin 3 → ℕ) a)
    (h2 : ∀ a, o2 a = (![0, 512 * k, 256] : Fin 3 → ℕ) a) (h3 : ∀ a, o3 a = (![0, 512 * k, 384] : Fin 3 → ℕ) a)
    (i0 : ∀ a, o0 a + S1x512x128.size a ≤ S1x8192x512.size a) (i1 : ∀ a, o1 a + S1x512x128.size a ≤ S1x8192x512.size a)
    (i2 : ∀ a, o2 a + S1x512x128.size a ≤ S1x8192x512.size a) (i3 : ∀ a, o3 a + S1x512x128.size a ≤ S1x8192x512.size a)
    (w0 w1 w2 w3 : S1x512x128.Idx → Elt F .bf16) (e0 : w0 = part O 0) (e1 : w1 = part O 1) (e2 : w2 = part O 2) (e3 : w3 = part O 3)
    (L : List (View.Piece (Elt F) S1x8192x512 .bf16)) :
    v.read (Elt F) (v.writes (Elt F) f ((⟨Rect.unit o3 S1x512x128.size i3, w3⟩ : View.Piece (Elt F) S1x8192x512 .bf16) ::
        (⟨Rect.unit o2 S1x512x128.size i2, w2⟩ : View.Piece (Elt F) S1x8192x512 .bf16) :: (⟨Rect.unit o1 S1x512x128.size i1, w1⟩ : View.Piece (Elt F) S1x8192x512 .bf16) ::
        (⟨Rect.unit o0 S1x512x128.size i0, w0⟩ : View.Piece (Elt F) S1x8192x512 .bf16) :: L))
      = put k O (v.read (Elt F) (v.writes (Elt F) f L)) := by
  subst e0 e1 e2 e3
  funext y
  have hy : (y 2).val < 512 := (y 2).isLt
  rw [read_part v f k 3 (by decide) h3, read_part v f k 2 (by decide) h2, read_part v f k 1 (by decide) h1, read_part v f k 0 (by decide) h0]
  unfold put
  by_cases hk : (y 1).val / 512 = k
  · rw [if_pos hk]
    have hg : (y 2).val / 128 = 0 ∨ (y 2).val / 128 = 1 ∨ (y 2).val / 128 = 2 ∨ (y 2).val / 128 = 3 := by omega
    rcases hg with h | h | h | h
    · rw [if_neg (by omega), if_neg (by omega), if_neg (by omega), if_pos ⟨hk, h⟩]
      exact congrArg (fun g => part O g _) (Fin.ext h).symm
    · rw [if_neg (by omega), if_neg (by omega), if_pos ⟨hk, h⟩]
      exact congrArg (fun g => part O g _) (Fin.ext h).symm
    · rw [if_neg (by omega), if_pos ⟨hk, h⟩]
      exact congrArg (fun g => part O g _) (Fin.ext h).symm
    · rw [if_pos ⟨hk, h⟩]
      exact congrArg (fun g => part O g _) (Fin.ext h).symm
  · rw [if_neg (fun e => hk e.1), if_neg (fun e => hk e.1), if_neg (fun e => hk e.1), if_neg (fun e => hk e.1), if_neg hk]

/-- A block put in place twice is there as it was put last. -/
theorem put_put (k : ℕ) (O O' : FVec F S2048x128 .f32) (X : S1x8192x512.Idx → Elt F .bf16) : put k O (put k O' X) = put k O X := by
  funext y
  unfold put
  by_cases hk : (y 1).val / 512 = k
  · rw [if_pos hk, if_pos hk]
  · rw [if_neg hk, if_neg hk, if_neg hk]

/-- What a block of queries is given, as data: the bit that asks for the exact loop, the attention that loop leaves, the
    attention by the shared shift — with the proof that from the queries, keys and values the block runs, hands those on,
    and puts one of the two in place. -/
def blockRun (c : Dev nD) (i : grid0.Coords) (arg2 : Memref sig .tc .vmem S1x8192x512 .bf16) (harg2 : arg2.IsWhole) (arg3 : Memref sig .tc .vmem S1x8448x128 .bf16) (harg3 : arg3.IsWhole) (arg4 : Memref sig .tc .vmem S1x8448x128 .bf16) (harg4 : arg4.IsWhole) (arg5 : Memref sig .tc .vmem S1x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x8192x512 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x128 .f32) (harg11 : arg11.IsWhole) (arg12 : Memref sig .tc .vmem S2048x128 .f32) (harg12 : arg12.IsWhole) (v0 : Vec F S1x128 .f32) (f2 : BufTy.Contents (Elt F) arg2.view.ty) (f3 : BufTy.Contents (Elt F) arg3.view.ty) (f4 : BufTy.Contents (Elt F) arg4.view.ty) (k : Fin k0_t1_loop.trips) :
    { R : BitVec 1 × FVec F S2048x128 .f32 × FVec F S2048x128 .f32 //
      ∀ (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty),
      iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))
      ⊢ (wp frame (wpE (defs₀ (F := F)) Variants.none c none) Set.univ (k0_t1_body (F := F) i arg2 harg2 arg3 harg3 arg4 harg4 arg5 harg5 arg6 harg6 arg7 harg7 arg8 harg8 arg9 harg9 arg10 harg10 arg11 harg11 arg12 harg12 v0 k PUnit.unit)
        (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (∃ g, (arg8.view.loc (c : Thread nD τ) ↦[arg8.view.set]{fullShare} g) ∗ ⌜arg8.view.read (Elt F) g = put k.val (if R.1 = 1#1 then R.2.1 else R.2.2) (arg8.view.read (Elt F) f8)⌝) ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)))) : sProp 𝕄) } := by
  refine ⟨⟨?c, ?x, ?y⟩, fun f8 f9 f10 f11 f12 => ?run⟩
  rotate_left 3
  unfold k0_t1_body
  iintro ⟨H2, H3, H4, H8, H9, H10, H11, H12⟩
  sl_exec
  case c => exact blockRun.sl.v494 arg2 arg3 arg11 v0 f2 f3 k
  case x => exact k0_pay17 (St.at (blockRun.sl.r arg2 f2 k) (arg3.view.read (Elt F) f3) (arg4.view.read (Elt F) f4) k0_t2_loop.trips).acc (St.at (blockRun.sl.r arg2 f2 k) (arg3.view.read (Elt F) f3) (arg4.view.read (Elt F) f4) k0_t2_loop.trips).l
  case y => exact blockRun.sl.v462 arg2 arg3 arg4 arg11 arg12 v0 f2 f3 f4 k
  have fast := read_put arg8.view f8 k.val (blockRun.sl.v462 arg2 arg3 arg4 arg11 arg12 v0 f2 f3 f4 k) (off2_eq k) (off3_eq k) (off4_eq k) (off5_eq k) (k0_off2_inb k) (k0_off3_inb k) (k0_off4_inb k) (k0_off5_inb k) _ _ _ _ rfl rfl rfl rfl []
  by_cases hc : blockRun.sl.v494 arg2 arg3 arg11 v0 f2 f3 k = 1#1
  · sl_exec
    sl_for (fun n (_ : PUnit) => (iprop((arg3.view.loc (c : Thread nD τ) ↦[arg3.view.set]{fullShare} f3) ∗ (arg4.view.loc (c : Thread nD τ) ↦[arg4.view.set]{fullShare} f4)
        ∗ (∃ g, (arg9.view.loc (c : Thread nD τ) ↦[arg9.view.set]{fullShare} g) ∗ ⌜arg9.view.read (Elt F) g = (St.at (blockRun.sl.r arg2 f2 k) (arg3.view.read (Elt F) f3) (arg4.view.read (Elt F) f4) n).m⌝)
        ∗ (∃ g, (arg10.view.loc (c : Thread nD τ) ↦[arg10.view.set]{fullShare} g) ∗ ⌜arg10.view.read (Elt F) g = (St.at (blockRun.sl.r arg2 f2 k) (arg3.view.read (Elt F) f3) (arg4.view.read (Elt F) f4) n).l⌝)
        ∗ (∃ g, (arg12.view.loc (c : Thread nD τ) ↦[arg12.view.set]{fullShare} g) ∗ ⌜arg12.view.read (Elt F) g = (St.at (blockRun.sl.r arg2 f2 k) (arg3.view.read (Elt F) f3) (arg4.view.read (Elt F) f4) n).acc⌝)) : sProp 𝕄)) $$ [H3 H4 H9 H10 H12]
    case region =>
      intro n _
      iintro ⟨H3, H4, ⟨%g9, H9, %h9⟩, ⟨%g10, H10, %h10⟩, ⟨%g12, H12, %h12⟩⟩
      rw [St.at_succ]
      iapply (trip c i arg2 harg2 arg3 harg3 arg4 harg4 arg5 harg5 arg6 harg6 arg7 harg7 arg8 harg8 arg9 harg9 arg10 harg10 arg11 harg11 arg12 harg12 k (blockRun.sl.v3 k) (blockRun.sl.r arg2 f2 k) f3 f4 n _ g9 g10 g12 h9 h10 h12)
      isplitl [H3]; · iexact H3
      isplitl [H4]; · iexact H4
      isplitl [H9]; · iexact H9
      isplitl [H10]; · iexact H10
      iexact H12
    · isplitl [H3]; · iexact H3
      isplitl [H4]; · iexact H4
      isplitl [H9]
      · iexists _; isplitl [H9]; · iexact H9
        ipureintro; exact read_store _ off2_zero _ _ _ _
      isplitl [H10]
      · iexists _; isplitl [H10]; · iexact H10
        ipureintro; exact read_store _ off2_zero _ _ _ _
      iexists _; isplitl [H12]; · iexact H12
      ipureintro; exact read_store _ off2_zero _ _ _ _
    iintro %_ ⟨H3, H4, ⟨%g9, H9, %h9⟩, ⟨%g10, H10, %h10⟩, ⟨%g12, H12, %h12⟩⟩
    sl_exec
    sl_step
    isplitl [H2]; · iexact H2
    isplitl [H3]; · iexact H3
    isplitl [H4]; · iexact H4
    isplitl [H8]
    · iexists _; isplitl [H8]; · iexact H8
      ipureintro
      simp only [if_pos hc]
      have e : k0_pay17 (St.at (blockRun.sl.r arg2 f2 k) (arg3.view.read (Elt F) f3) (arg4.view.read (Elt F) f4) k0_t2_loop.trips).acc (St.at (blockRun.sl.r arg2 f2 k) (arg3.view.read (Elt F) f3) (arg4.view.read (Elt F) f4) k0_t2_loop.trips).l
          = k0_pay17 (arg12.view.readAt (Elt F) (Rect.unit ![0, 0] S2048x128.size inb_S2048x128_S2048x128_0_0).toLoadRect g12)
            (arg10.view.readAt (Elt F) (Rect.unit ![0, 0] S2048x1.size inb_S2048x1_S2048x1_0_0).toLoadRect g10) := by
        rw [readAt_whole arg12.view off2_zero, readAt_whole arg10.view off2_zero]
        exact (congrArg₂ k0_pay17 h12 h10).symm
      have slow := read_put arg8.view f8 k.val (k0_pay17 (arg12.view.readAt (Elt F) (Rect.unit ![0, 0] S2048x128.size inb_S2048x128_S2048x128_0_0).toLoadRect g12) (arg10.view.readAt (Elt F) (Rect.unit ![0, 0] S2048x1.size inb_S2048x1_S2048x1_0_0).toLoadRect g10)) (off7_eq k) (off8_eq k) (off9_eq k) (off10_eq k) (k0_off7_inb k) (k0_off8_inb k) (k0_off9_inb k) (k0_off10_inb k) _ _ _ _ rfl rfl rfl rfl
        [⟨Rect.unit (s := S1x8192x512) (k0_off5 k) S1x512x128.size (k0_off5_inb k), part (blockRun.sl.v462 arg2 arg3 arg4 arg11 arg12 v0 f2 f3 f4 k) 3⟩, ⟨Rect.unit (s := S1x8192x512) (k0_off4 k) S1x512x128.size (k0_off4_inb k), part (blockRun.sl.v462 arg2 arg3 arg4 arg11 arg12 v0 f2 f3 f4 k) 2⟩, ⟨Rect.unit (s := S1x8192x512) (k0_off3 k) S1x512x128.size (k0_off3_inb k), part (blockRun.sl.v462 arg2 arg3 arg4 arg11 arg12 v0 f2 f3 f4 k) 1⟩, ⟨Rect.unit (s := S1x8192x512) (k0_off2 k) S1x512x128.size (k0_off2_inb k), part (blockRun.sl.v462 arg2 arg3 arg4 arg11 arg12 v0 f2 f3 f4 k) 0⟩]
      rw [e]
      exact slow.trans ((congrArg (put k.val _) fast).trans (put_put _ _ _ _))
    isplitl [H9]; · iexists _; iexact H9
    isplitl [H10]; · iexists _; iexact H10
    isplitl [H11]; · iexists _; iexact H11
    iexists _; iexact H12
  · sl_exec
    sl_step
    isplitl [H2]; · iexact H2
    isplitl [H3]; · iexact H3
    isplitl [H4]; · iexact H4
    isplitl [H8]
    · iexists _; isplitl [H8]; · iexact H8
      ipureintro
      rw [if_neg hc]
      exact fast
    isplitl [H9]; · iexists _; iexact H9
    isplitl [H10]; · iexists _; iexact H10
    isplitl [H11]; · iexists _; iexact H11
    iexists _; iexact H12

end Cert.Kernel4Ideal.Hand

end
-- ==== Proof.Gqa.Run.lean ====
/- The run of the grouped-query attention's call: the body at every grid point. -/
module

public import proofs.«01_k».proof.Proof.Gen.Kernel4Ideal.Frame
public import proofs.«01_k».proof.Proof.Gen.Kernel4Ideal.Skeleton
public import proofs.«01_k».proof.Proof.Gqa.Body
public import Idealize.ShloMosaic.Lib.WritesUnit
public import Idealize.ShloMosaic.Lib.Pointwise

@[expose] public section

set_option maxRecDepth 65536
set_option maxHeartbeats 4000000

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand (St off2_zero off3_zero)

variable {F : FTy → Type} [FloatOps F] [Named F]

local notation "𝕄" => MT nD τ sig Unit (Elt F) ℕ (UR sig nD τ) ℕ

/-- The attention a block is given: the exact one where the test asks for it, else the one by the shared shift. -/
def blockOut (c : Dev nD) (i : grid0.Coords) (arg2 : Memref sig .tc .vmem S1x8192x512 .bf16) (harg2 : arg2.IsWhole) (arg3 : Memref sig .tc .vmem S1x8448x128 .bf16) (harg3 : arg3.IsWhole) (arg4 : Memref sig .tc .vmem S1x8448x128 .bf16) (harg4 : arg4.IsWhole) (arg5 : Memref sig .tc .vmem S1x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x8192x512 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x128 .f32) (harg11 : arg11.IsWhole) (arg12 : Memref sig .tc .vmem S2048x128 .f32) (harg12 : arg12.IsWhole) (v0 : Vec F S1x128 .f32) (f2 : BufTy.Contents (Elt F) arg2.view.ty) (f3 : BufTy.Contents (Elt F) arg3.view.ty) (f4 : BufTy.Contents (Elt F) arg4.view.ty) (k : Fin k0_t1_loop.trips) : FVec F S2048x128 .f32 :=
  if (blockRun c i arg2 harg2 arg3 harg3 arg4 harg4 arg5 harg5 arg6 harg6 arg7 harg7 arg8 harg8 arg9 harg9 arg10 harg10 arg11 harg11 arg12 harg12 v0 f2 f3 f4 k).1.1 = 1#1 then (blockRun c i arg2 harg2 arg3 harg3 arg4 harg4 arg5 harg5 arg6 harg6 arg7 harg7 arg8 harg8 arg9 harg9 arg10 harg10 arg11 harg11 arg12 harg12 v0 f2 f3 f4 k).1.2.1 else (blockRun c i arg2 harg2 arg3 harg3 arg4 harg4 arg5 harg5 arg6 harg6 arg7 harg7 arg8 harg8 arg9 harg9 arg10 harg10 arg11 harg11 arg12 harg12 v0 f2 f3 f4 k).1.2.2

/-- The first `n` blocks put in place. -/
def fill (B : Fin k0_t1_loop.trips → FVec F S2048x128 .f32) (X : S1x8192x512.Idx → Elt F .bf16) : ℕ → S1x8192x512.Idx → Elt F .bf16
  | 0 => X
  | n + 1 => if h : n < k0_t1_loop.trips then put n (B ⟨n, h⟩) (fill B X n) else fill B X n

theorem fill_succ (B : Fin k0_t1_loop.trips → FVec F S2048x128 .f32) (X : S1x8192x512.Idx → Elt F .bf16) (k : Fin k0_t1_loop.trips) :
    fill B X (k.val + 1) = put k.val (B k) (fill B X k.val) := by
  rw [fill]; exact dif_pos k.isLt

/-- All sixteen blocks in place. -/
def whole (B : Fin k0_t1_loop.trips → FVec F S2048x128 .f32) : S1x8192x512.Idx → Elt F .bf16 := fun y =>
  part (B ⟨(y 1).val / 512, by have h : (y 1).val < 8192 := (y 1).isLt; show _ < 16; omega⟩)
    ⟨(y 2).val / 128, by have h : (y 2).val < 512 := (y 2).isLt; omega⟩
    (ix3 0 ⟨(y 1).val % 512, Nat.mod_lt _ (by decide)⟩ ⟨(y 2).val % 128, Nat.mod_lt _ (by decide)⟩)

/-- Where the blocks put so far reach, what was there before does not matter. -/
theorem fill_apply (B : Fin k0_t1_loop.trips → FVec F S2048x128 .f32) (X : S1x8192x512.Idx → Elt F .bf16) (n : ℕ) (hn : n ≤ 16) (y : S1x8192x512.Idx)
    (hy : (y 1).val / 512 < n) : fill B X n y = whole B y := by
  induction n with
  | zero => omega
  | succ n ih =>
    rw [show fill B X (n + 1) = put n (B ⟨n, by show _ < 16; omega⟩) (fill B X n) from fill_succ B X ⟨n, by show _ < 16; omega⟩]
    unfold put
    by_cases h : (y 1).val / 512 = n
    · rw [if_pos h]; subst h; rfl
    · rw [if_neg h]; exact ih (by omega) (by omega)

theorem fill_all (B : Fin k0_t1_loop.trips → FVec F S2048x128 .f32) (X : S1x8192x512.Idx → Elt F .bf16) : fill B X k0_t1_loop.trips = whole B := by
  funext y
  have h : (y 1).val < 8192 := (y 1).isLt
  exact fill_apply B X 16 (Nat.le_refl _) y (by omega)

/-- What the body leaves in the output block, with the proof that from the six input blocks, and the output block and the
    scratch buffers at anything, the body runs and hands on the inputs as they were and the output block at that. -/
def bodyRun (c : Dev nD) (i : grid0.Coords) (arg2 : Memref sig .tc .vmem S1x8192x512 .bf16) (harg2 : arg2.IsWhole) (arg3 : Memref sig .tc .vmem S1x8448x128 .bf16) (harg3 : arg3.IsWhole) (arg4 : Memref sig .tc .vmem S1x8448x128 .bf16) (harg4 : arg4.IsWhole) (arg5 : Memref sig .tc .vmem S1x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x8192x512 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x128 .f32) (harg11 : arg11.IsWhole) (arg12 : Memref sig .tc .vmem S2048x128 .f32) (harg12 : arg12.IsWhole) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) :
    { R : S1x8192x512.Idx → Elt F .bf16 //
      ∀ (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (K : PUnit → sProp 𝕄),
      (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)
        ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (∃ g, (arg8.view.loc (c : Thread nD τ) ↦[arg8.view.set]{fullShare} g) ∗ ⌜arg8.view.read (Elt F) g = R⌝) ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g))) -∗ K ⟨⟩)) : sProp 𝕄)
      ⊢ (wp frame (wpE (defs₀ (F := F)) Variants.none c none) Set.univ (cc0_attn_gqa (F := F) i arg2 harg2 arg3 harg3 arg4 harg4 arg5 harg5 arg6 harg6 arg7 harg7 arg8 harg8 arg9 harg9 arg10 harg10 arg11 harg11 arg12 harg12) K) } := by
  refine ⟨whole (blockOut c i arg2 harg2 arg3 harg3 arg4 harg4 arg5 harg5 arg6 harg6 arg7 harg7 arg8 harg8 arg9 harg9 arg10 harg10 arg11 harg11 arg12 harg12 (arg5.view.readAt (Elt F) (Rect.unit (s := S1x128) ![0, 0] S1x128.size inb_S1x128_S1x128_0_0).toLoadRect f5) f2 f3 f4), fun f8 f9 f10 f11 f12 K => ?_⟩
  rw [cc0_attn_gqa_eq_skeleton]; unfold cc0_attn_gqa_skel
  iintro ⟨H2, H3, H4, H5, H6, H7, H8, H9, H10, H11, H12, Hk⟩
  sl_exec
  sl_for (fun n (_ : PUnit) => (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4)
      ∗ (∃ g, (arg8.view.loc (c : Thread nD τ) ↦[arg8.view.set]{fullShare} g) ∗ ⌜arg8.view.read (Elt F) g = fill (blockOut c i arg2 harg2 arg3 harg3 arg4 harg4 arg5 harg5 arg6 harg6 arg7 harg7 arg8 harg8 arg9 harg9 arg10 harg10 arg11 harg11 arg12 harg12 (arg5.view.readAt (Elt F) (Rect.unit (s := S1x128) ![0, 0] S1x128.size inb_S1x128_S1x128_0_0).toLoadRect f5) f2 f3 f4) (arg8.view.read (Elt F) f8) n⌝)
      ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g))) : sProp 𝕄)) $$ [H2 H3 H4 H8 H9 H10 H11 H12]
  case region =>
    intro n _
    iintro ⟨H2, H3, H4, ⟨%g8, H8, %h8⟩, ⟨%g9, H9⟩, ⟨%g10, H10⟩, ⟨%g11, H11⟩, ⟨%g12, H12⟩⟩
    rw [fill_succ, ← h8]
    iapply ((blockRun c i arg2 harg2 arg3 harg3 arg4 harg4 arg5 harg5 arg6 harg6 arg7 harg7 arg8 harg8 arg9 harg9 arg10 harg10 arg11 harg11 arg12 harg12 (arg5.view.readAt (Elt F) (Rect.unit (s := S1x128) ![0, 0] S1x128.size inb_S1x128_S1x128_0_0).toLoadRect f5) f2 f3 f4 n).2 g8 g9 g10 g11 g12)
    isplitl [H2]; · iexact H2
    isplitl [H3]; · iexact H3
    isplitl [H4]; · iexact H4
    isplitl [H8]; · iexact H8
    isplitl [H9]; · iexact H9
    isplitl [H10]; · iexact H10
    isplitl [H11]; · iexact H11
    iexact H12
  · isplitl [H2]; · iexact H2
    isplitl [H3]; · iexact H3
    isplitl [H4]; · iexact H4
    isplitl [H8]
    · iexists _; isplitl [H8]; · iexact H8
      ipureintro; rfl
    isplitl [H9]; · iexists _; iexact H9
    isplitl [H10]; · iexists _; iexact H10
    isplitl [H11]; · iexists _; iexact H11
    iexists _; iexact H12
  iintro %_ ⟨H2, H3, H4, ⟨%g8, H8, %h8⟩, H9, H10, H11, H12⟩
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]
  · iexists _; isplitl [H8]; · iexact H8
    ipureintro; exact h8.trans (fill_all _ _)
  isplitl [H9]; · iexact H9
  isplitl [H10]; · iexact H10
  isplitl [H11]; · iexact H11
  iexact H12

variable (m : (ℓ : Loc nD τ sig) → Buf (Elt F) ℓ) (ρ : Dev nD → PrngReg)

/-! # The run of the whole program: the body at every grid point, and what the output array is written with -/

/-- The body's run at a grid point: the point's staging buffers, the inputs at their blocks. -/
def runAt (c : Dev nD) (t : Fin cfg0.N) := bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.IsWhole.unread (hstage0_0 ((cfg0.slots t 0).cast nbuf0_0)) (iblk m c 0 t)) (Memref.IsWhole.unread (hstage0_1 ((cfg0.slots t 1).cast nbuf0_1)) (iblk m c 1 t)) (Memref.IsWhole.unread (hstage0_2 ((cfg0.slots t 2).cast nbuf0_2)) (iblk m c 2 t)) (Memref.IsWhole.unread (hstage0_3 ((cfg0.slots t 3).cast nbuf0_3)) (iblk m c 3 t)) (Memref.IsWhole.unread (hstage0_4 ((cfg0.slots t 4).cast nbuf0_4)) (iblk m c 4 t)) (Memref.IsWhole.unread (hstage0_5 ((cfg0.slots t 5).cast nbuf0_5)) (iblk m c 5 t))

/-- The block a grid point writes. -/
def outAt (c : Dev nD) (t : Fin cfg0.N) : S1x8192x512.Idx → Elt F .bf16 := (runAt m c t).1

/-- The pipeline's proof data: the arrays as the region finds them; after the body each input's buffer at its block
    and the output's at `outAt`; the scratch buffers at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- A whole buffer held through its view is the buffer held outright. -/
theorem whole_pt (c : Dev nD) (b : Ref sig .tc) (f) :
    (((Memref.whole b).view.loc (c : Thread nD τ) ↦[(Memref.whole b).view.set]{fullShare} f) : sProp 𝕄)
      = (((c : Thread nD τ).loc b) ↦{fullShare} f) := by
  have h : (Memref.whole b).view.set = Finset.univ := View.set_whole b
  rw [h]

/-- What the pipeline holds before the body at a grid point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))
/-- What it holds after. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t))

set_option maxHeartbeats 1600000 in
/-- The body at a grid point, from the pipeline's holdings before it to its holdings after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  simp only [before_0, before_1, before_2, before_3, before_4, before_5, after_0, after_1, after_2, after_3, after_4, after_5, after_6]
  unfold Pipeline.ΦA owns; rw [scopedRest0_eq]
  simp only [← whole_pt]
  iintro ⟨⟨⟨⟨%g10, H10⟩, ⟨%g11, H11⟩, ⟨%g12, H12⟩, ⟨%g13, H13⟩⟩, Hg⟩, Ho,
    ⟨%d0, %f0, %hf0, H3⟩, ⟨%d1, %f1, %hf1, H4⟩, ⟨%d2, %f2, %hf2, H5⟩, ⟨%d3, %f3, %hf3, H6⟩, ⟨%d4, %f4, %hf4, H7⟩, ⟨%d5, %f5, %hf5, H8⟩, ⟨%d6, %f6, %hf6, H9⟩⟩
  obtain rfl := (Memref.IsWhole.eq_unread (hstage0_0 ((cfg0.slots t 0).cast nbuf0_0)) hf0)
  obtain rfl := (Memref.IsWhole.eq_unread (hstage0_1 ((cfg0.slots t 1).cast nbuf0_1)) hf1)
  obtain rfl := (Memref.IsWhole.eq_unread (hstage0_2 ((cfg0.slots t 2).cast nbuf0_2)) hf2)
  obtain rfl := (Memref.IsWhole.eq_unread (hstage0_3 ((cfg0.slots t 3).cast nbuf0_3)) hf3)
  obtain rfl := (Memref.IsWhole.eq_unread (hstage0_4 ((cfg0.slots t 4).cast nbuf0_4)) hf4)
  obtain rfl := (Memref.IsWhole.eq_unread (hstage0_5 ((cfg0.slots t 5).cast nbuf0_5)) hf5)
  iapply ((runAt m c t).2 f6 g10 g11 g12 g13 _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H3, H4, H5, H6, H7, H8, ⟨%g9, H9, %h9⟩, H10, H11, H12, H13⟩
  isplitl [H10 H11 H12 H13 Hg]
  · isplitl [H10 H11 H12 H13]
    · isplitl [H10]; · iexact H10
      isplitl [H11]; · iexact H11
      isplitl [H12]; · iexact H12
      iexact H13
    iexact Hg
  isplitl [Ho]; · iexact Ho
  isplitl [H3]
  · iexists _; isplitr; swap; · iexact H3
    ipureintro; exact hf0
  isplitl [H4]
  · iexists _; isplitr; swap; · iexact H4
    ipureintro; exact hf1
  isplitl [H5]
  · iexists _; isplitr; swap; · iexact H5
    ipureintro; exact hf2
  isplitl [H6]
  · iexists _; isplitr; swap; · iexact H6
    ipureintro; exact hf3
  isplitl [H7]
  · iexists _; isplitr; swap; · iexact H7
    ipureintro; exact hf4
  isplitl [H8]
  · iexists _; isplitr; swap; · iexact H8
    ipureintro; exact hf5
  iexists _; isplitr; swap; · iexact H9
  ipureintro; exact h9

/-- The table's entry at a grid point is the kernel on the point's buffers. -/
theorem defs₀_row (t : Fin cfg0.N) :
    defs₀ (F := F) .tc cfg0.body (cfg0.bodyArgs t (cfg0.slots t)) = bodyAt0 t := by
  unfold defs₀; rw [Defs.onTc_tc]

/-- The body obligation the launch asks for. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- From any memory with zero counters every weakly fair execution terminates, with each array at what the proof data
    says and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: every execution terminates, the argument arrays end as they began, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_with_sems (frame_of m ρ (dats m) (A_eq m)) (run_main m ρ)

end Cert.Kernel4Ideal.Hand

end
-- ==== Proof.Gqa.Fast.lean ====
module

public import proofs.«01_k».proof.Proof.Gen.Kernel4Ideal.Frame
public import proofs.«01_k».proof.Proof.Gqa.Run

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand (off2_zero off3_zero readCov_whole readAt_whole)

variable {F : FTy → Type} [FloatOps F] [Named F]

/-! # What the shared-shift path computes, as a function of the blocks -/

/-- Block `i` of 2816 keys (or values). -/
def kb (X : S1x8448x128.Idx → Elt F .bf16) (i : ℕ) (h : i < 3) : Vec F S1x2816x128 .bf16 :=
  View.ld X (Rect.unit (s := S1x8448x128) ![0, 2816 * i, 0] S1x2816x128.size (by
    intro a; fin_cases a
    · exact Nat.le_refl 1
    · show 2816 * i + 2816 ≤ 8448; omega
    · exact Nat.le_refl 128))

/-- The scores of the stacked queries against a block of keys. -/
def score (q : FVec F S2048x128 .bf16) (K : Vec F S1x2816x128 .bf16) : FVec F S2048x2816 .f32 :=
  matmul dot_S2048x128_S2816x128_S2048x2816_1_1_0_0_n_n none q (shapeCast S2816x128 K shapeCasts_S1x2816x128_S2816x128)
    (constant S2048x2816 .f32 0#32)

/-- The weights of 128 of a block's keys. -/
def chunk (sh : FVec F S1x128 .f32) (s : FVec F S2048x2816 .f32) (o : ℕ) (h : S2048x2816.Slices ![0, o] S2048x128) :
    FVec F S2048x128 .f32 :=
  exp2 (subf (extractStridedSlice S2048x128 ![0, o] s h) (broadcastTo S2048x128 sh broadcasts_S1x128_S2048x128))

/-- The weights of a block's keys. -/
def probs (sh : FVec F S1x128 .f32) (s : FVec F S2048x2816 .f32) : FVec F S2048x2816 .bf16 :=
  concatenate S2048x2816 1
    [⟨S2048x128, truncf .bf16 (chunk sh s 0 slices_S2048x2816_o0_0_S2048x128) bitsLt_bf16_f32⟩,
     ⟨S2048x128, truncf .bf16 (chunk sh s 128 slices_S2048x2816_o0_128_S2048x128) bitsLt_bf16_f32⟩,
     ⟨S2048x128, truncf .bf16 (chunk sh s 256 slices_S2048x2816_o0_256_S2048x128) bitsLt_bf16_f32⟩,
     ⟨S2048x128, truncf .bf16 (chunk sh s 384 slices_S2048x2816_o0_384_S2048x128) bitsLt_bf16_f32⟩,
     ⟨S2048x128, truncf .bf16 (chunk sh s 512 slices_S2048x2816_o0_512_S2048x128) bitsLt_bf16_f32⟩,
     ⟨S2048x128, truncf .bf16 (chunk sh s 640 slices_S2048x2816_o0_640_S2048x128) bitsLt_bf16_f32⟩,
     ⟨S2048x128, truncf .bf16 (chunk sh s 768 slices_S2048x2816_o0_768_S2048x128) bitsLt_bf16_f32⟩,
     ⟨S2048x128, truncf .bf16 (chunk sh s 896 slices_S2048x2816_o0_896_S2048x128) bitsLt_bf16_f32⟩,
     ⟨S2048x128, truncf .bf16 (chunk sh s 1024 slices_S2048x2816_o0_1024_S2048x128) bitsLt_bf16_f32⟩,
     ⟨S2048x128, truncf .bf16 (chunk sh s 1152 slices_S2048x2816_o0_1152_S2048x128) bitsLt_bf16_f32⟩,
     ⟨S2048x128, truncf .bf16 (chunk sh s 1280 slices_S2048x2816_o0_1280_S2048x128) bitsLt_bf16_f32⟩,
     ⟨S2048x128, truncf .bf16 (chunk sh s 1408 slices_S2048x2816_o0_1408_S2048x128) bitsLt_bf16_f32⟩,
     ⟨S2048x128, truncf .bf16 (chunk sh s 1536 slices_S2048x2816_o0_1536_S2048x128) bitsLt_bf16_f32⟩,
     ⟨S2048x128, truncf .bf16 (chunk sh s 1664 slices_S2048x2816_o0_1664_S2048x128) bitsLt_bf16_f32⟩,
     ⟨S2048x128, truncf .bf16 (chunk sh s 1792 slices_S2048x2816_o0_1792_S2048x128) bitsLt_bf16_f32⟩,
     ⟨S2048x128, truncf .bf16 (chunk sh s 1920 slices_S2048x2816_o0_1920_S2048x128) bitsLt_bf16_f32⟩,
     ⟨S2048x128, truncf .bf16 (chunk sh s 2048 slices_S2048x2816_o0_2048_S2048x128) bitsLt_bf16_f32⟩,
     ⟨S2048x128, truncf .bf16 (chunk sh s 2176 slices_S2048x2816_o0_2176_S2048x128) bitsLt_bf16_f32⟩,
     ⟨S2048x128, truncf .bf16 (chunk sh s 2304 slices_S2048x2816_o0_2304_S2048x128) bitsLt_bf16_f32⟩,
     ⟨S2048x128, truncf .bf16 (chunk sh s 2432 slices_S2048x2816_o0_2432_S2048x128) bitsLt_bf16_f32⟩,
     ⟨S2048x128, truncf .bf16 (chunk sh s 2560 slices_S2048x2816_o0_2560_S2048x128) bitsLt_bf16_f32⟩,
     ⟨S2048x128, truncf .bf16 (chunk sh s 2688 slices_S2048x2816_o0_2688_S2048x128) bitsLt_bf16_f32⟩]
    concatenates_S2048x128_S2048x128_S2048x128_S2048x128_S2048x128_S2048x128_S2048x128_S2048x128_S2048x128_S2048x128_S2048x128_S2048x128_S2048x128_S2048x128_S2048x128_S2048x128_S2048x128_S2048x128_S2048x128_S2048x128_S2048x128_S2048x128_S2048x2816_d1

/-- The sum of a block's weights, lane by lane. -/
def psum (sh : FVec F S1x128 .f32) (s : FVec F S2048x2816 .f32) : FVec F S2048x128 .f32 :=
  addf (addf (addf (addf (addf (addf (addf (addf (addf (addf (addf (addf (addf (addf (addf (addf (addf (addf (addf (addf (addf (chunk sh s 0 slices_S2048x2816_o0_0_S2048x128)
    (chunk sh s 128 slices_S2048x2816_o0_128_S2048x128))
    (chunk sh s 256 slices_S2048x2816_o0_256_S2048x128))
    (chunk sh s 384 slices_S2048x2816_o0_384_S2048x128))
    (chunk sh s 512 slices_S2048x2816_o0_512_S2048x128))
    (chunk sh s 640 slices_S2048x2816_o0_640_S2048x128))
    (chunk sh s 768 slices_S2048x2816_o0_768_S2048x128))
    (chunk sh s 896 slices_S2048x2816_o0_896_S2048x128))
    (chunk sh s 1024 slices_S2048x2816_o0_1024_S2048x128))
    (chunk sh s 1152 slices_S2048x2816_o0_1152_S2048x128))
    (chunk sh s 1280 slices_S2048x2816_o0_1280_S2048x128))
    (chunk sh s 1408 slices_S2048x2816_o0_1408_S2048x128))
    (chunk sh s 1536 slices_S2048x2816_o0_1536_S2048x128))
    (chunk sh s 1664 slices_S2048x2816_o0_1664_S2048x128))
    (chunk sh s 1792 slices_S2048x2816_o0_1792_S2048x128))
    (chunk sh s 1920 slices_S2048x2816_o0_1920_S2048x128))
    (chunk sh s 2048 slices_S2048x2816_o0_2048_S2048x128))
    (chunk sh s 2176 slices_S2048x2816_o0_2176_S2048x128))
    (chunk sh s 2304 slices_S2048x2816_o0_2304_S2048x128))
    (chunk sh s 2432 slices_S2048x2816_o0_2432_S2048x128))
    (chunk sh s 2560 slices_S2048x2816_o0_2560_S2048x128))
    (chunk sh s 2688 slices_S2048x2816_o0_2688_S2048x128)

/-- The weighted values of a block. -/
def pv (sh : FVec F S1x128 .f32) (q : FVec F S2048x128 .bf16) (K V : Vec F S1x2816x128 .bf16) : FVec F S2048x128 .f32 :=
  matmul dot_S2048x2816_S2816x128_S2048x128_1_0_0_1_n_n none (probs sh (score q K)) (shapeCast S2816x128 V shapeCasts_S1x2816x128_S2816x128)
    (constant S2048x128 .f32 0#32)

/-- The lane sums of the first `n + 1` blocks. -/
def lsum (sh : FVec F S1x128 .f32) (q : FVec F S2048x128 .bf16) (X : S1x8448x128.Idx → Elt F .bf16) : (n : ℕ) → n < 3 → FVec F S2048x128 .f32
  | 0, h => shapeCast S2048x128 (psum sh (score q (kb X 0 h))) shapeCasts_S2048x128_S2048x128
  | n + 1, h => shapeCast S2048x128 (addf (lsum sh q X n (by omega)) (psum sh (score q (kb X (n + 1) h)))) shapeCasts_S2048x128_S2048x128

/-- The weighted values of the first `n + 1` blocks. -/
def acc (sh : FVec F S1x128 .f32) (q : FVec F S2048x128 .bf16) (X Y : S1x8448x128.Idx → Elt F .bf16) : (n : ℕ) → n < 3 → FVec F S2048x128 .f32
  | 0, h => shapeCast S2048x128 (pv sh q (kb X 0 h) (kb Y 0 h)) shapeCasts_S2048x128_S2048x128
  | n + 1, h => shapeCast S2048x128 (addf (acc sh q X Y n (by omega)) (pv sh q (kb X (n + 1) h) (kb Y (n + 1) h))) shapeCasts_S2048x128_S2048x128

/-- The rows' sums of weights. -/
def denom (sh : FVec F S1x128 .f32) (q : FVec F S2048x128 .bf16) (X : S1x8448x128.Idx → Elt F .bf16) : FVec F S2048x1 .f32 :=
  shapeCast S2048x1 (multiReduction .add [1] S2048 (lsum sh q X 2 (by omega)) 0x00000000#32 reduces_S2048x128_S2048 (.inl rfl) rfl)
    shapeCasts_S2048_S2048x1

/-- The weighted means. -/
def fastA (sh : FVec F S1x128 .f32) (q : FVec F S2048x128 .bf16) (X Y : S1x8448x128.Idx → Elt F .bf16) : FVec F S2048x128 .f32 :=
  divf (acc sh q X Y 2 (by omega)) (broadcastTo S2048x128 (denom sh q X) broadcasts_S2048x1_S2048x128)

section Blocks
variable (arg2 : Memref sig .tc .vmem S1x8192x512 .bf16) (arg3 arg4 : Memref sig .tc .vmem S1x8448x128 .bf16) (v0 : Vec F S1x128 .f32) (f2 : BufTy.Contents (Elt F) arg2.view.ty) (f3 : BufTy.Contents (Elt F) arg3.view.ty) (f4 : BufTy.Contents (Elt F) arg4.view.ty) (arg11 arg12 : Memref sig .tc .vmem S2048x128 .f32) (k : Fin k0_t1_loop.trips)

/-- The lane sums after one block. -/
theorem lsum_0 : blockRun.sl.v299 arg2 arg3 arg11 v0 f2 f3 k = lsum (k0_pay1 v0) (blockRun.sl.r arg2 f2 k) (arg3.view.read (Elt F) f3) 0 (by decide) := by
  refine (readCov_whole _ off2_zero _ _ _).trans ?_
  rfl
/-- The lane sums after two blocks. -/
theorem lsum_1 : blockRun.sl.v447 arg2 arg3 arg11 v0 f2 f3 k = lsum (k0_pay1 v0) (blockRun.sl.r arg2 f2 k) (arg3.view.read (Elt F) f3) 1 (by decide) := by
  refine (readCov_whole _ off2_zero _ _ _).trans ?_
  rw [lsum, ← lsum_0 arg2 arg3 v0 f2 f3 arg11 k]
  rfl
/-- The lane sums after the three blocks. -/
theorem lsum_2 : blockRun.sl.v457 arg2 arg3 arg11 v0 f2 f3 k = lsum (k0_pay1 v0) (blockRun.sl.r arg2 f2 k) (arg3.view.read (Elt F) f3) 2 (by decide) := by
  refine (readCov_whole _ off2_zero _ _ _).trans ?_
  rw [lsum, ← lsum_1 arg2 arg3 v0 f2 f3 arg11 k]
  rfl

/-- The weighted values after one block. -/
theorem acc_0 : blockRun.sl.v304 arg2 arg3 arg4 arg12 v0 f2 f3 f4 k = acc (k0_pay1 v0) (blockRun.sl.r arg2 f2 k) (arg3.view.read (Elt F) f3) (arg4.view.read (Elt F) f4) 0 (by decide) := by
  refine (readCov_whole _ off2_zero _ _ _).trans ?_
  rfl
/-- The weighted values after two blocks. -/
theorem acc_1 : blockRun.sl.v452 arg2 arg3 arg4 arg12 v0 f2 f3 f4 k = acc (k0_pay1 v0) (blockRun.sl.r arg2 f2 k) (arg3.view.read (Elt F) f3) (arg4.view.read (Elt F) f4) 1 (by decide) := by
  refine (readCov_whole _ off2_zero _ _ _).trans ?_
  rw [acc, ← acc_0 arg2 arg3 arg4 v0 f2 f3 f4 arg12 k]
  rfl
/-- The weighted values after the three blocks. -/
theorem acc_2 : blockRun.sl.v460 arg2 arg3 arg4 arg12 v0 f2 f3 f4 k = acc (k0_pay1 v0) (blockRun.sl.r arg2 f2 k) (arg3.view.read (Elt F) f3) (arg4.view.read (Elt F) f4) 2 (by decide) := by
  refine (readCov_whole _ off2_zero _ _ _).trans ?_
  rw [acc, ← acc_1 arg2 arg3 arg4 v0 f2 f3 f4 arg12 k]
  rfl

/-- The rows a trip's shared-shift path computes. -/
theorem fast_eq : blockRun.sl.v462 arg2 arg3 arg4 arg11 arg12 v0 f2 f3 f4 k
    = fastA (k0_pay1 v0) (blockRun.sl.r arg2 f2 k) (arg3.view.read (Elt F) f3) (arg4.view.read (Elt F) f4) := by
  rw [fastA, denom, ← lsum_2 arg2 arg3 v0 f2 f3 arg11 k, ← acc_2 arg2 arg3 arg4 v0 f2 f3 f4 arg12 k]
  rfl

end Blocks

end Cert.Kernel4Ideal.Hand

end
-- ==== Proof.Gqa.Spec.lean ====
/- The grouped-query attention of the problem over the reals, and the array the two programs are to return. -/
module

public import proofs.«01_k».proof.Proof.Spec

@[expose] public section

noncomputable section

namespace Cert.Gqa

open Idealize.ShloMosaic Cert.Sums Cert.Spec

/-- The scale of the scores: the float nearest to one over the root of 128. -/
def scale : ℝ := 11863283 / 134217728

/-- The product of query `r` and key `n`. -/
def logit (Q K : ℕ → ℕ → ℝ) (r n : ℕ) : ℝ := ∑ d : Fin 128, Q r d.val * K n d.val

/-- The softmax mean of the values. -/
def mean (S : ℕ → ℝ) (W : ℕ → ℝ) : ℝ :=
  (∑ n ∈ Finset.range 8448, Real.exp (S n * scale) * W n) / ∑ n ∈ Finset.range 8448, Real.exp (S n * scale)

/-- Two to a score over `log 2`, less a shift, is the exponential of the score times a factor that the key does not
move. -/
theorem two_rpow (x s : ℝ) : (2 : ℝ) ^ (x * (scale * (Real.log 2)⁻¹) - s) = Real.exp (x * scale) * (2 : ℝ) ^ (-s) := by
  have h2 : Real.log 2 ≠ 0 := (Real.log_pos (by norm_num)).ne'
  rw [sub_eq_add_neg, Real.rpow_add (by norm_num)]
  congr 1
  rw [Real.rpow_def_of_pos (by norm_num)]
  congr 1
  field_simp

/-- A mean does not change when the exponents are taken in powers of two less a shift. -/
theorem mean_pow (S W : ℕ → ℝ) (s : ℝ) :
    (∑ n ∈ Finset.range 8448, (2 : ℝ) ^ (S n * (scale * (Real.log 2)⁻¹) - s) * W n) / ∑ n ∈ Finset.range 8448, (2 : ℝ) ^ (S n * (scale * (Real.log 2)⁻¹) - s)
      = mean S W := by
  simp only [two_rpow]
  exact mean_scale (fun n => Real.exp (S n * scale)) W _ (Real.rpow_pos_of_pos (by norm_num) _).ne' _

/-- A sum of powers of two is not zero. -/
theorem pows_ne (f : ℕ → ℝ) (n : ℕ) (h : 0 < n) : ∑ k ∈ Finset.range n, (2 : ℝ) ^ f k ≠ 0 :=
  (Finset.sum_pos (fun k _ => Real.rpow_pos_of_pos (by norm_num) _) ⟨0, Finset.mem_range.2 h⟩).ne'

/-- Blocks of any width one after the other. -/
theorem sum_blocks (w : ℕ) (f : ℕ → ℝ) (n : ℕ) : ∑ i ∈ Finset.range n, ∑ k ∈ Finset.range w, f (w * i + k) = ∑ k ∈ Finset.range (w * n), f k := by
  induction n with
  | zero => simp
  | succ n ih => rw [Finset.sum_range_succ, ih, Nat.mul_succ, Finset.sum_range_add]

/-- One more block. -/
theorem sum_block (w : ℕ) (f : ℕ → ℝ) (n : ℕ) : ∑ k ∈ Finset.range (w * (n + 1)), f k
    = ∑ k ∈ Finset.range (w * n), f k + ∑ k : Fin w, f (w * n + k.val) := by
  rw [Nat.mul_succ, Finset.sum_range_add, Finset.sum_range (fun k => f (w * n + k))]

/-- The latent rows, then the context's. -/
def rows (X : (⟨3, ![8, 8192, 256]⟩ : Shape).Idx → EReal) (Y : (⟨3, ![8, 256, 256]⟩ : Shape).Idx → EReal) (b n x : ℕ) : ℝ :=
  if n < 8192 then at3 X b n x else at3 Y b (n - 8192) x

/-- The attention of batch `b`, head `h`, token `t`, channel `e`: four heads share a head of the keys and values. -/
def attnOf (a0 : (⟨3, ![8, 8192, 1024]⟩ : Shape).Idx → EReal) (a1 a2 : (⟨3, ![8, 8192, 256]⟩ : Shape).Idx → EReal)
    (a3 a4 : (⟨3, ![8, 256, 256]⟩ : Shape).Idx → EReal) (b h t e : ℕ) : ℝ :=
  mean (logit (fun t d => at3 a0 b t (128 * h + d)) (fun n d => rows a1 a3 b n (128 * (h / 4) + d)) t) (fun n => rows a2 a4 b n (128 * (h / 4) + e))

/-- The array returned. -/
def out (a0 : (⟨3, ![8, 8192, 1024]⟩ : Shape).Idx → EReal) (a1 a2 : (⟨3, ![8, 8192, 256]⟩ : Shape).Idx → EReal)
    (a3 a4 : (⟨3, ![8, 256, 256]⟩ : Shape).Idx → EReal) (y : (⟨3, ![8, 8192, 1024]⟩ : Shape).Idx) : EReal :=
  ((attnOf a0 a1 a2 a3 a4 (y 0).val ((y 2).val / 128) (y 1).val ((y 2).val % 128) : ℝ) : EReal)

end Cert.Gqa

end
-- ==== Proof.Gqa.Val.lean ====
module

public import proofs.«01_k».proof.Proof.Gen.Kernel4Ideal.Frame
public import proofs.«01_k».proof.Proof.Gqa.Fast
public import proofs.«01_k».proof.Proof.Gqa.Spec
public import proofs.«01_k».proof.Proof.Val
public import Idealize.ShloMosaic.Lib.Pointwise
public import Idealize.ShloMosaic.Lib.Pipeline.Value

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand (St)
open Cert.Sums

/-! # The two paths' vector operations, read at an index over the extended reals -/

theorem score_apply (q : FVec Ideal S2048x128 .bf16) (K : Vec Ideal S1x2816x128 .bf16) (r : Fin 2048) (n : Fin 2816) :
    score q K (ix2 r n) = ∑ d : Fin 128, q (ix2 r d) * K (ix3 0 n d) := by
  pointwise [score]

theorem kb_apply (X : S1x8448x128.Idx → Elt Ideal .bf16) (i : ℕ) (h : i < 3) (n : Fin 2816) (d : Fin 128) :
    kb X i h (ix3 0 n d) = X (ix3 0 ⟨2816 * i + n.val, by omega⟩ d) := by
  pointwise [kb]

theorem chunk_apply (sh : FVec Ideal S1x128 .f32) (s : FVec Ideal S2048x2816 .f32) (o : ℕ) (h : S2048x2816.Slices ![0, o] S2048x128)
    (ho : o + 128 ≤ 2816) (r : Fin 2048) (l : Fin 128) :
    chunk sh s o h (ix2 r l) = Ideal.exp2 (s (ix2 r ⟨o + l.val, by omega⟩) - sh (ix2 0 l)) := by
  pointwise [chunk]
  rfl

/-- A run of 128 of a block's keys. -/
theorem slices_at (j : Fin 22) : S2048x2816.Slices ![0, 128 * j.val] S2048x128 :=
  ⟨rfl, fun a => match a with
    | ⟨0, _⟩ => Nat.le_refl 2048
    | ⟨1, _⟩ => by show 128 * j.val + 128 ≤ 2816; omega⟩

/-- The weights are the runs' weights side by side. -/
theorem probs_eq (sh : FVec Ideal S1x128 .f32) (s : FVec Ideal S2048x2816 .f32) : probs sh s
    = concatenate S2048x2816 1 (List.ofFn fun j : Fin 22 => (⟨S2048x128, chunk sh s (128 * j.val) (slices_at j)⟩ : (s : Shape) × (s.Idx → EReal)))
      concatenates_S2048x128_S2048x128_S2048x128_S2048x128_S2048x128_S2048x128_S2048x128_S2048x128_S2048x128_S2048x128_S2048x128_S2048x128_S2048x128_S2048x128_S2048x128_S2048x128_S2048x128_S2048x128_S2048x128_S2048x128_S2048x128_S2048x128_S2048x2816_d1 := rfl

theorem probs_apply (sh : FVec Ideal S1x128 .f32) (s : FVec Ideal S2048x2816 .f32) (r : Fin 2048) (n : Fin 2816) :
    probs sh s (ix2 r n) = Ideal.exp2 (s (ix2 r n) - sh (ix2 0 ⟨n.val % 128, by omega⟩)) := by
  have hn := n.isLt
  rw [probs_eq]
  refine (concatenate_ofFn_apply (1 : Fin S2048x2816.rank) (fun j : Fin 22 => chunk sh s (128 * j.val) (slices_at j)) _ rfl 128 rfl (ix2 r n)
    ⟨n.val / 128, by omega⟩ rfl (ix2 r ⟨n.val % 128, by omega⟩) rfl ?_).trans ?_
  · intro b hb
    match b with
    | ⟨0, _⟩ => rfl
    | ⟨1, _⟩ => exact absurd rfl hb
  · refine (chunk_apply sh s _ _ (by show 128 * (n.val / 128) + 128 ≤ 2816; omega) r _).trans ?_
    have e : (⟨128 * (n.val / 128) + n.val % 128, by omega⟩ : Fin 2816) = n := Fin.ext (Nat.div_add_mod _ _)
    exact congrArg (fun k => Ideal.exp2 (s (ix2 r k) - sh (ix2 0 ⟨n.val % 128, by omega⟩))) e

/-- A lane's sum of a block's weights on real scores. -/
theorem psum_real (sh : FVec Ideal S1x128 .f32) (s : FVec Ideal S2048x2816 .f32) (r : Fin 2048) (l : Fin 128) (f : ℕ → ℝ) (x : ℝ)
    (hs : ∀ n : Fin 2816, s (ix2 r n) = ((f n.val : ℝ) : EReal)) (hsh : sh (ix2 0 l) = ((x : ℝ) : EReal)) :
    psum sh s (ix2 r l) = ((∑ j ∈ Finset.range 22, (2 : ℝ) ^ (f (128 * j + l.val) - x) : ℝ) : EReal) := by
  have c : ∀ (o : ℕ) (h : S2048x2816.Slices ![0, o] S2048x128) (ho : o + 128 ≤ 2816),
      chunk sh s o h (ix2 r l) = (((2 : ℝ) ^ (f (o + l.val) - x) : ℝ) : EReal) := fun o h ho => by
    rw [chunk_apply sh s o h ho, hs, hsh, ← EReal.coe_sub, exp2_real]
  have e : psum sh s (ix2 r l) = chunk sh s 0 slices_S2048x2816_o0_0_S2048x128 (ix2 r l) + chunk sh s 128 slices_S2048x2816_o0_128_S2048x128 (ix2 r l) + chunk sh s 256 slices_S2048x2816_o0_256_S2048x128 (ix2 r l) + chunk sh s 384 slices_S2048x2816_o0_384_S2048x128 (ix2 r l) + chunk sh s 512 slices_S2048x2816_o0_512_S2048x128 (ix2 r l) + chunk sh s 640 slices_S2048x2816_o0_640_S2048x128 (ix2 r l) + chunk sh s 768 slices_S2048x2816_o0_768_S2048x128 (ix2 r l) + chunk sh s 896 slices_S2048x2816_o0_896_S2048x128 (ix2 r l) + chunk sh s 1024 slices_S2048x2816_o0_1024_S2048x128 (ix2 r l) + chunk sh s 1152 slices_S2048x2816_o0_1152_S2048x128 (ix2 r l) + chunk sh s 1280 slices_S2048x2816_o0_1280_S2048x128 (ix2 r l) + chunk sh s 1408 slices_S2048x2816_o0_1408_S2048x128 (ix2 r l) + chunk sh s 1536 slices_S2048x2816_o0_1536_S2048x128 (ix2 r l) + chunk sh s 1664 slices_S2048x2816_o0_1664_S2048x128 (ix2 r l) + chunk sh s 1792 slices_S2048x2816_o0_1792_S2048x128 (ix2 r l) + chunk sh s 1920 slices_S2048x2816_o0_1920_S2048x128 (ix2 r l) + chunk sh s 2048 slices_S2048x2816_o0_2048_S2048x128 (ix2 r l) + chunk sh s 2176 slices_S2048x2816_o0_2176_S2048x128 (ix2 r l) + chunk sh s 2304 slices_S2048x2816_o0_2304_S2048x128 (ix2 r l) + chunk sh s 2432 slices_S2048x2816_o0_2432_S2048x128 (ix2 r l) + chunk sh s 2560 slices_S2048x2816_o0_2560_S2048x128 (ix2 r l) + chunk sh s 2688 slices_S2048x2816_o0_2688_S2048x128 (ix2 r l) := rfl
  rw [e, c 0 _ (by decide), c 128 _ (by decide), c 256 _ (by decide), c 384 _ (by decide), c 512 _ (by decide), c 640 _ (by decide), c 768 _ (by decide), c 896 _ (by decide), c 1024 _ (by decide), c 1152 _ (by decide), c 1280 _ (by decide), c 1408 _ (by decide), c 1536 _ (by decide), c 1664 _ (by decide), c 1792 _ (by decide), c 1920 _ (by decide), c 2048 _ (by decide), c 2176 _ (by decide), c 2304 _ (by decide), c 2432 _ (by decide), c 2560 _ (by decide), c 2688 _ (by decide)]
  simp only [← EReal.coe_add, Finset.sum_range_succ, Finset.sum_range_zero, zero_add, Nat.reduceMul]

theorem pv_apply (sh : FVec Ideal S1x128 .f32) (q : FVec Ideal S2048x128 .bf16) (K V : Vec Ideal S1x2816x128 .bf16) (r : Fin 2048) (e : Fin 128) :
    pv sh q K V (ix2 r e) = ∑ n : Fin 2816, probs sh (score q K) (ix2 r n) * V (ix3 0 n e) := by
  pointwise [pv]

theorem denom_apply (sh : FVec Ideal S1x128 .f32) (q : FVec Ideal S2048x128 .bf16) (X : S1x8448x128.Idx → Elt Ideal .bf16) (r : Fin 2048) :
    denom sh q X (ix2 r 0) = ∑ l : Fin 128, lsum sh q X 2 (by decide) (ix2 r l) := by
  pointwise [denom]

theorem fastA_apply (sh : FVec Ideal S1x128 .f32) (q : FVec Ideal S2048x128 .bf16) (X Y : S1x8448x128.Idx → Elt Ideal .bf16) (r : Fin 2048) (e : Fin 128) :
    fastA sh q X Y (ix2 r e) = Ideal.div (acc sh q X Y 2 (by decide) (ix2 r e)) (denom sh q X (ix2 r 0)) := by
  pointwise [fastA]

theorem exact_apply (A : Vec Ideal S2048x128 .f32) (l : Vec Ideal S2048x1 .f32) (r : Fin 2048) (e : Fin 128) :
    k0_pay17 A l (ix2 r e) = Ideal.div (A (ix2 r e)) (l (ix2 r 0)) := by
  pointwise [k0_pay17]

theorem sh_apply (x : Vec Ideal S1x128 .f32) (l : Fin 128) : k0_pay1 x (ix2 0 l) = x (ix2 0 l) := by
  pointwise [k0_pay1]

/-- The 512 queries of a trip, the heads of a row side by side. -/
def qb {F : FTy → Type} (X : S1x8192x512.Idx → Elt F .bf16) (k : Fin k0_t1_loop.trips) : Vec F S1x512x512 .bf16 :=
  View.ld X (Rect.unit (s := S1x8192x512) (k0_off1 k) S1x512x512.size (k0_off1_inb k))

theorem off1_eq : ∀ k : Fin k0_t1_loop.trips, ∀ a, k0_off1 k a = (![0, 512 * k.val, 0] : Fin 3 → ℕ) a := by decide +kernel

theorem qb_apply (X : S1x8192x512.Idx → Elt Ideal .bf16) (k : Fin k0_t1_loop.trips) (r : Fin 512) (x : Fin 512) :
    qb X k (ix3 0 r x) = X (ix3 0 ⟨512 * k.val + r.val, by have h : k.val < 16 := k.isLt; omega⟩ x) := by
  have h : k.val < 16 := k.isLt
  show X _ = X _
  congr 1
  funext a
  apply Fin.ext
  show k0_off1 k a + 1 * (ix3 (n0 := 1) (n1 := 512) (n2 := 512) 0 r x a).val = _
  rw [off1_eq k a]
  match a with
  | ⟨0, _⟩ => show 0 + 1 * 0 = 0; rfl
  | ⟨1, _⟩ => show 512 * k.val + 1 * r.val = 512 * k.val + r.val; omega
  | ⟨2, _⟩ => show 0 + 1 * x.val = x.val; omega

/-- The stacked queries: head `r / 512` of row `r % 512`. -/
theorem q_apply (X : Vec Ideal S1x512x512 .bf16) (r : Fin 2048) (d : Fin 128) :
    k0_pay21 X (ix2 r d) = X (ix3 0 ⟨r.val % 512, Nat.mod_lt _ (by decide)⟩ ⟨128 * (r.val / 512) + d.val, by omega⟩) * ((Gqa.scale * (Real.log 2)⁻¹ : ℝ) : EReal) := by
  have hκ : (Named.named (F := Ideal) κ "scale_log2e" 0x3E0293EE#32 : Ideal .f32) = (((11863283 / 134217728) * (Real.log 2)⁻¹ : ℝ) : EReal) :=
    Idealize.ShloMosaic.IdealRules.named_const.ideal_named_scalar κ "scale_log2e" _ _ rfl
  have hr := r.isLt
  have g : ∀ (a b : ℕ) (ha : a < 512) (hb : b < 512), a = r.val % 512 → b = 128 * (r.val / 512) + d.val →
      X (ix3 0 ⟨a, ha⟩ ⟨b, hb⟩) = X (ix3 0 ⟨r.val % 512, Nat.mod_lt _ (by decide)⟩ ⟨128 * (r.val / 512) + d.val, by omega⟩) := by
    intro a b ha hb h1 h2; subst h1; subst h2; rfl
  pointwise [k0_pay21]
  simp only [hκ, Gqa.scale]
  split_ifs <;> exact congrArg (· * _) (g _ _ _ _ (by omega) (by omega))

/-- A head's rows of a block of 2048. -/
theorem part_apply (O : FVec Ideal S2048x128 .f32) (g : Fin 4) (r : Fin 512) (e : Fin 128) :
    part O g (ix3 0 r e) = O (ix2 ⟨512 * g.val + r.val, by omega⟩ e) := by
  match g with
  | 0 =>
    rw [show part O 0 = k0_pay2 (truncf .bf16 (extractStridedSlice S512x128 ![0, 0] O slices_S2048x128_o0_0_S512x128) bitsLt_bf16_f32) from rfl]
    pointwise [k0_pay2]
  | 1 =>
    rw [show part O 1 = k0_pay2 (truncf .bf16 (extractStridedSlice S512x128 ![512, 0] O slices_S2048x128_o512_0_S512x128) bitsLt_bf16_f32) from rfl]
    pointwise [k0_pay2]
  | 2 =>
    rw [show part O 2 = k0_pay2 (truncf .bf16 (extractStridedSlice S512x128 ![1024, 0] O slices_S2048x128_o1024_0_S512x128) bitsLt_bf16_f32) from rfl]
    pointwise [k0_pay2]
  | 3 =>
    rw [show part O 3 = k0_pay3 O from rfl]
    pointwise [k0_pay3]

end Cert.Kernel4Ideal.Hand

end
-- ==== Proof.Gqa.Block.lean ====
/- A block of the grouped-query attention on real inputs: both paths give the softmax means. -/
module

public import proofs.«01_k».proof.Proof.Gqa.Val
public import proofs.«01_k».proof.Proof.Block

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand (St)
open Cert.Sums

open Cert.Gqa

/-- The scale of the scores, in powers of two. -/
def kap : ℝ := scale * (Real.log 2)⁻¹

section Real
variable {q : FVec Ideal S2048x128 .bf16} {X Y : S1x8448x128.Idx → Elt Ideal .bf16} {sh : FVec Ideal S1x128 .f32}
variable {Q K V : ℕ → ℕ → ℝ} {x : ℝ}
variable (hq : ∀ (r : Fin 2048) (d : Fin 128), q (ix2 r d) = ((Q r.val d.val * kap : ℝ) : EReal))
variable (hK : ∀ (n : Fin 8448) (d : Fin 128), X (ix3 0 n d) = ((K n.val d.val : ℝ) : EReal))
variable (hV : ∀ (n : Fin 8448) (d : Fin 128), Y (ix3 0 n d) = ((V n.val d.val : ℝ) : EReal))
variable (hsh : ∀ l : Fin 128, sh (ix2 0 l) = ((x : ℝ) : EReal))
include hq hK

/-- A product of scaled queries and keys is real. -/
theorem dot_real (r : Fin 2048) (n : Fin 8448) : ∑ d : Fin 128, q (ix2 r d) * X (ix3 0 n d) = ((logit Q K r.val n.val * kap : ℝ) : EReal) := by
  rw [Finset.sum_congr rfl fun d _ => show q (ix2 r d) * X (ix3 0 n d) = ((Q r.val d.val * K n.val d.val * kap : ℝ) : EReal) by
    rw [hq, hK, ← EReal.coe_mul]; congr 1; ring]
  rw [coe_sum, ← Finset.sum_mul]
  rfl

/-- The scores of a block are real. -/
theorem score_real (i : ℕ) (h : i < 3) (r : Fin 2048) (n : Fin 2816) :
    score q (kb X i h) (ix2 r n) = ((logit Q K r.val (2816 * i + n.val) * kap : ℝ) : EReal) := by
  rw [score_apply, Finset.sum_congr rfl fun d _ => congrArg (q (ix2 r d) * ·) (kb_apply X i h n d)]
  exact dot_real hq hK r ⟨2816 * i + n.val, by omega⟩

section Fast
include hsh

/-- The weights are real. -/
theorem probs_real (i : ℕ) (h : i < 3) (r : Fin 2048) (n : Fin 2816) :
    probs sh (score q (kb X i h)) (ix2 r n) = (((2 : ℝ) ^ (logit Q K r.val (2816 * i + n.val) * kap - x) : ℝ) : EReal) := by
  rw [probs_apply, score_real hq hK, hsh, ← EReal.coe_sub, exp2_real]

/-- A lane's sum of weights over the first blocks. -/
theorem lsum_real (n : ℕ) (h : n < 3) (r : Fin 2048) (l : Fin 128) :
    lsum sh q X n h (ix2 r l) = ((∑ i ∈ Finset.range (n + 1), ∑ j ∈ Finset.range 22,
      (2 : ℝ) ^ (logit Q K r.val (2816 * i + (128 * j + l.val)) * kap - x) : ℝ) : EReal) := by
  have base : ∀ (i : ℕ) (h : i < 3), psum sh (score q (kb X i h)) (ix2 r l) = ((∑ j ∈ Finset.range 22,
      (2 : ℝ) ^ (logit Q K r.val (2816 * i + (128 * j + l.val)) * kap - x) : ℝ) : EReal) := fun i h =>
    psum_real sh _ r l (fun k => logit Q K r.val (2816 * i + k) * kap) x (fun n => score_real hq hK i h r n) (hsh l)
  induction n with
  | zero => rw [lsum, shapeCast_self, base, Finset.sum_range_one]
  | succ n ih =>
    rw [lsum, shapeCast_self, Finset.sum_range_succ, EReal.coe_add, ← base, ← ih (by omega)]
    rfl

/-- A row's sum of weights. -/
theorem denom_real (r : Fin 2048) :
    denom sh q X (ix2 r 0) = ((∑ k ∈ Finset.range 8448, (2 : ℝ) ^ (logit Q K r.val k * kap - x) : ℝ) : EReal) := by
  rw [denom_apply, Finset.sum_congr rfl fun l _ => lsum_real hq hK hsh 2 (by decide) r l, coe_sum]
  congr 1
  rw [Finset.sum_comm, ← Gqa.sum_blocks 2816 (fun k => (2 : ℝ) ^ (logit Q K r.val k * kap - x)) 3]
  refine Finset.sum_congr rfl fun i _ => ?_
  rw [Finset.sum_comm, ← Gqa.sum_blocks 128 (fun k => (2 : ℝ) ^ (logit Q K r.val (2816 * i + k) * kap - x)) 22]
  exact Finset.sum_congr rfl fun j _ => (Finset.sum_range fun k => (2 : ℝ) ^ (logit Q K r.val (2816 * i + (128 * j + k)) * kap - x)).symm

include hV

/-- The weighted values of the first blocks. -/
theorem acc_real (n : ℕ) (h : n < 3) (r : Fin 2048) (e : Fin 128) :
    acc sh q X Y n h (ix2 r e) = ((∑ k ∈ Finset.range (2816 * (n + 1)), (2 : ℝ) ^ (logit Q K r.val k * kap - x) * V k e.val : ℝ) : EReal) := by
  have blk : ∀ (i : ℕ) (h : i < 3), pv sh q (kb X i h) (kb Y i h) (ix2 r e)
      = ((∑ k : Fin 2816, (2 : ℝ) ^ (logit Q K r.val (2816 * i + k.val) * kap - x) * V (2816 * i + k.val) e.val : ℝ) : EReal) := by
    intro i h
    rw [pv_apply, ← coe_sum]
    refine Finset.sum_congr rfl fun k _ => ?_
    rw [probs_real hq hK hsh, kb_apply, hV, ← EReal.coe_mul]
  induction n with
  | zero => rw [acc, shapeCast_self, blk, Gqa.sum_block 2816 _ 0]; simp
  | succ n ih =>
    rw [acc, shapeCast_self, Gqa.sum_block 2816 _ (n + 1), EReal.coe_add, ← ih (by omega), ← blk (n + 1) h]
    rfl

/-- The one-pass path's rows are the means. -/
theorem fastA_real (r : Fin 2048) (e : Fin 128) : fastA sh q X Y (ix2 r e) = ((mean (logit Q K r.val) (fun n => V n e.val) : ℝ) : EReal) := by
  rw [fastA_apply, acc_real hq hK hV hsh, denom_real hq hK hsh, div_real (Gqa.pows_ne _ _ (by decide)), ← mean_pow _ _ x]
  rfl

end Fast

/-- The running state: its sums over the first `n` blocks of 768 keys, in the units of some real shift. -/
def Good (Q K V : ℕ → ℕ → ℝ) (s : St Ideal) (n : ℕ) : Prop := ∀ r : Fin 2048, ∃ m : ℝ,
  s.m (ix2 r 0) = ((m : ℝ) : EReal)
  ∧ s.l (ix2 r 0) = ((∑ k ∈ Finset.range (768 * n), (2 : ℝ) ^ (logit Q K r.val k * kap - m) : ℝ) : EReal)
  ∧ ∀ e : Fin 128, s.acc (ix2 r e) = ((∑ k ∈ Finset.range (768 * n), (2 : ℝ) ^ (logit Q K r.val k * kap - m) * V k e.val : ℝ) : EReal)

/-- The scores of a block of 768 keys are real. -/
theorem small_real (i : ℕ) (h : i < 11) (r : Fin 2048) (n : Fin 768) :
    KernelIdeal.Hand.score q (KernelIdeal.Hand.kb X i h) (ix2 r n) = ((logit Q K r.val (768 * i + n.val) * kap : ℝ) : EReal) := by
  rw [KernelIdeal.Hand.score_apply, Finset.sum_congr rfl fun d _ => congrArg (q (ix2 r d) * ·) (KernelIdeal.Hand.kb_apply X i h n d)]
  exact dot_real hq hK r ⟨768 * i + n.val, by omega⟩

include hV

open KernelIdeal.Hand (step_m step_l step_acc init_m init_l init_acc)

/-- A trip from a real state, or from the first state, gives a real state with one more block. -/
theorem good_step (s : St Ideal) (n : ℕ) (h : n < 11) (hs : (n = 0 ∧ s = St.init) ∨ Good Q K V s n) :
    Good Q K V (s.step q (KernelIdeal.Hand.kb X n h) (KernelIdeal.Hand.kb Y n h)) (n + 1) := by
  intro r
  obtain ⟨x, hx⟩ := fold_max_real (n := 768) (by decide) (fun k => logit Q K r.val (768 * n + k.val) * kap)
  have hfold : Finset.fold max (⊥ : EReal) (fun k : Fin 768 => KernelIdeal.Hand.score q (KernelIdeal.Hand.kb X n h) (ix2 r k)) Finset.univ = (x : EReal) := by
    rw [← hx]; congr 1; funext k; exact small_real hq hK n h r k
  rcases hs with ⟨rfl, rfl⟩ | hs
  · have hm : ((St.init (F := Ideal)).step q (KernelIdeal.Hand.kb X 0 h) (KernelIdeal.Hand.kb Y 0 h)).m (ix2 r 0) = (x : EReal) := by
      rw [step_m, hfold, init_m]; exact max_eq_right bot_le
    refine ⟨x, hm, ?_, fun e => ?_⟩
    · rw [step_l, hm, init_l, mul_zero, zero_add, Gqa.sum_block 768 _ 0, Nat.mul_zero, Finset.sum_range_zero, zero_add, ← coe_sum]
      exact Finset.sum_congr rfl fun k _ => by rw [small_real hq hK, ← EReal.coe_sub, exp2_real, Nat.mul_zero]
    · rw [step_acc, hm, init_acc, mul_zero, zero_add, Gqa.sum_block 768 _ 0, Nat.mul_zero, Finset.sum_range_zero, zero_add, ← coe_sum]
      exact Finset.sum_congr rfl fun k _ => by rw [small_real hq hK, KernelIdeal.Hand.kb_apply, hV, ← EReal.coe_sub, exp2_real, ← EReal.coe_mul]
  · obtain ⟨m, h1, h2, h3⟩ := hs r
    have hm : (s.step q (KernelIdeal.Hand.kb X n h) (KernelIdeal.Hand.kb Y n h)).m (ix2 r 0) = ((max m x : ℝ) : EReal) := by
      rw [step_m, hfold, h1]; exact (EReal.coe_strictMono.monotone.map_max).symm
    have shift : ∀ a : ℝ, (2 : ℝ) ^ (m - max m x) * (2 : ℝ) ^ (a - m) = (2 : ℝ) ^ (a - max m x) := fun a => by
      rw [← Real.rpow_add (by norm_num)]; congr 1; ring
    refine ⟨max m x, hm, ?_, fun e => ?_⟩
    · rw [step_l, hm, h1, h2, ← EReal.coe_sub, exp2_real, ← EReal.coe_mul, Gqa.sum_block 768, EReal.coe_add, Finset.mul_sum,
        Finset.sum_congr rfl fun k _ => shift _]
      congr 1
      rw [← coe_sum]
      exact Finset.sum_congr rfl fun k _ => by rw [small_real hq hK, ← EReal.coe_sub, exp2_real]
    · rw [step_acc, hm, h1, h3, ← EReal.coe_sub, exp2_real, ← EReal.coe_mul, Gqa.sum_block 768, EReal.coe_add, Finset.mul_sum,
        Finset.sum_congr rfl fun k _ => show _ = (2 : ℝ) ^ (logit Q K r.val k * kap - max m x) * V k e.val by rw [← mul_assoc, shift]]
      congr 1
      rw [← coe_sum]
      exact Finset.sum_congr rfl fun k _ => by rw [small_real hq hK, KernelIdeal.Hand.kb_apply, hV, ← EReal.coe_sub, exp2_real, ← EReal.coe_mul]

/-- The state after the first blocks. -/
theorem good_at (n : ℕ) (h : n < 11) : Good Q K V (St.at q X Y (n + 1)) (n + 1) := by
  have kvk : ∀ (Z : S1x8448x128.Idx → Elt Ideal .bf16), KernelIdeal.Hand.kvBlock Z ⟨n, by exact h⟩ = KernelIdeal.Hand.kb Z n h := fun Z => by
    unfold KernelIdeal.Hand.kvBlock KernelIdeal.Hand.kb
    congr 1
    have off : ∀ (n : Fin KernelIdeal.k0_t1_loop.trips) (a : Fin 3), KernelIdeal.k0_off3 n a = (![0, 768 * n.val, 0] : Fin 3 → ℕ) a := by decide +kernel
    congr 1
    exact funext (off ⟨n, h⟩)
  have step : St.at q X Y (n + 1) = (St.at q X Y n).step q (KernelIdeal.Hand.kb X n h) (KernelIdeal.Hand.kb Y n h) := by
    rw [KernelIdeal.Hand.St.at_succ _ _ _ ⟨n, by exact h⟩, kvk, kvk]
  rw [step]
  apply good_step hq hK hV
  cases n with
  | zero => exact .inl ⟨rfl, rfl⟩
  | succ n => exact .inr (good_at n (by omega))

/-- The online path's rows are the means. -/
theorem exactA_real (r : Fin 2048) (e : Fin 128) : k0_pay17 (St.at q X Y k0_t2_loop.trips).acc (St.at q X Y k0_t2_loop.trips).l (ix2 r e)
    = ((mean (logit Q K r.val) (fun n => V n e.val) : ℝ) : EReal) := by
  have g : Good Q K V (St.at q X Y k0_t2_loop.trips) 11 := good_at hq hK hV 10 (by decide)
  obtain ⟨m, -, l, a⟩ := g r
  rw [exact_apply, l, a, div_real (Gqa.pows_ne _ _ (by decide)), ← mean_pow _ _ m]
  rfl

end Real

end Cert.Kernel4Ideal.Hand

end
-- ==== Proof.Gqa.Out.lean ====
module

public import proofs.«01_k».proof.Proof.Gen.Kernel4Ideal.Frame
public import proofs.«01_k».proof.Proof.Gqa.Val

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand (St)

/-! # The block a grid point writes, as a function of the blocks it reads -/

section
variable {F : FTy → Type} [FloatOps F] [Named F]

/-- The exact path's rows of one trip. -/
def exactA (q : FVec F S2048x128 .bf16) (X Y : S1x8448x128.Idx → Elt F .bf16) : FVec F S2048x128 .f32 :=
  k0_pay17 (St.at q X Y k0_t2_loop.trips).acc (St.at q X Y k0_t2_loop.trips).l

/-- A trip's queries are the scaled block of the staged queries. -/
theorem q_eq (arg2 : Memref sig .tc .vmem S1x8192x512 .bf16) (f2 : BufTy.Contents (Elt F) arg2.view.ty) (k : Fin k0_t1_loop.trips) :
    blockRun.sl.r arg2 f2 k = k0_pay21 (qb (arg2.view.read (Elt F) f2) k) := rfl

variable (m : (ℓ : Loc nD τ sig) → Buf (Elt F) ℓ)

/-- A grid point writes sixteen blocks, each of them one of the two. -/
theorem outAt_eq (c : Dev nD) (t : Fin cfg0.N) : ∃ B : Fin k0_t1_loop.trips → FVec F S2048x128 .f32, outAt m c t = whole B
    ∧ ∀ k, B k = exactA (k0_pay21 (qb (iblk m c 0 t) k)) (iblk m c 1 t) (iblk m c 2 t)
      ∨ B k = fastA (k0_pay1 (iblk m c 3 t)) (k0_pay21 (qb (iblk m c 0 t) k)) (iblk m c 1 t) (iblk m c 2 t) := by
  refine ⟨_, rfl, fun k => ?_⟩
  unfold blockOut
  split
  · left
    show k0_pay17 _ _ = _
    unfold exactA
    simp only [q_eq, Memref.IsWhole.read_unread]
  · right
    refine (fast_eq _ _ _ _ _ _ _ _ _ _).trans ?_
    rw [readAt_whole (win0_3.stage (cfg0.slots t 3)).view KernelIdeal.Hand.off2_zero inb_S1x128_S1x128_0_0]
    simp only [q_eq, Memref.IsWhole.read_unread]

end

end Cert.Kernel4Ideal.Hand

end
-- ==== Proof.Gqa.Windows.lean ====
/- What the windows of the grouped-query attention hold at each point of the grid, in the arguments of the program. -/
module

public import proofs.«01_k».proof.Proof.Gqa.Block
public import proofs.«01_k».proof.Proof.Gqa.Out
public import proofs.«01_k».proof.Proof.Block
public import Idealize.ShloMosaic.Lib.Pipeline.ValueKit
public import Idealize.ShloMosaic.Lib.StableHlo.ReadAt

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Sums Cert.Spec

variable (m : (ℓ : Loc nD τ sig) → Buf (Elt Ideal) ℓ)

/-- The queries' buffer. -/
theorem V_q (c : Dev nD) (b : Fin 8) (t : Fin 8192) (x : Fin 1024) :
    V m c main_v13 (ix3 b t x) = m ((c : Thread nD τ).loc main_arg0) (ix3 b t x) := by
  unfold V; after_reads_at

/-- The keys' buffer: the latent rows, then the context's. -/
theorem V_k (c : Dev nD) (b : Fin 8) (t : Fin 8448) (x : Fin 256) :
    V m c main_v15 (ix3 b t x) = if h : t.val < 8192 then m ((c : Thread nD τ).loc main_arg1) (ix3 b ⟨t.val, h⟩ x)
      else m ((c : Thread nD τ).loc main_arg3) (ix3 b ⟨t.val - 8192, by omega⟩ x) := by
  unfold V; after_reads_at
  after_reads_simp

/-- The values' buffer: the latent rows, then the context's. -/
theorem V_v (c : Dev nD) (b : Fin 8) (t : Fin 8448) (x : Fin 256) :
    V m c main_v17 (ix3 b t x) = if h : t.val < 8192 then m ((c : Thread nD τ).loc main_arg2) (ix3 b ⟨t.val, h⟩ x)
      else m ((c : Thread nD τ).loc main_arg4) (ix3 b ⟨t.val - 8192, by omega⟩ x) := by
  unfold V; after_reads_at
  after_reads_simp

/-- The shift is one real number on every lane. -/
theorem V_shift (c : Dev nD) (h5 : Real' (ι := S128.Idx) (m ((c : Thread nD τ).loc main_arg5))) (h6 : Real' (ι := S128.Idx) (m ((c : Thread nD τ).loc main_arg6))) :
    ∃ sh : ℝ, ∀ l : Fin 128, V m c main_v12 (ix2 0 l) = (sh : EReal) := by
  obtain ⟨a5, ha5⟩ : ∃ a : S128.Idx → EReal, a = m ((c : Thread nD τ).loc main_arg5) := ⟨_, rfl⟩
  obtain ⟨a6, ha6⟩ : ∃ a : S128.Idx → EReal, a = m ((c : Thread nD τ).loc main_arg6) := ⟨_, rfl⟩
  rw [← ha5] at h5
  rw [← ha6] at h6
  choose f5 e5 using h5
  choose f6 e6 using h6
  obtain ⟨k1, hk1⟩ : ∃ r : ℝ, Ideal.ofBits FTy.f32 1124073472#32 = (r : EReal) := ⟨_, by simp only [Ideal.ofBits, Ideal.ieee]; rfl⟩
  obtain ⟨k2, hk2⟩ : ∃ r : ℝ, Ideal.ofBits FTy.f32 1040356334#32 = (r : EReal) := ⟨_, by simp only [Ideal.ofBits, Ideal.ieee]; rfl⟩
  have ab : ∀ r : ℝ, FloatOps.absf (F := Ideal) (φ := .f32) ((r : ℝ) : EReal) = ((max r (-r) : ℝ) : EReal) := fun r => by
    rw [Ideal.absf_def, ← EReal.coe_neg]; exact (EReal.coe_strictMono.monotone.map_max).symm
  obtain ⟨x, hx⟩ := fold_max_univ (fun x : Fin 1 × Fin 128 => max (f5 (ix1 x.2) * k2) (-(f5 (ix1 x.2) * k2)))
  obtain ⟨y, hy⟩ := fold_max_univ (fun x : Fin 1 × Fin 128 => max (f6 (ix1 x.2)) (-(f6 (ix1 x.2))))
  refine ⟨k1 * x * y, fun l => ?_⟩
  have key : V m c main_v12 (ix2 0 l) = Ideal.ofBits FTy.f32 1124073472#32
      * Finset.fold max (⊥ : EReal) (fun x : Fin 1 × Fin 128 => FloatOps.absf (F := Ideal) (φ := .f32) (a5 (ix1 x.2) * Ideal.ofBits FTy.f32 1040356334#32)) Finset.univ
      * Finset.fold max (⊥ : EReal) (fun x : Fin 1 × Fin 128 => FloatOps.absf (F := Ideal) (φ := .f32) (a6 (ix1 x.2))) Finset.univ := by
    rw [← ofBits_neg_inf, ha5, ha6]
    unfold V; after_reads_at
  rw [key, EReal.coe_mul, EReal.coe_mul, ← hx, ← hy, ← hk1]
  simp only [e5, e6, hk2, ← EReal.coe_mul, ab]

/-- The block of the queries at a point: batch, all rows, head of the keys. -/
theorem index_0 : ∀ t : Fin cfg0.N, win0_0.index t (0 : Fin 3) = t.val / 2 ∧ win0_0.index t (1 : Fin 3) = 0 ∧ win0_0.index t (2 : Fin 3) = t.val % 2 := by
  decide +kernel

/-- An array read through that block. -/
theorem read_0 (t : Fin cfg0.N) (G : S8x8192x1024.Idx → Elt Ideal .bf16) (n : Fin 8192) (d : Fin 512) :
    (win0_0.blk t).view.read (Elt Ideal) G (ix3 0 n d) = G (ix3 ⟨t.val / 2, by have h : t.val < 16 := t.isLt; omega⟩ n ⟨512 * (t.val % 2) + d.val, by omega⟩) := by
  blk_point [index_0 t]

/-- The block of the result at a point: batch, all rows, head of the keys. -/
theorem index_6 : ∀ t : Fin cfg0.N, win0_6.index t (0 : Fin 3) = t.val / 2 ∧ win0_6.index t (1 : Fin 3) = 0 ∧ win0_6.index t (2 : Fin 3) = t.val % 2 := by
  decide +kernel

/-- An array read through that block. -/
theorem read_6 (t : Fin cfg0.N) (G : S8x8192x1024.Idx → Elt Ideal .bf16) (n : Fin 8192) (d : Fin 512) :
    (win0_6.blk t).view.read (Elt Ideal) G (ix3 0 n d) = G (ix3 ⟨t.val / 2, by have h : t.val < 16 := t.isLt; omega⟩ n ⟨512 * (t.val % 2) + d.val, by omega⟩) := by
  blk_point [index_6 t]

/-- The block of the keys at a point: batch, all rows, head of the keys. -/
theorem index_1 : ∀ t : Fin cfg0.N, win0_1.index t (0 : Fin 3) = t.val / 2 ∧ win0_1.index t (1 : Fin 3) = 0 ∧ win0_1.index t (2 : Fin 3) = t.val % 2 := by
  decide +kernel

/-- An array read through that block. -/
theorem read_1 (t : Fin cfg0.N) (G : S8x8448x256.Idx → Elt Ideal .bf16) (n : Fin 8448) (d : Fin 128) :
    (win0_1.blk t).view.read (Elt Ideal) G (ix3 0 n d) = G (ix3 ⟨t.val / 2, by have h : t.val < 16 := t.isLt; omega⟩ n ⟨128 * (t.val % 2) + d.val, by omega⟩) := by
  blk_point [index_1 t]

/-- The block of the values at a point: batch, all rows, head of the keys. -/
theorem index_2 : ∀ t : Fin cfg0.N, win0_2.index t (0 : Fin 3) = t.val / 2 ∧ win0_2.index t (1 : Fin 3) = 0 ∧ win0_2.index t (2 : Fin 3) = t.val % 2 := by
  decide +kernel

/-- An array read through that block. -/
theorem read_2 (t : Fin cfg0.N) (G : S8x8448x256.Idx → Elt Ideal .bf16) (n : Fin 8448) (d : Fin 128) :
    (win0_2.blk t).view.read (Elt Ideal) G (ix3 0 n d) = G (ix3 ⟨t.val / 2, by have h : t.val < 16 := t.isLt; omega⟩ n ⟨128 * (t.val % 2) + d.val, by omega⟩) := by
  blk_point [index_2 t]

/-- The shift's window is its whole array at every point. -/
theorem index_3 : ∀ t : Fin cfg0.N, win0_3.index t (0 : Fin 2) = 0 ∧ win0_3.index t (1 : Fin 2) = 0 := by
  decide +kernel

/-- An array read through it. -/
theorem read_3 (t : Fin cfg0.N) (G : S1x128.Idx → Elt Ideal .f32) (r : Fin 1) (d : Fin 128) :
    (win0_3.blk t).view.read (Elt Ideal) G (ix2 r d) = G (ix2 r d) := by
  blk_point [index_3 t]

end Cert.Kernel4Ideal.Hand

end
-- ==== Proof.Gqa.Finite.lean ====
/- What the precondition says: every entry of the seven arrays is a real number. -/
module

public import proofs.«01_k».proof.Pre_finite4
public import proofs.«01_k».proof.Proof.Finite

@[expose] public section

noncomputable section

namespace Cert.Gqa

open Idealize.ShloMosaic Cert.Spec Cert.Pre_finite4 Cert.Finite

/-- What the precondition gives. -/
structure Args (a0 : S8x8192x1024.Idx → EReal) (a1 a2 : S8x8192x256.Idx → EReal) (a3 a4 : S8x256x256.Idx → EReal) (a5 a6 : S128.Idx → EReal) : Prop where
  h0 : Real' a0
  h1 : Real' a1
  h2 : Real' a2
  h3 : Real' a3
  h4 : Real' a4
  h5 : Real' a5
  h6 : Real' a6

/-- The precondition at its one index: the seven arrays hold real numbers. -/
theorem args_of_fn [Cert.Pre_finite4.Facts] (a0 : FVec Ideal S8x8192x1024 .f32) (a1 a2 : FVec Ideal S8x8192x256 .f32) (a3 a4 : FVec Ideal S8x256x256 .f32) (a5 a6 : FVec Ideal S128 .f32)
    (i : S_.Idx) (h : fn (F := Ideal) a0 a1 a2 a3 a4 a5 a6 i = 1#1) : Args a0 a1 a2 a3 a4 a5 a6 := by
  unfold fn fn_part1 at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_reduce _ _ _ _ _ h0, real_of_reduce _ _ _ _ _ h1, real_of_reduce _ _ _ _ _ h2, real_of_reduce _ _ _ _ _ h3,
    real_of_reduce _ _ _ _ _ h4, real_of_reduce _ _ _ _ _ h5, real_of_reduce _ _ _ _ _ h6⟩

end Cert.Gqa

end
-- ==== Proof.Gqa.Array.lean ====
/- The array the kernel leaves: the grouped-query attention of its arguments. -/
module

public import proofs.«01_k».proof.Proof.Gqa.Block
public import proofs.«01_k».proof.Proof.Gqa.Windows
public import proofs.«01_k».proof.Proof.Gqa.Out
public import proofs.«01_k».proof.Proof.Gqa.Finite
public import Idealize.ShloMosaic.Lib.Pipeline.ValueKit
public import Idealize.ShloMosaic.Lib.StableHlo.ReadAt

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Sums Cert.Finite
open Cert.Spec (Real' at3 at3_eq)
open Cert.Gqa (mean logit rows attnOf scale)

variable (m : (ℓ : Loc nD τ sig) → Buf (Elt Ideal) ℓ) (ρ : Dev nD → PrngReg)

/-- The array a core's launch is to leave. -/
def res (c : Dev nD) : S8x8192x1024.Idx → Elt Ideal .bf16 :=
  Gqa.out (m ((c : Thread nD τ).loc main_arg0)) (m ((c : Thread nD τ).loc main_arg1)) (m ((c : Thread nD τ).loc main_arg2)) (m ((c : Thread nD τ).loc main_arg3)) (m ((c : Thread nD τ).loc main_arg4))

/-- The argument arrays of a core hold real numbers. -/
def Fin' (c : Dev nD) : Prop := Gqa.Args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

variable (c : Dev nD) (hf : Fin' m c) (t : Fin cfg0.N)
include hf

/-- The scaled queries of a trip. -/
theorem q_at (k : Fin k0_t1_loop.trips) (r : Fin 2048) (d : Fin 128) :
    k0_pay21 (qb (iblk m c 0 t) k) (ix2 r d)
      = ((at3 (m ((c : Thread nD τ).loc main_arg0)) (t.val / 2) (512 * k.val + r.val % 512) (512 * (t.val % 2) + (128 * (r.val / 512) + d.val)) * kap : ℝ) : EReal) := by
  rw [q_apply, qb_apply]
  refine Eq.trans (congrArg (· * ((kap : ℝ) : EReal)) ?_) (EReal.coe_mul _ _).symm
  refine ((read_0 t _ _ _).trans (V_q m c _ _ _)).trans ?_
  exact at3_eq hf.h0 _ _ _ _ _ _

omit hf in
/-- Rows of the two arrays stacked. -/
theorem stack_at {X : S8x8192x256.Idx → EReal} {Y : S8x256x256.Idx → EReal} (hX : Real' X) (hY : Real' Y) (b : Fin 8) (n : Fin 8448) (x : Fin 256) :
    (if h : n.val < 8192 then X (ix3 b ⟨n.val, h⟩ x) else Y (ix3 b ⟨n.val - 8192, by omega⟩ x)) = ((rows X Y b.val n.val x.val : ℝ) : EReal) := by
  unfold rows
  split
  · exact at3_eq hX _ _ _ _ _ _
  · exact at3_eq hY _ _ _ _ _ _

/-- The keys of a point. -/
theorem k_at (n : Fin 8448) (d : Fin 128) :
    iblk m c 1 t (ix3 0 n d) = ((rows (m ((c : Thread nD τ).loc main_arg1)) (m ((c : Thread nD τ).loc main_arg3)) (t.val / 2) n.val (128 * (t.val % 2) + d.val) : ℝ) : EReal) := by
  refine ((read_1 t _ n d).trans (V_k m c _ _ _)).trans ?_
  exact stack_at hf.h1 hf.h3 _ _ _

/-- The values of a point. -/
theorem v_at (n : Fin 8448) (d : Fin 128) :
    iblk m c 2 t (ix3 0 n d) = ((rows (m ((c : Thread nD τ).loc main_arg2)) (m ((c : Thread nD τ).loc main_arg4)) (t.val / 2) n.val (128 * (t.val % 2) + d.val) : ℝ) : EReal) := by
  refine ((read_2 t _ n d).trans (V_v m c _ _ _)).trans ?_
  exact stack_at hf.h2 hf.h4 _ _ _

/-- The shift of a point. -/
theorem sh_at : ∃ sh : ℝ, ∀ l : Fin 128, k0_pay1 (iblk m c 3 t) (ix2 0 l) = (sh : EReal) := by
  obtain ⟨sh, h⟩ := V_shift m c hf.h5 hf.h6
  exact ⟨sh, fun l => (sh_apply _ l).trans ((read_3 t _ 0 l).trans (h l))⟩

omit hf in
/-- The mean of a trip's row is the attention of its token and head. -/
theorem mean_eq (a0 : S8x8192x1024.Idx → EReal) (a1 a2 : S8x8192x256.Idx → EReal) (a3 a4 : S8x256x256.Idx → EReal) (b j R x : ℕ) (hx : x < 512) :
    mean (logit (fun r d => at3 a0 b (512 * (R / 512) + r % 512) (512 * j + (128 * (r / 512) + d))) (fun n d => rows a1 a3 b n (128 * j + d))
        (512 * (x / 128) + R % 512)) (fun n => rows a2 a4 b n (128 * j + x % 128))
      = attnOf a0 a1 a2 a3 a4 b ((512 * j + x) / 128) R ((512 * j + x) % 128) := by
  have h1 : 512 * (R / 512) + (512 * (x / 128) + R % 512) % 512 = R := by omega
  have h2 : ∀ d, 512 * j + (128 * ((512 * (x / 128) + R % 512) / 512) + d) = 128 * ((512 * j + x) / 128) + d := fun d => by omega
  have h3 : (512 * j + x) / 128 / 4 = j := by omega
  have h4 : (512 * j + x) % 128 = x % 128 := by omega
  unfold attnOf logit
  simp only [h1, h2, h3, h4]

/-- An element of the block a point leaves. -/
theorem block_at (r : Fin 8192) (x : Fin 512) :
    outAt m c t (ix3 0 r x) = res m c (ix3 ⟨t.val / 2, by have h : t.val < 16 := t.isLt; omega⟩ r ⟨512 * (t.val % 2) + x.val, by omega⟩) := by
  obtain ⟨sh, hsh⟩ := sh_at m c hf t
  obtain ⟨B, hB, h⟩ := outAt_eq m c t
  have key : ∀ (k : Fin k0_t1_loop.trips) (i : Fin 2048) (e : Fin 128), B k (ix2 i e)
      = ((mean (logit (fun r d => at3 (m ((c : Thread nD τ).loc main_arg0)) (t.val / 2) (512 * k.val + r % 512) (512 * (t.val % 2) + (128 * (r / 512) + d)))
          (fun n d => rows (m ((c : Thread nD τ).loc main_arg1)) (m ((c : Thread nD τ).loc main_arg3)) (t.val / 2) n (128 * (t.val % 2) + d)) i.val)
          (fun n => rows (m ((c : Thread nD τ).loc main_arg2)) (m ((c : Thread nD τ).loc main_arg4)) (t.val / 2) n (128 * (t.val % 2) + e.val)) : ℝ) : EReal) := by
    intro k i e
    rcases h k with h | h
    · rw [h]
      exact exactA_real (Q := fun r d => at3 (m ((c : Thread nD τ).loc main_arg0)) (t.val / 2) (512 * k.val + r % 512) (512 * (t.val % 2) + (128 * (r / 512) + d)))
        (K := fun n d => rows (m ((c : Thread nD τ).loc main_arg1)) (m ((c : Thread nD τ).loc main_arg3)) (t.val / 2) n (128 * (t.val % 2) + d))
        (V := fun n d => rows (m ((c : Thread nD τ).loc main_arg2)) (m ((c : Thread nD τ).loc main_arg4)) (t.val / 2) n (128 * (t.val % 2) + d)) (q_at m c hf t k) (k_at m c hf t) (v_at m c hf t) i e
    · rw [h]
      exact fastA_real (Q := fun r d => at3 (m ((c : Thread nD τ).loc main_arg0)) (t.val / 2) (512 * k.val + r % 512) (512 * (t.val % 2) + (128 * (r / 512) + d)))
        (K := fun n d => rows (m ((c : Thread nD τ).loc main_arg1)) (m ((c : Thread nD τ).loc main_arg3)) (t.val / 2) n (128 * (t.val % 2) + d))
        (V := fun n d => rows (m ((c : Thread nD τ).loc main_arg2)) (m ((c : Thread nD τ).loc main_arg4)) (t.val / 2) n (128 * (t.val % 2) + d)) (q_at m c hf t k) (k_at m c hf t) (v_at m c hf t) hsh i e
  rw [hB]
  unfold whole
  rw [part_apply, key]
  exact congrArg (fun z : ℝ => (z : EReal)) (mean_eq (m ((c : Thread nD τ).loc main_arg0)) (m ((c : Thread nD τ).loc main_arg1)) (m ((c : Thread nD τ).loc main_arg2)) (m ((c : Thread nD τ).loc main_arg3)) (m ((c : Thread nD τ).loc main_arg4)) (t.val / 2) (t.val % 2) r.val x.val x.isLt)

/-- What a point writes back is its block of the array. -/
theorem flushed_eq : (dats m 0 c).flushed 6 t = (win0_6.blk t).view.read (Elt Ideal) (res m c) := by
  show (cfg0.win 6).cut (grid0.coords t) ((dats m 0 c).after 6 t) = _
  rw [after_6]
  funext y
  have e : y = ix3 (n0 := 1) (n1 := 8192) (n2 := 512) 0 (y 1) (y 2) := by
    funext a
    match a with
    | ⟨0, _⟩ => exact Subsingleton.elim (α := Fin 1) _ _
    | ⟨1, _⟩ => rfl
    | ⟨2, _⟩ => rfl
  rw [e]
  exact (block_at m c hf t (y 1) (y 2)).trans (read_6 t (res m c) (y 1) (y 2)).symm

omit hf in
/-- The blocks written back cover the array. -/
theorem cover (i : S8x8192x1024.Idx) : ∃ t : Fin cfg0.N, (cfg0.win 6).flush t = true ∧ i ∈ ((cfg0.win 6).blk t).view.set := by
  have h0 : (i 0 : Nat) < 8 := (i 0).isLt
  have h1 : (i 1 : Nat) < 8192 := (i 1).isLt
  have h2 : (i 2 : Nat) < 1024 := (i 2).isLt
  have hN : cfg0.N = 16 := N_0
  let t : Fin cfg0.N := ⟨2 * (i 0).val + (i 2).val / 512, by rw [hN]; omega⟩
  have tv : t.val = 2 * (i 0).val + (i 2).val / 512 := rfl
  refine ⟨t, flush0_6 _, ?_⟩
  show i ∈ ((View.whole main_v20).slice (win0_6.rect t)).set
  rw [View.set_slice_whole, Rect.mem_set_unit]
  obtain ⟨i0, i1, i2⟩ := index_6 t
  intro a
  match a with
  | ⟨0, _⟩ =>
    show win0_6.index t 0 * 1 ≤ (i 0 : Nat) ∧ (i 0 : Nat) < win0_6.index t 0 * 1 + 1
    rw [i0, tv]; omega
  | ⟨1, _⟩ =>
    show win0_6.index t 1 * 8192 ≤ (i 1 : Nat) ∧ (i 1 : Nat) < win0_6.index t 1 * 8192 + 8192
    rw [i1]; omega
  | ⟨2, _⟩ =>
    show win0_6.index t 2 * 512 ≤ (i 2 : Nat) ∧ (i 2 : Nat) < win0_6.index t 2 * 512 + 512
    rw [i2, tv]; omega

/-- The array after the launch. -/
theorem final : (dats m 0 c).arrAt 6 cfg0.N = res m c :=
  (dats m 0 c).arrAt_eq_of_cover 6 (res m c) (fun t _ => flushed_eq m c hf t) cover

omit hf in
/-- The run: the result array at the attention of the arguments, the arguments unchanged. -/
theorem run (hf : ∀ c, Fin' m c) : θ_run defs (onTc (τ := τ) (main (F := Ideal))) ⟨m, fun _ => 0, ρ⟩ fun r => ∀ c : Dev nD,
      r.2.mem ((c.tc : Thread nD τ).loc main_v20) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h' c => by
    have h := h'.1
    exact ⟨((h c).1 6).trans (final m c (hf c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.Kernel4Ideal.Hand

end
-- ==== Proof.Gqa.Ref.lean ====
/- The grouped-query reference's result, cut into its stages, and each stage read at an index over the extended reals. -/
module

public import proofs.«01_k».proof.Proof.Gen.Reference4Ideal.Run
public import proofs.«01_k».proof.Proof.Sums
public import Idealize.ShloMosaic.Lib.Pointwise
public import Idealize.ShloMosaic.Lib.Tactic.CleanTypes

@[expose] public section

set_option maxRecDepth 16384

noncomputable section

namespace Cert.Reference4Ideal.Hand

open Cert.Reference4Ideal Cert.Reference4Ideal.Gen Cert.Reference4Ideal.Value
open Idealize.ShloMosaic Idealize.ShloMosaic.TcCoe Idealize.ShloMosaic.Tactic

/-- The queries by batch, key head, group, token and channel. -/
def qH (a0 : Vec Ideal S8x8192x1024 .f32) : Vec Ideal S8x2x4x8192x128 .f32 :=
  shapeCast _ (transpose S8x8x8192x128 [0, 2, 1, 3] (shapeCast S8x8192x8x128 a0 shapeCasts_S8x8192x1024_S8x8192x8x128)
    transposes_S8x8192x8x128_S8x8x8192x128_0_2_1_3) shapeCasts_S8x8x8192x128_S8x2x4x8192x128

/-- The keys (or values) by batch, head, token and channel, the context's tokens first. -/
def kH (a1 : Vec Ideal S8x8192x256 .f32) (a3 : Vec Ideal S8x256x256 .f32) : Vec Ideal S8x2x8448x128 .f32 :=
  concatenate S8x2x8448x128 2 [⟨S8x2x256x128, (transpose S8x2x256x128 [0, 2, 1, 3] (shapeCast S8x256x2x128 a3 shapeCasts_S8x256x256_S8x256x2x128) transposes_S8x256x2x128_S8x2x256x128_0_2_1_3)⟩,
    ⟨S8x2x8192x128, (transpose S8x2x8192x128 [0, 2, 1, 3] (shapeCast S8x8192x2x128 a1 shapeCasts_S8x8192x256_S8x8192x2x128) transposes_S8x8192x2x128_S8x2x8192x128_0_2_1_3)⟩]
    concatenates_S8x2x256x128_S8x2x8192x128_S8x2x8448x128_d2

/-- The scaled scores. -/
def sH (q : FVec Ideal S8x2x4x8192x128 .f32) (k : FVec Ideal S8x2x8448x128 .f32) : FVec Ideal S8x2x4x8192x8448 .f32 :=
  mulf (Host.dotGeneral dot_S8x2x4x8192x128_S8x2x8448x128_S8x2x4x8192x8448_4_3_23_2_01_01 none q k)
    (broadcastInDim S8x2x4x8192x8448 ![] bcast_S_S8x2x4x8192x8448 (constant S_ .f32 0x3DB504F3#32))

/-- The row maxima. -/
def mH (s : FVec Ideal S8x2x4x8192x8448 .f32) : FVec Ideal S8x2x4x8192 .f32 :=
  maximumf (broadcastInDim S8x2x4x8192 ![] bcast_S_S8x2x4x8192 (constant S_ .f32 0xFF800000#32))
    (Host.reduce FloatOps.maximumf s (constant S_ .f32 0xFF800000#32) reducesTo_S8x2x4x8192x8448_S8x2x4x8192_d4 h_S_)

/-- The exponentials, shifted by the row maxima. -/
def eH (s : FVec Ideal S8x2x4x8192x8448 .f32) (x : FVec Ideal S8x2x4x8192 .f32) : FVec Ideal S8x2x4x8192x8448 .f32 :=
  Host.exp (subf s (broadcastInDim S8x2x4x8192x8448 ![0, 1, 2, 3, 4] bcast_S8x2x4x8192x1_S8x2x4x8192x8448_0_1_2_3_4
    (broadcastInDim S8x2x4x8192x1 ![0, 1, 2, 3] bcast_S8x2x4x8192_S8x2x4x8192x1_0_1_2_3 x)))

/-- The softmax weights. -/
def pH (e : FVec Ideal S8x2x4x8192x8448 .f32) : FVec Ideal S8x2x4x8192x8448 .f32 :=
  Host.divf e (broadcastInDim S8x2x4x8192x8448 ![0, 1, 2, 3, 4] bcast_S8x2x4x8192x1_S8x2x4x8192x8448_0_1_2_3_4
    (broadcastInDim S8x2x4x8192x1 ![0, 1, 2, 3] bcast_S8x2x4x8192_S8x2x4x8192x1_0_1_2_3
      (Host.reduceAdd e (constant S_ .f32 0x00000000#32) reducesTo_S8x2x4x8192x8448_S8x2x4x8192_d4 h_S_)))

/-- The weighted values. -/
def oH (p : FVec Ideal S8x2x4x8192x8448 .f32) (v : FVec Ideal S8x2x8448x128 .f32) : FVec Ideal S8x2x4x8192x128 .f32 :=
  Host.dotGeneral dot_S8x2x4x8192x8448_S8x2x8448x128_S8x2x4x8192x128_4_2_23_3_01_01 none p v

/-- The heads side by side. -/
def fH (o : FVec Ideal S8x2x4x8192x128 .f32) : FVec Ideal S8x8192x1024 .bf16 :=
  truncf .bf16 (shapeCast S8x8192x1024 (transpose S8x8192x8x128 [0, 2, 1, 3] (shapeCast S8x8x8192x128 o shapeCasts_S8x2x4x8192x128_S8x8x8192x128)
    transposes_S8x8x8192x128_S8x8192x8x128_0_2_1_3) shapeCasts_S8x8192x8x128_S8x8192x1024) bitsLt_bf16_f32

/-- The attention by batch, key head, group, token and channel. -/
def attnH (a0 : Vec Ideal S8x8192x1024 .f32) (a1 a2 : Vec Ideal S8x8192x256 .f32) (a3 a4 : Vec Ideal S8x256x256 .f32) : FVec Ideal S8x2x4x8192x128 .f32 :=
  oH (pH (eH (sH (qH a0) (kH a1 a3)) (mH (sH (qH a0) (kH a1 a3))))) (kH a2 a4)

variable (m : (ℓ : Loc nD τ sig) → Buf (Elt Ideal) ℓ)

/-- The reference's result, by its stages. -/
theorem res_eq (c : Dev nD) : res_main_v31 m c = fH (attnH (m ((c : Thread nD τ).loc main_arg0)) (m ((c : Thread nD τ).loc main_arg1))
    (m ((c : Thread nD τ).loc main_arg2)) (m ((c : Thread nD τ).loc main_arg3)) (m ((c : Thread nD τ).loc main_arg4))) := by
  unfold res_main_v31 fH attnH oH pH eH mH sH kH qH
  rfl

theorem qH_apply (a0 : Vec Ideal S8x8192x1024 .f32) (b : Fin 8) (h : Fin 2) (g : Fin 4) (t : Fin 8192) (d : Fin 128) :
    qH a0 (ix5 b h g t d) = a0 (ix3 b t ⟨128 * (4 * h.val + g.val) + d.val, by omega⟩) := by
  pointwise [qH]
  have e : (h.val * 4 + g.val) * 128 + d.val = 128 * (4 * h.val + g.val) + d.val := by omega
  simp only [e]

theorem kH_apply (a1 : Vec Ideal S8x8192x256 .f32) (a3 : Vec Ideal S8x256x256 .f32) (b : Fin 8) (h : Fin 2) (n : Fin 8448) (d : Fin 128) :
    kH a1 a3 (ix4 b h n d) = if hn : n.val < 256 then a3 (ix3 b ⟨n.val, hn⟩ ⟨128 * h.val + d.val, by omega⟩)
      else a1 (ix3 b ⟨n.val - 256, by omega⟩ ⟨128 * h.val + d.val, by omega⟩) := by
  pointwise [kH]
  have e : h.val * 128 + d.val = 128 * h.val + d.val := by omega
  simp only [e]

theorem sH_apply (q : FVec Ideal S8x2x4x8192x128 .f32) (k : FVec Ideal S8x2x8448x128 .f32) (b : Fin 8) (h : Fin 2) (g : Fin 4) (t : Fin 8192) (n : Fin 8448) :
    sH q k (ix5 b h g t n) = (∑ d : Fin 128, q (ix5 b h g t d) * k (ix4 b h n d)) * Ideal.ofBits .f32 0x3DB504F3#32 := by
  pointwise [sH]

/-- A maximum over the last axis, at any extents. -/
theorem reduce_max {n0 n1 n2 n3 n4 : ℕ} (s : FVec Ideal ⟨5, ![n0, n1, n2, n3, n4]⟩ .f32) (v : FVec Ideal S_ .f32)
    (h : (⟨5, ![n0, n1, n2, n3, n4]⟩ : Shape).ReducesTo [4] ⟨4, ![n0, n1, n2, n3]⟩) (hu : 0 < S_.numel) (a : Fin n0) (b : Fin n1) (c : Fin n2) (d : Fin n3) :
    Host.reduce FloatOps.maximumf s v h hu (ix4 a b c d) = Finset.fold max (v (Shape.Idx.first hu)) (fun n : Fin n4 => s (ix5 a b c d n)) Finset.univ := by
  pointwise

/-- The larger of a vector's element and the negative infinity. -/
theorem max_bot (x : FVec Ideal S8x2x4x8192 .f32) (j : S8x2x4x8192.Idx) :
    maximumf (broadcastInDim S8x2x4x8192 ![] bcast_S_S8x2x4x8192 (constant (F := Ideal) S_ .f32 0xFF800000#32)) x j = x j := by
  show max (Ideal.ofBits .f32 0xFF800000#32) (x j) = x j
  rw [Cert.Sums.ofBits_neg_inf]
  exact max_eq_right bot_le

theorem mH_apply (s : FVec Ideal S8x2x4x8192x8448 .f32) (b : Fin 8) (h : Fin 2) (g : Fin 4) (t : Fin 8192) :
    mH s (ix4 b h g t) = Finset.fold max (⊥ : EReal) (fun n : Fin 8448 => s (ix5 b h g t n)) Finset.univ := by
  rw [mH, max_bot, reduce_max, ← Cert.Sums.ofBits_neg_inf]
  rfl

theorem eH_apply (s : FVec Ideal S8x2x4x8192x8448 .f32) (x : FVec Ideal S8x2x4x8192 .f32) (b : Fin 8) (h : Fin 2) (g : Fin 4) (t : Fin 8192) (n : Fin 8448) :
    eH s x (ix5 b h g t n) = Ideal.exp (s (ix5 b h g t n) - x (ix4 b h g t)) := by
  pointwise [eH]

theorem pH_apply (e : FVec Ideal S8x2x4x8192x8448 .f32) (b : Fin 8) (h : Fin 2) (g : Fin 4) (t : Fin 8192) (n : Fin 8448) :
    pH e (ix5 b h g t n) = Ideal.div (e (ix5 b h g t n)) (∑ n : Fin 8448, e (ix5 b h g t n)) := by
  pointwise [pH]

theorem oH_apply (p : FVec Ideal S8x2x4x8192x8448 .f32) (v : FVec Ideal S8x2x8448x128 .f32) (b : Fin 8) (h : Fin 2) (g : Fin 4) (t : Fin 8192) (e : Fin 128) :
    oH p v (ix5 b h g t e) = ∑ n : Fin 8448, p (ix5 b h g t n) * v (ix4 b h n e) := by
  pointwise [oH]

theorem fH_apply (o : FVec Ideal S8x2x4x8192x128 .f32) (b : Fin 8) (t : Fin 8192) (x : Fin 1024) :
    fH o (ix3 b t x) = o (ix5 b ⟨x.val / 512, by omega⟩ ⟨x.val / 128 % 4, by omega⟩ t ⟨x.val % 128, by omega⟩) := by
  pointwise [fH]
  have e : x.val / 128 / 4 = x.val / 512 := by omega
  simp only [e]

end Cert.Reference4Ideal.Hand

end
-- ==== Proof.Gqa.RefEq.lean ====
/- The grouped-query reference's array is the attention of its arguments: the row maximum cancels in the softmax, and the
   order of the keys does not matter to a sum. -/
module

public import proofs.«01_k».proof.Proof.Gqa.Ref
public import proofs.«01_k».proof.Proof.Gqa.Spec
public import proofs.«01_k».proof.Proof.Gqa.Finite
public import proofs.«01_k».proof.Proof.RefEq

@[expose] public section

set_option maxRecDepth 16384

noncomputable section

namespace Cert.Reference4Ideal.Hand

open Cert.Reference4Ideal Cert.Reference4Ideal.Gen Cert.Reference4Ideal.Value
open Idealize.ShloMosaic Idealize.ShloMosaic.TcCoe Idealize.ShloMosaic.Tactic
open Cert.Sums Cert.Gqa
open Cert.Spec (Real' at3 at3_eq)
open Cert.ReferenceIdeal.Hand (rot sum_rot)

/-- The context's rows, then the latent rows. -/
theorem rows_rot {X : S8x8192x256.Idx → EReal} {Y : S8x256x256.Idx → EReal} (hX : Real' X) (hY : Real' Y) (b : Fin 8) (n : Fin 8448) (x : Fin 256) :
    (if h : n.val < 256 then Y (ix3 b ⟨n.val, h⟩ x) else X (ix3 b ⟨n.val - 256, by omega⟩ x)) = ((rows X Y b.val (rot n.val) x.val : ℝ) : EReal) := by
  have hn := n.isLt
  unfold rows rot
  split
  · rename_i h
    rw [if_neg (by omega), Nat.add_sub_cancel_left]
    exact at3_eq hY _ _ _ _ _ _
  · rename_i h
    rw [if_pos (by omega)]
    exact at3_eq hX _ _ _ _ _ _

/-- The exponentials' total is not zero. -/
theorem total_ne (S : ℕ → ℝ) : (∑ n ∈ Finset.range 8448, Real.exp (S n * scale)) ≠ 0 :=
  (Finset.sum_pos (fun _ _ => Real.exp_pos _) ⟨0, by simp⟩).ne'

/-- A softmax over real scores: the maximum subtracted cancels. -/
theorem softmax (s : FVec Ideal S8x2x4x8192x8448 .f32) (b : Fin 8) (h : Fin 2) (g : Fin 4) (t : Fin 8192) (S : ℕ → ℝ)
    (hs : ∀ n : Fin 8448, s (ix5 b h g t n) = ((S (rot n.val) * scale : ℝ) : EReal)) (n : Fin 8448) :
    pH (eH s (mH s)) (ix5 b h g t n)
      = ((Real.exp (S (rot n.val) * scale) / ∑ n ∈ Finset.range 8448, Real.exp (S n * scale) : ℝ) : EReal) := by
  obtain ⟨M, hM⟩ : ∃ M : ℝ, mH s (ix4 b h g t) = (M : EReal) := by
    rw [mH_apply]
    simp only [hs]
    exact fold_max_univ fun n : Fin 8448 => S (rot n.val) * scale
  have he : ∀ n : Fin 8448, eH s (mH s) (ix5 b h g t n) = ((Real.exp (S (rot n.val) * scale) * Real.exp (-M) : ℝ) : EReal) := by
    intro n
    rw [eH_apply, hs, hM, ← EReal.coe_sub, Ideal.exp_coe, sub_eq_add_neg, Real.exp_add]
  rw [pH_apply]
  simp only [he]
  rw [coe_sum, sum_rot (fun k => Real.exp (S k * scale) * Real.exp (-M)), ← Finset.sum_mul,
    div_real (mul_ne_zero (total_ne S) (Real.exp_pos _).ne'), mul_div_mul_right _ _ (Real.exp_pos _).ne']

/-- The weighted sum is the mean. -/
theorem one_mean (S W : ℕ → ℝ) :
    ∑ n : Fin 8448, Real.exp (S (rot n.val) * scale) / (∑ n ∈ Finset.range 8448, Real.exp (S n * scale)) * W (rot n.val) = mean S W := by
  generalize hZ : (∑ n ∈ Finset.range 8448, Real.exp (S n * scale)) = Z
  rw [sum_rot (fun k => Real.exp (S k * scale) / Z * W k)]
  unfold mean
  rw [hZ, Finset.sum_div]
  exact Finset.sum_congr rfl fun k _ => by ring

section

variable {a0 : S8x8192x1024.Idx → EReal} {a1 a2 : S8x8192x256.Idx → EReal} {a3 a4 : S8x256x256.Idx → EReal} {a5 a6 : S128.Idx → EReal}
variable (ha : Args a0 a1 a2 a3 a4 a5 a6)
include ha

/-- The scaled scores are real. -/
theorem score_real (b : Fin 8) (h : Fin 2) (g : Fin 4) (t : Fin 8192) (n : Fin 8448) : sH (qH a0) (kH a1 a3) (ix5 b h g t n)
    = ((logit (fun t d => at3 a0 b.val t (128 * (4 * h.val + g.val) + d)) (fun n d => rows a1 a3 b.val n (128 * h.val + d)) t.val (rot n.val) * scale : ℝ) : EReal) := by
  have hg := g.isLt
  have hh := h.isLt
  rw [sH_apply]
  have term : ∀ d : Fin 128, qH a0 (ix5 b h g t d) * kH a1 a3 (ix4 b h n d)
      = ((at3 a0 b.val t.val (128 * (4 * h.val + g.val) + d.val) * rows a1 a3 b.val (rot n.val) (128 * h.val + d.val) : ℝ) : EReal) := by
    intro d
    have hd := d.isLt
    rw [qH_apply, kH_apply, EReal.coe_mul]
    congr 1
    · exact at3_eq ha.h0 _ _ _ _ _ _
    · exact rows_rot ha.h1 ha.h3 b n ⟨128 * h.val + d.val, by omega⟩
  have k : Ideal.ofBits .f32 0x3DB504F3#32 = ((scale : ℝ) : EReal) := by
    simp [Ideal.ofBits, Ideal.ieee, scale, -EReal.coe_mul]; norm_num
  simp only [term]
  rw [coe_sum, k, ← EReal.coe_mul]
  rfl

/-- The attention. -/
theorem attn_real (b : Fin 8) (h : Fin 2) (g : Fin 4) (t : Fin 8192) (e : Fin 128) : attnH a0 a1 a2 a3 a4 (ix5 b h g t e)
    = ((mean (logit (fun t d => at3 a0 b.val t (128 * (4 * h.val + g.val) + d)) (fun n d => rows a1 a3 b.val n (128 * h.val + d)) t.val)
      (fun n => rows a2 a4 b.val n (128 * h.val + e.val)) : ℝ) : EReal) := by
  have hh := h.isLt
  unfold attnH
  rw [oH_apply]
  have hv : ∀ n : Fin 8448, kH a2 a4 (ix4 b h n e) = ((rows a2 a4 b.val (rot n.val) (128 * h.val + e.val) : ℝ) : EReal) := fun n => by
    rw [kH_apply]
    exact rows_rot ha.h2 ha.h4 b n ⟨128 * h.val + e.val, by omega⟩
  simp only [hv, softmax _ b h g t _ (score_real ha b h g t), ← EReal.coe_mul]
  rw [coe_sum]
  refine congrArg _ ?_
  exact one_mean _ (fun n => rows a2 a4 b.val n (128 * h.val + e.val))

/-- The reference's array. -/
theorem ref_out : fH (attnH a0 a1 a2 a3 a4) = out a0 a1 a2 a3 a4 := by
  have key : ∀ (b : Fin 8) (t : Fin 8192) (x : Fin 1024), fH (attnH a0 a1 a2 a3 a4) (ix3 b t x) = out a0 a1 a2 a3 a4 (ix3 b t x) := by
    intro b t x
    have hx := x.isLt
    rw [fH_apply, attn_real ha]
    have e1 : 4 * (x.val / 512) + x.val / 128 % 4 = x.val / 128 := by omega
    have e2 : x.val / 512 = x.val / 128 / 4 := by omega
    show (_ : EReal) = ((attnOf a0 a1 a2 a3 a4 b.val (x.val / 128) t.val (x.val % 128) : ℝ) : EReal)
    simp only [e1]
    simp only [e2]
    rfl
  funext y
  have e : y = ix3 (n0 := 8) (n1 := 8192) (n2 := 1024) (y 0) (y 1) (y 2) := by
    funext a
    match a with
    | ⟨0, _⟩ => rfl
    | ⟨1, _⟩ => rfl
    | ⟨2, _⟩ => rfl
  rw [e]
  exact key _ _ _

end

end Cert.Reference4Ideal.Hand

end
-- ==== Proof.Gla.Spec.lean ====
/- The rows of the gated linear attention before their output projection: the two sweeps' sum, normalised in each head of
   256 columns, times the gain and the gate's activation. -/
module

public import proofs.«01_k».proof.Proof.Post.Spec

@[expose] public section

noncomputable section

namespace Cert.GlaSpec

open Idealize.ShloMosaic Idealize.ShloMosaic.Tactic

/-- The gate times its logistic. -/
def silu (g : EReal) : EReal :=
  g * Ideal.div (Ideal.ofBits .f32 0x3F800000#32) (Ideal.ofBits .f32 0x3F800000#32 + Ideal.exp (-g))

/-- One column of a head: its value `v`, the head's values `w`, the gain. -/
def normed (v : EReal) (w : Fin 256 → EReal) (gain : EReal) : EReal :=
  v * Ideal.rsqrt (Ideal.div (∑ k : Fin 256, w k * w k) (Ideal.ofBits .f32 0x43800000#32) + Ideal.ofBits .f32 0x358637BD#32) * gain

/-- Column `j` of the gated row. -/
def mixture (f b r : Fin 1024 → EReal) (gain : Fin 256 → EReal) (j : Fin 1024) : EReal :=
  normed (f j + b j) (fun k => f ⟨256 * (j.val / 256) + k.val, by omega⟩ + b ⟨256 * (j.val / 256) + k.val, by omega⟩) (gain ⟨j.val % 256, by omega⟩)
    * silu (r j)

end Cert.GlaSpec

end
-- ==== Proof.Gla.Block.lean ====
/- A block of the stage after the gated linear attention: the gated heads, then the stage of the attention layers. -/
module

public import proofs.«01_k».proof.Proof.Gen.Kernel3Ideal.Value
public import proofs.«01_k».proof.Proof.Gla.Spec
public import proofs.«01_k».proof.Proof.Post.Block

@[expose] public section

set_option maxRecDepth 16384

noncomputable section

namespace Cert.Kernel3Ideal.Hand

open Cert.Kernel3Ideal Cert.Kernel3Ideal.Gen Cert.GlaSpec
open Idealize.ShloMosaic Idealize.ShloMosaic.TcCoe Idealize.ShloMosaic.Tactic
open Cert.Kernel2Ideal.Hand (units close hz2 hz3 either)

/-- One head from the gates `G`, the two sweeps' columns and the gain. -/
def head (G : FVec Ideal S1024x1024 .f32) (f b : Vec Ideal S1024x256 .bf16) (on : Vec Ideal S1x256 .f32) (o : ℕ) (h : S1024x1024.Slices ![0, o] S1024x256) :
    FVec Ideal S1024x256 .bf16 :=
  have v : FVec Ideal S1024x256 .f32 := addf (extf (φ := .bf16) .f32 (shapeCast S1024x256 f shapeCasts_S1024x256_S1024x256) bitsLt_bf16_f32)
    (extf (φ := .bf16) .f32 (shapeCast S1024x256 b shapeCasts_S1024x256_S1024x256) bitsLt_bf16_f32)
  have ms : FVec Ideal S1024x1 .f32 := shapeCast S1024x1 (multiReduction .add [1] S1024 (mulf v v) 0x00000000#32 reduces_S1024x256_S1024 (.inl rfl) rfl) shapeCasts_S1024_S1024x1
  truncf .bf16 (mulf (mulf (mulf v (broadcastTo S1024x256 (rsqrt (addf (divf ms (broadcast S1024x1 (Scalar.ofBits .f32 0x43800000#32)))
    (broadcast S1024x1 (Scalar.ofBits .f32 0x358637BD#32)))) broadcasts_S1024x1_S1024x256))
    (broadcastTo S1024x256 (shapeCast S1x256 on shapeCasts_S1x256_S1x256 : FVec Ideal S1x256 .f32) broadcasts_S1x256_S1024x256))
    (extractStridedSlice S1024x256 ![0, o] G h)) bitsLt_bf16_f32

/-- The four heads side by side. -/
def heads (f b r : Vec Ideal S1024x1024 .bf16) (on : Vec Ideal S1x256 .f32) : FVec Ideal S1024x1024 .bf16 :=
  concatenate S1024x1024 1 [⟨S1024x256, head (k0_pay2 r) (View.ld f r0_1) (View.ld b r0_1) on 0 slices_S1024x1024_o0_0_S1024x256⟩,
    ⟨S1024x256, head (k0_pay2 r) (View.ld f r0_3) (View.ld b r0_3) on 256 slices_S1024x1024_o0_256_S1024x256⟩,
    ⟨S1024x256, head (k0_pay2 r) (View.ld f r0_4) (View.ld b r0_4) on 512 slices_S1024x1024_o0_512_S1024x256⟩,
    ⟨S1024x256, head (k0_pay2 r) (View.ld f r0_5) (View.ld b r0_5) on 768 slices_S1024x1024_o0_768_S1024x256⟩]
    concatenates_S1024x256_S1024x256_S1024x256_S1024x256_S1024x1024_d1

/-- The rows after the first residual: a row plus the gated product of a row with the weight. -/
def rows (H : FVec Ideal S1024x1024 .bf16) (x5 : Vec Ideal S1x1x6144 .f32) (x0 : Vec Ideal S1024x1024 .f32) (x6 : Vec Ideal S1024x1024 .bf16) : FVec Ideal S1024x1024 .f32 :=
  addf (shapeCast S1024x1024 x0 shapeCasts_S1024x1024_S1024x1024 : FVec Ideal S1024x1024 .f32)
    (mulf (broadcastTo S1024x1024 (extractStridedSlice S1x1024 ![0, 2048] (k0_pay9 x5) slices_S1x6144_o0_2048_S1x1024) broadcasts_S1x1024_S1024x1024)
      (matmul (φ₂ := .bf16) dot_S1024x1024_S1024x1024_S1024x1024_1_0_0_1_n_n none H (shapeCast S1024x1024 x6 shapeCasts_S1024x1024_S1024x1024) (constant S1024x1024 .f32 0x00000000#32)))

/-- The rows after the first residual are the attention layers' of the gated heads. -/
theorem row_eq (x0 : Vec Ideal S1024x1024 .f32) (x1 x2 x3 : Vec Ideal S1024x1024 .bf16) (x4 : Vec Ideal S1x256 .f32) (x5 : Vec Ideal S1x1x6144 .f32)
    (x6 : Vec Ideal S1024x1024 .bf16) (x7 : Vec Ideal S1x1024 .f32) (x8 : Vec Ideal S1024x5632 .bf16) (x9 : Vec Ideal S2816x1024 .bf16) :
    k0_pay43 (F := Ideal) x0 x1 x2 x3 x4 x5 x6 x7 x8 x9 = Cert.Kernel2Ideal.Gen.k0_pay5 (heads x1 x2 x3 x4) x5 x0 x6 := by
  have h0 : ∀ {e : EltTy} (x : Vec Ideal S1024x1024 e), View.ld x r0_0 = x := fun x => View.ld_unit_zero (S := S1024x1024) hz2 _ x
  have h1 : View.ld x4 r0_2 = x4 := View.ld_unit_zero (S := S1x256) hz2 _ x4
  have h5 : View.ld x5 r0_6 = x5 := View.ld_unit_zero (S := S1x1x6144) hz3 _ x5
  have h7 : View.ld x7 r0_7 = x7 := View.ld_unit_zero (S := S1x1024) hz2 _ x7
  have e : Cert.Kernel2Ideal.Gen.k0_pay5 (F := Ideal) (heads x1 x2 x3 x4) x5 x0 x6 = rows (heads x1 x2 x3 x4) x5 x0 x6 :=
    congrArg (fun H => rows H x5 x0 x6) (shapeCast_id (heads x1 x2 x3 x4) shapeCasts_S1024x1024_S1024x1024)
  rw [e]
  unfold k0_pay43 k0_pay40 k0_pay39 k0_pay38 k0_pay37 k0_pay36
  simp only [h0, h1, h5]
  rfl

/-- The rows' sums of squares. -/
theorem square_eq (x0 : Vec Ideal S1024x1024 .f32) (x1 x2 x3 : Vec Ideal S1024x1024 .bf16) (x4 : Vec Ideal S1x256 .f32) (x5 : Vec Ideal S1x1x6144 .f32)
    (x6 : Vec Ideal S1024x1024 .bf16) (x7 : Vec Ideal S1x1024 .f32) (x8 : Vec Ideal S1024x5632 .bf16) (x9 : Vec Ideal S2816x1024 .bf16) :
    k0_pay45 (F := Ideal) x0 x1 x2 x3 x4 x5 x6 x7 x8 x9 = shapeCast S1024x1 (multiReduction .add [1] S1024 (mulf (k0_pay43 x0 x1 x2 x3 x4 x5 x6 x7 x8 x9) (k0_pay43 x0 x1 x2 x3 x4 x5 x6 x7 x8 x9)) 0x00000000#32
      reduces_S1024x1024_S1024 (.inl rfl) rfl) shapeCasts_S1024_S1024x1 := rfl

/-- The rows the feed-forward layer reads. -/
theorem hidden_eq (x0 : Vec Ideal S1024x1024 .f32) (x1 x2 x3 : Vec Ideal S1024x1024 .bf16) (x4 : Vec Ideal S1x256 .f32) (x5 : Vec Ideal S1x1x6144 .f32)
    (x6 : Vec Ideal S1024x1024 .bf16) (x7 : Vec Ideal S1x1024 .f32) (x8 : Vec Ideal S1024x5632 .bf16) (x9 : Vec Ideal S2816x1024 .bf16) :
    k0_pay16 (k0_pay41 (F := Ideal) x0 x1 x2 x3 x4 x5 x6 x7 x8 x9) (k0_pay42 x0 x1 x2 x3 x4 x5 x6 x7 x8 x9) (k0_pay43 x0 x1 x2 x3 x4 x5 x6 x7 x8 x9) (k0_pay44 x0 x1 x2 x3 x4 x5 x6 x7 x8 x9) (k0_pay45 x0 x1 x2 x3 x4 x5 x6 x7 x8 x9)
      = Cert.Kernel2Ideal.Gen.k0_pay6 (heads x1 x2 x3 x4) x5 x0 x6 x7 := by
  have h0 : ∀ {e : EltTy} (x : Vec Ideal S1024x1024 e), View.ld x r0_0 = x := fun x => View.ld_unit_zero (S := S1024x1024) hz2 _ x
  have h1 : View.ld x4 r0_2 = x4 := View.ld_unit_zero (S := S1x256) hz2 _ x4
  have h5 : View.ld x5 r0_6 = x5 := View.ld_unit_zero (S := S1x1x6144) hz3 _ x5
  have h7 : View.ld x7 r0_7 = x7 := View.ld_unit_zero (S := S1x1024) hz2 _ x7
  rw [square_eq]
  unfold Cert.Kernel2Ideal.Gen.k0_pay6 k0_pay41 k0_pay42 k0_pay44
  rw [← row_eq x0 x1 x2 x3 x4 x5 x6 x7 x8 x9, h5, h7]
  generalize k0_pay43 (F := Ideal) x0 x1 x2 x3 x4 x5 x6 x7 x8 x9 = d
  rfl

/-- The block a point leaves is the attention layers' block of the gated heads. -/
theorem out_eq (x0 : Vec Ideal S1024x1024 .f32) (x1 x2 x3 : Vec Ideal S1024x1024 .bf16) (x4 : Vec Ideal S1x256 .f32) (x5 : Vec Ideal S1x1x6144 .f32)
    (x6 : Vec Ideal S1024x1024 .bf16) (x7 : Vec Ideal S1x1024 .f32) (x8 : Vec Ideal S1024x5632 .bf16) (x9 : Vec Ideal S2816x1024 .bf16) :
    out0_10 x0 x1 x2 x3 x4 x5 x6 x7 x8 x9 = Cert.Kernel2Ideal.Gen.out0_7 (F := Ideal) x0 (heads x1 x2 x3 x4) x5 x6 x7 x8 x9 := by
  have h5 : View.ld x5 r0_6 = x5 := View.ld_unit_zero (S := S1x1x6144) hz3 _ x5
  have h9 : View.ld x9 r0_30 = x9 := View.ld_unit_zero (S := S2816x1024) hz2 _ x9
  rw [Cert.Kernel2Ideal.Hand.out_eq, ← row_eq x0 x1 x2 x3 x4 x5 x6 x7 x8 x9, ← hidden_eq]
  unfold out0_10 k0_pay46
  rw [View.canon_unit_zero (S := S1024x1024) hz2, h5, h9]
  generalize k0_pay41 (F := Ideal) x0 x1 x2 x3 x4 x5 x6 x7 x8 x9 = a
  generalize k0_pay42 (F := Ideal) x0 x1 x2 x3 x4 x5 x6 x7 x8 x9 = b
  generalize k0_pay43 (F := Ideal) x0 x1 x2 x3 x4 x5 x6 x7 x8 x9 = d
  generalize k0_pay44 (F := Ideal) x0 x1 x2 x3 x4 x5 x6 x7 x8 x9 = e
  generalize k0_pay45 (F := Ideal) x0 x1 x2 x3 x4 x5 x6 x7 x8 x9 = f
  rfl

/-- The gate. -/
theorem gate_apply (r : Vec Ideal S1024x1024 .bf16) (i j : Fin 1024) : k0_pay2 (F := Ideal) r (ix2 i j) = silu (r (ix2 i j)) := by
  unfold silu
  rw [← zero_sub (r (ix2 i j))]
  pointwise [k0_pay2]

/-- A column of a head. -/
theorem head_apply (G : FVec Ideal S1024x1024 .f32) (f b : Vec Ideal S1024x256 .bf16) (on : Vec Ideal S1x256 .f32) (o : ℕ) (h : S1024x1024.Slices ![0, o] S1024x256)
    (ho : o + 256 ≤ 1024) (i : Fin 1024) (n : Fin 256) :
    head G f b on o h (ix2 i n) = normed (f (ix2 i n) + b (ix2 i n)) (fun k => f (ix2 i k) + b (ix2 i k)) (on (ix2 0 n)) * G (ix2 i ⟨o + n.val, by omega⟩) := by
  unfold normed
  pointwise [head]

/-- A block of 256 columns. -/
theorem cols (w : Vec Ideal S1024x1024 .bf16) (o : ℕ) (inb) (k : Fin 1024) (n : Fin 256) (i : Fin 1024) (hi : i.val = o + n.val) :
    View.ld w (Rect.unit (s := S1024x1024) ![0, o] S1024x256.size inb) (ix2 k n) = w (ix2 k i) :=
  View.ld_unit_apply_of w _ _ inb (ix2 k n) (ix2 k i) (by
    intro a
    match a with
    | ⟨0, _⟩ => exact (Nat.zero_add _).symm
    | ⟨1, _⟩ => exact hi)

/-- A column of a head is a column of the gated row. -/
theorem head_mixture (f b r : Vec Ideal S1024x1024 .bf16) (on : Vec Ideal S1x256 .f32) (o q : ℕ) (h : S1024x1024.Slices ![0, o] S1024x256)
    (inb : ∀ a : Fin 2, ![0, o] a + S1024x256.size a ≤ S1024x1024.size a) (hq : o = 256 * q) (ho : o + 256 ≤ 1024) (i : Fin 1024) (n : Fin 256) (j : Fin 1024) (hj : j.val = o + n.val) :
    head (k0_pay2 r) (View.ld f (Rect.unit (s := S1024x1024) ![0, o] S1024x256.size inb)) (View.ld b (Rect.unit (s := S1024x1024) ![0, o] S1024x256.size inb)) on o h (ix2 i n)
      = mixture (fun k => f (ix2 i k)) (fun k => b (ix2 i k)) (fun k => r (ix2 i k)) (fun k => on (ix2 0 k)) j := by
  have hn := n.isLt
  have hd : j.val / 256 = q := by omega
  have hm : j.val % 256 = n.val := by omega
  rw [head_apply _ _ _ _ _ _ ho, gate_apply]
  unfold mixture
  have e1 : (⟨o + n.val, by omega⟩ : Fin 1024) = j := Fin.ext hj.symm
  have e2 : (⟨j.val % 256, by omega⟩ : Fin 256) = n := Fin.ext hm
  have e3 : ∀ k : Fin 256, (⟨256 * (j.val / 256) + k.val, by omega⟩ : Fin 1024) = ⟨o + k.val, by omega⟩ := fun k => Fin.ext (by show 256 * (j.val / 256) + k.val = o + k.val; rw [hd, hq])
  have c : ∀ (w : Vec Ideal S1024x1024 .bf16) (k : Fin 256), View.ld w (Rect.unit (s := S1024x1024) ![0, o] S1024x256.size inb) (ix2 i k) = w (ix2 i ⟨o + k.val, by omega⟩) :=
    fun w k => cols w o inb i k _ rfl
  rw [c f n, c b n, funext fun k => congrArg₂ (· + ·) (c f k) (c b k)]
  simp only [e1, e2, e3]

/-- Four blocks of 256 columns side by side, each agreeing with a function of the column. -/
theorem four (a0 a1 a2 a3 : FVec Ideal S1024x256 .bf16) (f : Fin 1024 → EReal) (r : Fin 1024)
    (h0 : ∀ (n : Fin 256) (j : Fin 1024), j.val = 0 + n.val → a0 (ix2 r n) = f j)
    (h1 : ∀ (n : Fin 256) (j : Fin 1024), j.val = 256 + n.val → a1 (ix2 r n) = f j)
    (h2 : ∀ (n : Fin 256) (j : Fin 1024), j.val = 512 + n.val → a2 (ix2 r n) = f j)
    (h3 : ∀ (n : Fin 256) (j : Fin 1024), j.val = 768 + n.val → a3 (ix2 r n) = f j) (n : Fin 1024) :
    concatenate S1024x1024 1 [⟨S1024x256, a0⟩, ⟨S1024x256, a1⟩, ⟨S1024x256, a2⟩, ⟨S1024x256, a3⟩]
      concatenates_S1024x256_S1024x256_S1024x256_S1024x256_S1024x1024_d1 (ix2 r n) = f n := by
  pointwise
  refine either (fun g => h0 _ n (by show n.val = 0 + (n.val); omega)) fun g0 => ?_
  refine either (fun g => h1 _ n (by show n.val = 256 + (n.val - 256); omega)) fun g1 => ?_
  refine either (fun g => h2 _ n (by show n.val = 512 + (n.val - 256 - 256); omega)) fun g2 => ?_
  exact h3 _ n (by show n.val = 768 + (n.val - 256 - 256 - 256); omega)

theorem heads_apply (f b r : Vec Ideal S1024x1024 .bf16) (on : Vec Ideal S1x256 .f32) (i j : Fin 1024) :
    heads f b r on (ix2 i j) = mixture (fun k => f (ix2 i k)) (fun k => b (ix2 i k)) (fun k => r (ix2 i k)) (fun k => on (ix2 0 k)) j :=
  four _ _ _ _ (mixture (fun k => f (ix2 i k)) (fun k => b (ix2 i k)) (fun k => r (ix2 i k)) fun k => on (ix2 0 k)) i
    (head_mixture f b r on 0 0 _ _ rfl (by omega) i) (head_mixture f b r on 256 1 _ _ rfl (by omega) i)
    (head_mixture f b r on 512 2 _ _ rfl (by omega) i) (head_mixture f b r on 768 3 _ _ rfl (by omega) i) j

/-- An element of the block a point leaves. -/
theorem out_apply (x0 : Vec Ideal S1024x1024 .f32) (x1 x2 x3 : Vec Ideal S1024x1024 .bf16) (x4 : Vec Ideal S1x256 .f32) (x5 : Vec Ideal S1x1x6144 .f32)
    (x6 : Vec Ideal S1024x1024 .bf16) (x7 : Vec Ideal S1x1024 .f32) (x8 : Vec Ideal S1024x5632 .bf16) (x9 : Vec Ideal S2816x1024 .bf16) (r j : Fin 1024) :
    out0_10 x0 x1 x2 x3 x4 x5 x6 x7 x8 x9 (ix2 r j) = Cert.PostSpec.post (fun k => x0 (ix2 r k))
      (mixture (fun k => x1 (ix2 r k)) (fun k => x2 (ix2 r k)) (fun k => x3 (ix2 r k)) (fun k => x4 (ix2 0 k)))
      (fun i => x5 (ix3 0 0 i)) (fun k j => x6 (ix2 k j)) (fun j => x7 (ix2 0 j)) (fun k i => x8 (ix2 k i)) (fun n j => x9 (ix2 n j)) j := by
  rw [out_eq]
  refine (Cert.Kernel2Ideal.Hand.out_apply _ _ _ _ _ _ _ r j).trans ?_
  simp only [heads_apply]

end Cert.Kernel3Ideal.Hand

end
-- ==== Proof.Gla.Array.lean ====
/- The array the output stage of the gated linear attention leaves: each row the stage of the arguments' row. -/
module

public import proofs.«01_k».proof.Proof.Gla.Block
public import Idealize.ShloMosaic.Lib.StableHlo.ReadAt

@[expose] public section

set_option maxRecDepth 16384

noncomputable section

namespace Cert.Kernel3Ideal.Hand

open Cert.Kernel3Ideal Cert.Kernel3Ideal.Gen Cert.GlaSpec
open Idealize.ShloMosaic Idealize.ShloMosaic.TcCoe Idealize.ShloMosaic.Tactic
open Idealize.SL.Sem
open Idealize.ShloMosaic.Pipeline (Dat Cfg Window cellOf)

variable (m : (ℓ : Loc nD τ sig) → Buf (Elt Ideal) ℓ) (ρ : Dev nD → PrngReg) (c : Dev nD) (t : Fin cfg0.N)

theorem V_x (n : Fin 65536) (j : Fin 1024) : V m c main_v8 (ix2 n j)
    = m ((c : Thread nD τ).loc main_arg0) (ix3 ⟨n.val / 8192, by omega⟩ ⟨n.val % 8192, by omega⟩ j) := by
  unfold V; after_reads_at

theorem V_f (n : Fin 65536) (j : Fin 1024) : V m c main_v3 (ix2 n j)
    = m ((c : Thread nD τ).loc main_arg1) (ix3 ⟨n.val / 8192, by omega⟩ ⟨n.val % 8192, by omega⟩ j) := by
  unfold V; after_reads_at

theorem V_b (n : Fin 65536) (j : Fin 1024) : V m c main_v5 (ix2 n j)
    = m ((c : Thread nD τ).loc main_arg2) (ix3 ⟨n.val / 8192, by omega⟩ ⟨n.val % 8192, by omega⟩ j) := by
  unfold V; after_reads_at

theorem V_r (n : Fin 65536) (j : Fin 1024) : V m c main_v7 (ix2 n j)
    = m ((c : Thread nD τ).loc main_arg3) (ix3 ⟨n.val / 8192, by omega⟩ ⟨n.val % 8192, by omega⟩ j) := by
  unfold V; after_reads_at

theorem V_md (b : Fin 8) (i : Fin 6144) : V m c main_v0 (ix3 b 0 i) = m ((c : Thread nD τ).loc main_arg4) (ix2 b i) := by
  unfold V; after_reads_at

theorem V_head (j : Fin 256) : V m c main_v1 (ix2 0 j) = m ((c : Thread nD τ).loc main_arg5) (ix1 j) := by
  unfold V; after_reads_at

theorem V_wo (k j : Fin 1024) : V m c main_v9 (ix2 k j) = m ((c : Thread nD τ).loc main_arg6) (ix2 k j) := by
  unfold V; after_reads_at

theorem V_gain (j : Fin 1024) : V m c main_v10 (ix2 0 j) = m ((c : Thread nD τ).loc main_arg7) (ix1 j) := by
  unfold V; after_reads_at

theorem V_gu (k : Fin 1024) (i : Fin 5632) : V m c main_v11 (ix2 k i) = m ((c : Thread nD τ).loc main_arg8) (ix2 k i) := by
  unfold V; after_reads_at

theorem V_dn (n : Fin 2816) (j : Fin 1024) : V m c main_v12 (ix2 n j) = m ((c : Thread nD τ).loc main_arg9) (ix2 n j) := by
  unfold V; after_reads_at

theorem index_0 : ∀ t : Fin cfg0.N, win0_0.index t (0 : Fin 2) = t.val ∧ win0_0.index t (1 : Fin 2) = 0 := by decide +kernel
theorem index_1 : ∀ t : Fin cfg0.N, win0_1.index t (0 : Fin 2) = t.val ∧ win0_1.index t (1 : Fin 2) = 0 := by decide +kernel
theorem index_2 : ∀ t : Fin cfg0.N, win0_2.index t (0 : Fin 2) = t.val ∧ win0_2.index t (1 : Fin 2) = 0 := by decide +kernel
theorem index_3 : ∀ t : Fin cfg0.N, win0_3.index t (0 : Fin 2) = t.val ∧ win0_3.index t (1 : Fin 2) = 0 := by decide +kernel
theorem index_10 : ∀ t : Fin cfg0.N, win0_10.index t (0 : Fin 2) = t.val ∧ win0_10.index t (1 : Fin 2) = 0 := by decide +kernel
theorem index_4 : ∀ t : Fin cfg0.N, win0_4.index t (0 : Fin 2) = 0 ∧ win0_4.index t (1 : Fin 2) = 0 := by decide +kernel
theorem index_6 : ∀ t : Fin cfg0.N, win0_6.index t (0 : Fin 2) = 0 ∧ win0_6.index t (1 : Fin 2) = 0 := by decide +kernel
theorem index_7 : ∀ t : Fin cfg0.N, win0_7.index t (0 : Fin 2) = 0 ∧ win0_7.index t (1 : Fin 2) = 0 := by decide +kernel
theorem index_8 : ∀ t : Fin cfg0.N, win0_8.index t (0 : Fin 2) = 0 ∧ win0_8.index t (1 : Fin 2) = 0 := by decide +kernel
theorem index_9 : ∀ t : Fin cfg0.N, win0_9.index t (0 : Fin 2) = 0 ∧ win0_9.index t (1 : Fin 2) = 0 := by decide +kernel
theorem index_5 : ∀ t : Fin cfg0.N, win0_5.index t (0 : Fin 3) = t.val / 8 ∧ win0_5.index t (1 : Fin 3) = 0 ∧ win0_5.index t (2 : Fin 3) = 0 := by decide +kernel

theorem read_0 (G : S65536x1024.Idx → Elt Ideal .f32) (r j : Fin 1024) : (win0_0.blk t).view.read (Elt Ideal) G (ix2 r j)
    = G (ix2 ⟨1024 * t.val + r.val, by have h : t.val < 64 := t.isLt; omega⟩ j) := by
  blk_point [index_0 t]

theorem read_1 (G : S65536x1024.Idx → Elt Ideal .bf16) (r j : Fin 1024) : (win0_1.blk t).view.read (Elt Ideal) G (ix2 r j)
    = G (ix2 ⟨1024 * t.val + r.val, by have h : t.val < 64 := t.isLt; omega⟩ j) := by
  blk_point [index_1 t]

theorem read_2 (G : S65536x1024.Idx → Elt Ideal .bf16) (r j : Fin 1024) : (win0_2.blk t).view.read (Elt Ideal) G (ix2 r j)
    = G (ix2 ⟨1024 * t.val + r.val, by have h : t.val < 64 := t.isLt; omega⟩ j) := by
  blk_point [index_2 t]

theorem read_3 (G : S65536x1024.Idx → Elt Ideal .bf16) (r j : Fin 1024) : (win0_3.blk t).view.read (Elt Ideal) G (ix2 r j)
    = G (ix2 ⟨1024 * t.val + r.val, by have h : t.val < 64 := t.isLt; omega⟩ j) := by
  blk_point [index_3 t]

theorem read_10 (G : S65536x1024.Idx → Elt Ideal .f32) (r j : Fin 1024) : (win0_10.blk t).view.read (Elt Ideal) G (ix2 r j)
    = G (ix2 ⟨1024 * t.val + r.val, by have h : t.val < 64 := t.isLt; omega⟩ j) := by
  blk_point [index_10 t]

theorem read_4 (G : S1x256.Idx → Elt Ideal .f32) (j : Fin 256) : (win0_4.blk t).view.read (Elt Ideal) G (ix2 0 j) = G (ix2 0 j) := by
  blk_point [index_4 t]

theorem read_5 (G : S8x1x6144.Idx → Elt Ideal .f32) (i : Fin 6144) : (win0_5.blk t).view.read (Elt Ideal) G (ix3 0 0 i)
    = G (ix3 ⟨t.val / 8, by have h : t.val < 64 := t.isLt; omega⟩ 0 i) := by
  blk_point [index_5 t]

theorem read_6 (G : S1024x1024.Idx → Elt Ideal .bf16) (k j : Fin 1024) : (win0_6.blk t).view.read (Elt Ideal) G (ix2 k j) = G (ix2 k j) := by
  blk_point [index_6 t]

theorem read_7 (G : S1x1024.Idx → Elt Ideal .f32) (j : Fin 1024) : (win0_7.blk t).view.read (Elt Ideal) G (ix2 0 j) = G (ix2 0 j) := by
  blk_point [index_7 t]

theorem read_8 (G : S1024x5632.Idx → Elt Ideal .bf16) (k : Fin 1024) (i : Fin 5632) : (win0_8.blk t).view.read (Elt Ideal) G (ix2 k i) = G (ix2 k i) := by
  blk_point [index_8 t]

theorem read_9 (G : S2816x1024.Idx → Elt Ideal .bf16) (n : Fin 2816) (j : Fin 1024) : (win0_9.blk t).view.read (Elt Ideal) G (ix2 n j) = G (ix2 n j) := by
  blk_point [index_9 t]

/-- The stage of the arguments, row `n` being token `n % 8192` of batch `n / 8192`. -/
def stage (a0 a1 a2 a3 : S8x8192x1024.Idx → EReal) (a4 : S8x6144.Idx → EReal) (a5 : S256.Idx → EReal) (a6 : S1024x1024.Idx → EReal) (a7 : S1024.Idx → EReal)
    (a8 : S1024x5632.Idx → EReal) (a9 : S2816x1024.Idx → EReal) (n : Fin 65536) (j : Fin 1024) : EReal :=
  Cert.PostSpec.post (fun k => a0 (ix3 ⟨n.val / 8192, by omega⟩ ⟨n.val % 8192, by omega⟩ k))
    (mixture (fun k => a1 (ix3 ⟨n.val / 8192, by omega⟩ ⟨n.val % 8192, by omega⟩ k)) (fun k => a2 (ix3 ⟨n.val / 8192, by omega⟩ ⟨n.val % 8192, by omega⟩ k))
      (fun k => a3 (ix3 ⟨n.val / 8192, by omega⟩ ⟨n.val % 8192, by omega⟩ k)) (fun k => a5 (ix1 k)))
    (fun i => a4 (ix2 ⟨n.val / 8192, by omega⟩ i)) (fun k j => a6 (ix2 k j)) (fun j => a7 (ix1 j)) (fun k i => a8 (ix2 k i)) (fun n j => a9 (ix2 n j)) j

/-- The array a core's launch is to leave. -/
def res : S65536x1024.Idx → Elt Ideal .f32 := fun y =>
  stage (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (y 0) (y 1)

/-- An element of the block a point leaves. -/
theorem block_at (r j : Fin 1024) :
    out0_10 (F := Ideal) (iblk m c 0 t) (iblk m c 1 t) (iblk m c 2 t) (iblk m c 3 t) (iblk m c 4 t) (iblk m c 5 t) (iblk m c 6 t) (iblk m c 7 t)
        (iblk m c 8 t) (iblk m c 9 t) (ix2 r j)
      = res m c (ix2 ⟨1024 * t.val + r.val, by have h : t.val < 64 := t.isLt; omega⟩ j) := by
  have ht : t.val < 64 := t.isLt
  have e : (⟨t.val / 8, by omega⟩ : Fin 8) = ⟨(1024 * t.val + r.val) / 8192, by omega⟩ := Fin.ext (by show t.val / 8 = (1024 * t.val + r.val) / 8192; omega)
  refine (out_apply _ _ _ _ _ _ _ _ _ _ r j).trans ?_
  have h0 : ∀ k : Fin 1024, iblk m c 0 t (ix2 r k) = _ := fun k => (read_0 t _ r k).trans (V_x m c _ k)
  have h1 : ∀ k : Fin 1024, iblk m c 1 t (ix2 r k) = _ := fun k => (read_1 t _ r k).trans (V_f m c _ k)
  have h2 : ∀ k : Fin 1024, iblk m c 2 t (ix2 r k) = _ := fun k => (read_2 t _ r k).trans (V_b m c _ k)
  have h3 : ∀ k : Fin 1024, iblk m c 3 t (ix2 r k) = _ := fun k => (read_3 t _ r k).trans (V_r m c _ k)
  have h4 : ∀ j : Fin 256, iblk m c 4 t (ix2 0 j) = _ := fun j => (read_4 t _ j).trans (V_head m c j)
  have h5 : ∀ i : Fin 6144, iblk m c 5 t (ix3 0 0 i) = _ := fun i => (read_5 t _ i).trans (V_md m c _ i)
  have h6 : ∀ k j : Fin 1024, iblk m c 6 t (ix2 k j) = _ := fun k j => (read_6 t _ k j).trans (V_wo m c k j)
  have h7 : ∀ j : Fin 1024, iblk m c 7 t (ix2 0 j) = _ := fun j => (read_7 t _ j).trans (V_gain m c j)
  have h8 : ∀ (k : Fin 1024) (i : Fin 5632), iblk m c 8 t (ix2 k i) = _ := fun k i => (read_8 t _ k i).trans (V_gu m c k i)
  have h9 : ∀ (n : Fin 2816) (j : Fin 1024), iblk m c 9 t (ix2 n j) = _ := fun n j => (read_9 t _ n j).trans (V_dn m c n j)
  unfold res stage
  simp only [h0, h1, h2, h3, h4, h5, h6, h7, h8, h9, e]
  rfl

/-- What a point writes back is its block of the array. -/
theorem flushed_eq : (dats m 0 c).flushed 10 t = (win0_10.blk t).view.read (Elt Ideal) (res m c) := by
  rw [Value.flushed10]
  funext y
  have e : y = ix2 (n0 := 1024) (n1 := 1024) (y 0) (y 1) := by
    funext a
    match a with
    | ⟨0, _⟩ => rfl
    | ⟨1, _⟩ => rfl
  rw [e]
  exact (block_at m c t (y 0) (y 1)).trans (read_10 t (res m c) (y 0) (y 1)).symm

/-- The blocks written back cover the array. -/
theorem cover (i : S65536x1024.Idx) : ∃ t : Fin cfg0.N, (cfg0.win 10).flush t = true ∧ i ∈ ((cfg0.win 10).blk t).view.set := by
  have h0 : (i 0 : Nat) < 65536 := (i 0).isLt
  have h1 : (i 1 : Nat) < 1024 := (i 1).isLt
  have hN : cfg0.N = 64 := by decide
  let t : Fin cfg0.N := ⟨(i 0).val / 1024, by rw [hN]; omega⟩
  have tv : t.val = (i 0).val / 1024 := rfl
  refine ⟨t, flush0_10 _, ?_⟩
  show i ∈ ((View.whole main_v13).slice (win0_10.rect t)).set
  rw [View.set_slice_whole, Rect.mem_set_unit]
  obtain ⟨i0, i1⟩ := index_10 t
  intro a
  match a with
  | ⟨0, _⟩ =>
    show win0_10.index t 0 * 1024 ≤ (i 0 : Nat) ∧ (i 0 : Nat) < win0_10.index t 0 * 1024 + 1024
    rw [i0, tv]; omega
  | ⟨1, _⟩ =>
    show win0_10.index t 1 * 1024 ≤ (i 1 : Nat) ∧ (i 1 : Nat) < win0_10.index t 1 * 1024 + 1024
    rw [i1]; omega

/-- The array after the launch. -/
theorem final : (dats m 0 c).arrAt 10 cfg0.N = res m c :=
  (dats m 0 c).arrAt_eq_of_cover 10 (res m c) (fun t _ => flushed_eq m c t) cover

/-- The run: the result array at the stage of the arguments, the arguments unchanged. -/
theorem run : θ_run defs (onTc (τ := τ) (main (F := Ideal))) ⟨m, fun _ => 0, ρ⟩ fun r => ∀ c : Dev nD,
      r.2.mem ((c.tc : Thread nD τ).loc main_v13) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (final m c), (h c).2⟩) (Value.run_blocks m ρ)

end Cert.Kernel3Ideal.Hand

end
-- ==== Proof.Gla.Ref.lean ====
/- The reference's stage after the gated linear attention: the gated rows, then the stage of the attention layers. -/
module

public import proofs.«01_k».proof.Proof.Gen.Reference3Ideal.Run
public import proofs.«01_k».proof.Proof.Gla.Spec
public import proofs.«01_k».proof.Proof.Post.Ref

@[expose] public section

set_option maxRecDepth 16384

noncomputable section

namespace Cert.Reference3Ideal.Hand

open Cert.Reference3Ideal Cert.Reference3Ideal.Gen Cert.Reference3Ideal.Value Cert.GlaSpec
open Idealize.ShloMosaic Idealize.ShloMosaic.TcCoe Idealize.ShloMosaic.Tactic

/-- The two sweeps' sum, by heads. -/
def sumH (f b : FVec Ideal S8x8192x1024 .f32) : FVec Ideal S8x8192x4x256 .f32 := shapeCast _ (addf f b) shapeCasts_S8x8192x1024_S8x8192x4x256

/-- The heads normalised, times the gain. -/
def normH (s : FVec Ideal S8x8192x4x256 .f32) (gain : FVec Ideal S256 .f32) : FVec Ideal S8x8192x4x256 .f32 :=
  mulf (mulf s (broadcastInDim S8x8192x4x256 ![0, 1, 2, 3] bcast_S8x8192x4x1_S8x8192x4x256_0_1_2_3
    (Host.rsqrt (addf (Host.divf (broadcastInDim S8x8192x4x1 ![0, 1, 2] bcast_S8x8192x4_S8x8192x4x1_0_1_2
      (Host.reduceAdd (mulf s s) (constant S_ .f32 0x00000000#32) reducesTo_S8x8192x4x256_S8x8192x4_d3 h_S_))
      (broadcastInDim S8x8192x4x1 ![] bcast_S_S8x8192x4x1 (constant S_ .f32 0x43800000#32)))
      (broadcastInDim S8x8192x4x1 ![] bcast_S_S8x8192x4x1 (constant S_ .f32 0x358637BD#32))))))
    (broadcastInDim S8x8192x4x256 ![0, 1, 2, 3] bcast_S1x1x1x256_S8x8192x4x256_0_1_2_3 (broadcastInDim S1x1x1x256 ![3] bcast_S256_S1x1x1x256_3 gain))

/-- The rows times the gate's activation. -/
def gateH (o : FVec Ideal S8x8192x4x256 .f32) (r : FVec Ideal S8x8192x1024 .f32) : FVec Ideal S8x8192x1024 .f32 :=
  mulf (shapeCast _ o shapeCasts_S8x8192x4x256_S8x8192x1024) (mulf r (Host.divf (broadcastInDim S8x8192x1024 ![] bcast_S_S8x8192x1024 (constant S_ .f32 0x3F800000#32))
    (addf (broadcastInDim S8x8192x1024 ![] bcast_S_S8x8192x1024 (constant S_ .f32 0x3F800000#32)) (Host.exp (Host.negf r)))))

/-- The gated rows. -/
def mixH (f b r : FVec Ideal S8x8192x1024 .f32) (gain : FVec Ideal S256 .f32) : FVec Ideal S8x8192x1024 .f32 := gateH (normH (sumH f b) gain) r

variable (m : (ℓ : Loc nD τ sig) → Buf (Elt Ideal) ℓ)

/-- The reference's result, by its steps. -/
theorem res_eq (c : Dev nD) : res_main_v57 m c = Cert.Reference2Ideal.Hand.postH (m ((c : Thread nD τ).loc main_arg0))
    (mixH (m ((c : Thread nD τ).loc main_arg1)) (m ((c : Thread nD τ).loc main_arg2)) (m ((c : Thread nD τ).loc main_arg3)) (m ((c : Thread nD τ).loc main_arg5)))
    (m ((c : Thread nD τ).loc main_arg4)) (m ((c : Thread nD τ).loc main_arg6)) (m ((c : Thread nD τ).loc main_arg7))
    (m ((c : Thread nD τ).loc main_arg8)) (m ((c : Thread nD τ).loc main_arg9)) := by
  unfold res_main_v57 mixH gateH normH sumH Cert.Reference2Ideal.Hand.postH Cert.Reference2Ideal.Hand.rH Cert.Reference2Ideal.Hand.uH
    Cert.Reference2Ideal.Hand.guH Cert.Reference2Ideal.Hand.hH Cert.Reference2Ideal.Hand.xH Cert.Reference2Ideal.Hand.mdH
  rfl

theorem sumH_apply (f b : FVec Ideal S8x8192x1024 .f32) (p : Fin 8) (t : Fin 8192) (h : Fin 4) (n : Fin 256) :
    sumH f b (ix4 p t h n) = f (ix3 p t ⟨h.val * 256 + n.val, by omega⟩) + b (ix3 p t ⟨h.val * 256 + n.val, by omega⟩) := by
  pointwise [sumH]

theorem normH_apply (s : FVec Ideal S8x8192x4x256 .f32) (gain : FVec Ideal S256 .f32) (p : Fin 8) (t : Fin 8192) (h : Fin 4) (n : Fin 256) :
    normH s gain (ix4 p t h n) = normed (s (ix4 p t h n)) (fun k => s (ix4 p t h k)) (gain (ix1 n)) := by
  unfold normed
  pointwise [normH]

theorem gateH_apply (o : FVec Ideal S8x8192x4x256 .f32) (r : FVec Ideal S8x8192x1024 .f32) (p : Fin 8) (t : Fin 8192) (j : Fin 1024) :
    gateH o r (ix3 p t j) = o (ix4 p t ⟨j.val / 256, by omega⟩ ⟨j.val % 256, by omega⟩) * silu (r (ix3 p t j)) := by
  unfold silu
  pointwise [gateH]

theorem mixH_apply (f b r : FVec Ideal S8x8192x1024 .f32) (gain : FVec Ideal S256 .f32) (p : Fin 8) (t : Fin 8192) (j : Fin 1024) :
    mixH f b r gain (ix3 p t j) = mixture (fun k => f (ix3 p t k)) (fun k => b (ix3 p t k)) (fun k => r (ix3 p t k)) (fun k => gain (ix1 k)) j := by
  have e : (⟨j.val / 256 * 256 + j.val % 256, by omega⟩ : Fin 1024) = j := Fin.ext (by show j.val / 256 * 256 + j.val % 256 = j.val; omega)
  unfold mixH mixture
  simp only [gateH_apply, normH_apply, sumH_apply, e, Nat.mul_comm 256]

/-- A row of the reference's result. -/
theorem ref_apply (a0 : FVec Ideal S8x8192x1024 .f32) (f b r : FVec Ideal S8x8192x1024 .f32) (gain : FVec Ideal S256 .f32) (a2 : FVec Ideal S8x6144 .f32) (a3 : FVec Ideal S1024x1024 .f32) (a4 : FVec Ideal S1024 .f32)
    (a5 : FVec Ideal S1024x5632 .f32) (a6 : FVec Ideal S2816x1024 .f32) (n : Fin 65536) (j : Fin 1024) :
    Cert.Reference2Ideal.Hand.postH a0 (mixH f b r gain) a2 a3 a4 a5 a6 (ix2 n j) = Cert.PostSpec.post (fun k => a0 (ix3 ⟨n.val / 8192, by omega⟩ ⟨n.val % 8192, by omega⟩ k))
      (mixture (fun k => f (ix3 ⟨n.val / 8192, by omega⟩ ⟨n.val % 8192, by omega⟩ k)) (fun k => b (ix3 ⟨n.val / 8192, by omega⟩ ⟨n.val % 8192, by omega⟩ k))
        (fun k => r (ix3 ⟨n.val / 8192, by omega⟩ ⟨n.val % 8192, by omega⟩ k)) (fun k => gain (ix1 k)))
      (fun i => a2 (ix2 ⟨n.val / 8192, by omega⟩ i)) (fun k j => a3 (ix2 k j))
      (fun j => a4 (ix1 j)) (fun k i => a5 (ix2 k i)) (fun n j => a6 (ix2 n j)) j := by
  refine (Cert.Reference2Ideal.Hand.postH_apply _ _ _ _ _ _ _ n j).trans ?_
  simp only [mixH_apply]

end Cert.Reference3Ideal.Hand

end
-- ==== Proof.lean ====
/- The differential attention of the layer, the stage that follows it, the output stage of the gated linear attention and the
   grouped-query attention: for each the frames of the kernel, of its
   idealization and of the reference, the rewrites between the kernel and its idealization, and the equality of the two
   results over the extended reals. Each is proved in a module of its own under Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Raw.Run
public import proofs.«01_k».proof.Proof.Gen.Pre_finite
public import proofs.«01_k».proof.Proof.Array
public import proofs.«01_k».proof.Proof.RefEq
public import proofs.«01_k».proof.Proof.Gen.Kernel2
public import proofs.«01_k».proof.Proof.Gen.Kernel2.Value
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Value
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4.Frame
public import proofs.«01_k».proof.Proof.Gen.Kernel4.Skeleton
public import proofs.«01_k».proof.Proof.Gen.Kernel4Ideal.Frame
public import proofs.«01_k».proof.Proof.Gen.Kernel4Ideal.Skeleton
public import proofs.«01_k».proof.Proof.Gen.Reference4Ideal
public import proofs.«01_k».proof.Proof.Gen.Reference4Ideal.Run
public import proofs.«01_k».proof.Proof.Gen.Pre_finite4
public import proofs.«01_k».proof.Proof.Post.Array
public import proofs.«01_k».proof.Proof.Post.Ref
public import proofs.«01_k».proof.Proof.Gqa.Run
public import proofs.«01_k».proof.Proof.Gqa.Raw.Run
public import proofs.«01_k».proof.Proof.Gqa.Array
public import proofs.«01_k».proof.Proof.Gqa.RefEq
public import proofs.«01_k».proof.Proof.Gla.Array
public import proofs.«01_k».proof.Proof.Gla.Ref
public import Idealize.ShloMosaic.Adequacy
public import Idealize.ShloMosaic.Init

@[expose] public section

noncomputable section

namespace Cert.Proof

open Idealize.ShloMosaic Idealize.ShloMosaic.Tactic Idealize.SL.Sem

/-- The kernel terminates, keeps its arguments and leaves every semaphore counter at zero. -/
theorem frame_p : Cert.quiescent_Kernel := fun m ρ _ => Cert.Kernel.Hand.frame m ρ

/-- The idealized kernel terminates, keeps its arguments and leaves every semaphore counter at zero. -/
theorem frame_pi : Cert.quiescent_KernelIdeal := fun m ρ _ => Cert.KernelIdeal.Hand.frame m ρ

/-- The reference terminates, keeps its arguments and leaves every semaphore counter at zero: it declares none. -/
theorem frame_ri : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The one constant named in the idealization: the softmax scale `1 / 8` over the logarithm of two. -/
theorem preserves : Cert.preserves_Kernel_KernelIdeal :=
  IdealRules.named_const.statement _ _ _ _ _ rfl

/-- On real arguments the idealized kernel and the reference both leave the differential attention of the arguments. -/
theorem algebraic : Cert.algebraic_KernelIdeal_ReferenceIdeal_pre_finite := by
  intro m g m' g' hp hag
  have hf : ∀ c, Cert.KernelIdeal.Hand.Fin' m c := fun c =>
    Cert.Finite.args_of_fn _ _ _ _ _ _ _ _ _ _ _ _ (fun a => a.elim0) (congrFun (hp c) _)
  refine ⟨Cert.KernelIdeal.Hand.res m, Cert.KernelIdeal.Hand.run m g hf,
    (θ_run Cert.ReferenceIdeal.defs _ _).mono (fun r h c => ⟨(h c).1.trans ?_, (h c).2⟩) (Cert.ReferenceIdeal.Value.run (F := Ideal) m' g')⟩
  obtain ⟨e0, e1, e2, e3, e4, e5, e6, e7, e8, e9, e10, e11⟩ := hag c
  rw [Cert.ReferenceIdeal.Hand.res_eq, e0, e1, e2, e3, e4, e7, e8, e9, e10, e11]
  exact Cert.ReferenceIdeal.Hand.ref_out (hf c) _

/-- The last stage's reference terminates, keeps its arguments and leaves every semaphore counter at zero: it declares none. -/
theorem frame_ri2 : Cert.quiescent_Reference2Ideal := by
  intro m ρ _
  exact (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The idealized last stage and its reference leave the same array: every row is the stage of the arguments' row. -/
theorem algebraic2 : Cert.algebraic_Kernel2Ideal_Reference2Ideal := by
  intro m g m' g' _ hag
  refine ⟨Cert.Kernel2Ideal.Hand.res m, Cert.Kernel2Ideal.Hand.run m g,
    (θ_run Cert.Reference2Ideal.defs _ _).mono (fun r h c => ⟨(h c).1.trans ?_, (h c).2⟩) (Cert.Reference2Ideal.Value.run (F := Ideal) m' g')⟩
  obtain ⟨e0, e1, e2, e3, e4, e5, e6⟩ := hag c
  rw [Cert.Reference2Ideal.Hand.res_eq, e0, e1, e2, e3, e4, e5, e6]
  have key : ∀ (n : Fin 65536) (j : Fin 1024), Cert.Reference2Ideal.Hand.postH _ _ _ _ _ _ _ (ix2 n j) = Cert.Kernel2Ideal.Hand.res m c (ix2 n j) :=
    fun n j => Cert.Reference2Ideal.Hand.postH_apply _ _ _ _ _ _ _ n j
  funext y
  have e : y = ix2 (n0 := 65536) (n1 := 1024) (y 0) (y 1) := by
    funext a
    match a with
    | ⟨0, _⟩ => rfl
    | ⟨1, _⟩ => rfl
  rw [e]
  exact key _ _

/-- The output stage's reference of the gated linear attention terminates, keeps its arguments and leaves every semaphore counter
    at zero: it declares none. -/
theorem frame_ri3 : Cert.quiescent_Reference3Ideal := by
  intro m ρ _
  exact (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The idealized output stage of the gated linear attention and its reference leave the same array: every row is the stage of
    the arguments' row. -/
theorem algebraic3 : Cert.algebraic_Kernel3Ideal_Reference3Ideal := by
  intro m g m' g' _ hag
  refine ⟨Cert.Kernel3Ideal.Hand.res m, Cert.Kernel3Ideal.Hand.run m g,
    (θ_run Cert.Reference3Ideal.defs _ _).mono (fun r h c => ⟨(h c).1.trans ?_, (h c).2⟩) (Cert.Reference3Ideal.Value.run (F := Ideal) m' g')⟩
  obtain ⟨e0, e1, e2, e3, e4, e5, e6, e7, e8, e9⟩ := hag c
  rw [Cert.Reference3Ideal.Hand.res_eq, e0, e1, e2, e3, e4, e5, e6, e7, e8, e9]
  have key : ∀ (n : Fin 65536) (j : Fin 1024), Cert.Reference2Ideal.Hand.postH _ (Cert.Reference3Ideal.Hand.mixH _ _ _ _) _ _ _ _ _ (ix2 n j) = Cert.Kernel3Ideal.Hand.res m c (ix2 n j) :=
    fun n j => Cert.Reference3Ideal.Hand.ref_apply _ _ _ _ _ _ _ _ _ _ n j
  funext y
  have e : y = ix2 (n0 := 65536) (n1 := 1024) (y 0) (y 1) := by
    funext a
    match a with
    | ⟨0, _⟩ => rfl
    | ⟨1, _⟩ => rfl
  rw [e]
  exact key _ _

/-- The grouped-query attention's reference terminates, keeps its arguments and leaves every semaphore counter at zero: it
    declares none. -/
theorem frame_ri4 : Cert.quiescent_Reference4Ideal := by
  intro m ρ _
  exact (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The one constant named in the grouped-query attention's idealization: the softmax scale over the logarithm of two. -/
theorem preserves4 : Cert.preserves_Kernel4_Kernel4Ideal :=
  IdealRules.named_const.statement _ _ _ _ _ rfl

/-- On real arguments the idealized kernel and the reference both leave the grouped-query attention of the arguments. -/
theorem algebraic4 : Cert.algebraic_Kernel4Ideal_Reference4Ideal_pre_finite4 := by
  intro m g m' g' hp hag
  have hf : ∀ c, Cert.Kernel4Ideal.Hand.Fin' m c := fun c =>
    Cert.Gqa.args_of_fn _ _ _ _ _ _ _ (fun a => a.elim0) (congrFun (hp c) _)
  refine ⟨Cert.Kernel4Ideal.Hand.res m, Cert.Kernel4Ideal.Hand.run m g hf,
    (θ_run Cert.Reference4Ideal.defs _ _).mono (fun r h c => ⟨(h c).1.trans ?_, (h c).2⟩) (Cert.Reference4Ideal.Value.run (F := Ideal) m' g')⟩
  obtain ⟨e0, e1, e2, e3, e4, e5, e6⟩ := hag c
  rw [Cert.Reference4Ideal.Hand.res_eq, e0, e1, e2, e3, e4]
  exact Cert.Reference4Ideal.Hand.ref_out (hf c)

/-- The certificate's claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts, Cert.Pre_finite4.Gen.facts,
  frame_p, frame_pi, fun m ρ _ => Cert.KernelIdeal.Hand.frame m ρ, frame_ri, fun m ρ _ => frame_ri m ρ trivial,
  fun m ρ _ => Cert.Kernel2.Gen.frame m ρ, fun m ρ _ => Cert.Kernel2Ideal.Gen.frame m ρ, frame_ri2,
  fun m ρ _ => Cert.Kernel3.Gen.frame m ρ, fun m ρ _ => Cert.Kernel3Ideal.Gen.frame m ρ, frame_ri3,
  fun m ρ _ => Cert.Kernel4.Hand.frame m ρ, fun m ρ _ => Cert.Kernel4Ideal.Hand.frame m ρ, fun m ρ _ => Cert.Kernel4Ideal.Hand.frame m ρ,
  frame_ri4, fun m ρ _ => frame_ri4 m ρ trivial,
  preserves, algebraic, trivial, algebraic2, trivial, algebraic3, preserves4, algebraic4⟩

end Cert.Proof

end
